-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v56_5) = v3 c
          ∧ r.2.mem ((c.tc : Thread Cert.ReferenceIdeal.nD Cert.ReferenceIdeal.τ).loc Cert.ReferenceIdeal.main_v56_7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S20000x4 : Shape := ⟨2, ![20000, 4]⟩
abbrev S20000 : Shape := ⟨1, ![20000]⟩
abbrev S20000x28x28 : Shape := ⟨3, ![20000, 28, 28]⟩
abbrev S100x4 : Shape := ⟨2, ![100, 4]⟩
abbrev S20000x784 : Shape := ⟨2, ![20000, 784]⟩
abbrev S_ : Shape := ⟨0, ![]⟩
abbrev S20480x4 : Shape := ⟨2, ![20480, 4]⟩
abbrev S4x20480 : Shape := ⟨2, ![4, 20480]⟩
abbrev S20480 : Shape := ⟨1, ![20480]⟩
abbrev S1x20480 : Shape := ⟨2, ![1, 20480]⟩
abbrev S100x784 : Shape := ⟨2, ![100, 784]⟩
abbrev S100x1 : Shape := ⟨2, ![100, 1]⟩
abbrev S100x28x28 : Shape := ⟨3, ![100, 28, 28]⟩
abbrev S100 : Shape := ⟨1, ![100]⟩
abbrev S1x20000 : Shape := ⟨2, ![1, 20000]⟩
abbrev S100x20480 : Shape := ⟨2, ![100, 20480]⟩
abbrev S1x100 : Shape := ⟨2, ![1, 100]⟩
abbrev S1x4 : Shape := ⟨2, ![1, 4]⟩
abbrev S1x1 : Shape := ⟨2, ![1, 1]⟩
abbrev S1x1024 : Shape := ⟨2, ![1, 1024]⟩
abbrev S100x1024 : Shape := ⟨2, ![100, 1024]⟩
abbrev S32x1024 : Shape := ⟨2, ![32, 1024]⟩
abbrev S1024 : Shape := ⟨1, ![1024]⟩
abbrev S4x1024 : Shape := ⟨2, ![4, 1024]⟩
abbrev S1x1x20480 : Shape := ⟨3, ![1, 1, 20480]⟩
abbrev S1 : Shape := ⟨1, ![1]⟩
abbrev S1x1x1 : Shape := ⟨3, ![1, 1, 1]⟩
abbrev S1x128 : Shape := ⟨2, ![1, 128]⟩
abbrev S100x128 : Shape := ⟨2, ![100, 128]⟩
abbrev S1x1x128 : Shape := ⟨3, ![1, 1, 128]⟩
abbrev S1x100x1 : Shape := ⟨3, ![1, 100, 1]⟩
abbrev S1x784 : Shape := ⟨2, ![1, 784]⟩

abbrev nBuf : Space → Nat
  | .hbm => 29
  | .vmem => 13
  | .smem => 2
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .f32⟩
  | .hbm, ⟨3, _⟩ => ⟨S20000x28x28, .f32⟩
  | .hbm, ⟨4, _⟩ => ⟨S100x4, .f32⟩
  | .hbm, ⟨5, _⟩ => ⟨S20000x784, .f32⟩
  | .hbm, ⟨6, _⟩ => ⟨S_, .i32⟩
  | .hbm, ⟨7, _⟩ => ⟨S_, .f32⟩
  | .hbm, ⟨8, _⟩ => ⟨S20480x4, .f32⟩
  | .hbm, ⟨9, _⟩ => ⟨S4x20480, .f32⟩
  | .hbm, ⟨10, _⟩ => ⟨S_, .f32⟩
  | .hbm, ⟨11, _⟩ => ⟨S_, .f32⟩
  | .hbm, ⟨12, _⟩ => ⟨S20480, .f32⟩
  | .hbm, ⟨13, _⟩ => ⟨S1x20480, .f32⟩
  | .hbm, ⟨14, _⟩ => ⟨S_, .i32⟩
  | .hbm, ⟨15, _⟩ => ⟨S_, .f32⟩
  | .hbm, ⟨16, _⟩ => ⟨S20480, .f32⟩
  | .hbm, ⟨17, _⟩ => ⟨S1x20480, .f32⟩
  | .hbm, ⟨18, _⟩ => ⟨S100x784, .f32⟩
  | .hbm, ⟨19, _⟩ => ⟨S100x1, .f32⟩
  | .hbm, ⟨20, _⟩ => ⟨S100x1, .f32⟩
  | .hbm, ⟨21, _⟩ => ⟨S1x20480, .i32⟩
  | .hbm, ⟨22, _⟩ => ⟨S100x1, .f32⟩
  | .hbm, ⟨23, _⟩ => ⟨S100x28x28, .f32⟩
  | .hbm, ⟨24, _⟩ => ⟨S100, .f32⟩
  | .hbm, ⟨25, _⟩ => ⟨S100, .f32⟩
  | .hbm, ⟨26, _⟩ => ⟨S1x20000, .i32⟩
  | .hbm, ⟨27, _⟩ => ⟨S20000, .i32⟩
  | .hbm, ⟨28, _⟩ => ⟨S100, .f32⟩
  | .local _ .vmem, ⟨0, _⟩ => ⟨S4x20480, .f32⟩
  | .local _ .vmem, ⟨1, _⟩ => ⟨S100x4, .f32⟩
  | .local _ .vmem, ⟨2, _⟩ => ⟨S1x20480, .f32⟩
  | .local _ .vmem, ⟨3, _⟩ => ⟨S1x20480, .f32⟩
  | .local _ .vmem, ⟨4, _⟩ => ⟨S100x784, .f32⟩
  | .local _ .vmem, ⟨5, _⟩ => ⟨S100x1, .f32⟩
  | .local _ .vmem, ⟨6, _⟩ => ⟨S100x1, .f32⟩
  | .local _ .vmem, ⟨7, _⟩ => ⟨S1x20480, .i32⟩
  | .local _ .vmem, ⟨8, _⟩ => ⟨S100x1, .f32⟩
  | .local _ .vmem, ⟨9, _⟩ => ⟨S100x20480, .f32⟩
  | .local _ .vmem, ⟨10, _⟩ => ⟨S1x20480, .f32⟩
  | .local _ .vmem, ⟨11, _⟩ => ⟨S100x1, .i32⟩
  | .local _ .vmem, ⟨12, _⟩ => ⟨S4x20480, .i32⟩
  | .local _ .smem, ⟨0, _⟩ => ⟨S1x100, .i32⟩
  | .local _ .smem, ⟨1, _⟩ => ⟨S1x4, .i32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_call1_v0 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_call2_v0 : Ref sig .tc := ⟨.hbm, 15, rfl⟩
abbrev main_call0_v5 : Ref sig .tc := ⟨.hbm, 16, rfl⟩
abbrev main_call0_v6 : Ref sig .tc := ⟨.hbm, 17, rfl⟩
abbrev main_call0_v7_0 : Ref sig .tc := ⟨.hbm, 18, rfl⟩
abbrev main_call0_v7_1 : Ref sig .tc := ⟨.hbm, 19, rfl⟩
abbrev main_call0_v7_2 : Ref sig .tc := ⟨.hbm, 20, rfl⟩
abbrev main_call0_v7_3 : Ref sig .tc := ⟨.hbm, 21, rfl⟩
abbrev main_call0_v7_4 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_call0_v11 : Ref sig .tc := ⟨.hbm, 26, rfl⟩
abbrev main_v0_3 : Ref sig .tc := ⟨.hbm, 27, rfl⟩
abbrev main_v0_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch4 : Ref sig .tc := ⟨.vmem, 12, rfl⟩
abbrev cc0_scratch3 : Ref sig .tc := ⟨.smem, 0, rfl⟩
abbrev cc0_scratch5 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_803 : BitVec 32 := 0#32
  let c101_i32 : BitVec 32 := 101#32
  let v1571 : BitVec 32 := Scalar.addi c0_i32_803 c101_i32
  let c1_i32_804 : BitVec 32 := 1#32
  ⟨c0_i32_803, v1571, c1_i32_804⟩
def k0_mult1 (v3511 : BitVec 32) : BitVec 32 :=
  let c0_i32_2533 : BitVec 32 := 0#32
  let v3513 : BitVec 1 := Scalar.cmpi .sgt v3511 c0_i32_2533
  let v3514 : BitVec 32 := Scalar.extui v3513
  let c0_i32_2534 : BitVec 32 := 0#32
  let v3515 : BitVec 1 := Scalar.cmpi .slt v3511 c0_i32_2534
  let v3516 : BitVec 32 := Scalar.extui v3515
  let v3517 : BitVec 32 := Scalar.subi v3514 v3516
  let c128_i32 : BitVec 32 := 128#32
  let c0_i32_2535 : BitVec 32 := 0#32
  let v3518 : BitVec 1 := Scalar.cmpi .sgt c128_i32 c0_i32_2535
  let v3519 : BitVec 32 := Scalar.extui v3518
  let c0_i32_2536 : BitVec 32 := 0#32
  let v3520 : BitVec 1 := Scalar.cmpi .slt c128_i32 c0_i32_2536
  let v3521 : BitVec 32 := Scalar.extui v3520
  let v3522 : BitVec 32 := Scalar.subi v3519 v3521
  let v3523 : BitVec 1 := Scalar.cmpi .ne v3517 v3522
  let v3524 : BitVec 32 := Scalar.remsi v3511 c128_i32
  let c0_i32_2537 : BitVec 32 := 0#32
  let v3525 : BitVec 1 := Scalar.cmpi .ne v3524 c0_i32_2537
  let v3526 : BitVec 1 := Scalar.andi v3523 v3525
  let v3512 : BitVec 32 := Scalar.divsi v3511 c128_i32
  let c1_i32_2538 : BitVec 32 := 1#32
  let v3527 : BitVec 32 := Scalar.subi v3512 c1_i32_2538
  let v3528 : BitVec 32 := Scalar.select v3526 v3527 v3512
  let c128_i32_2539 : BitVec 32 := 128#32
  let v3529 : BitVec 32 := Scalar.muli v3528 c128_i32_2539
  v3529
def k0_cond1 (v3500 : BitVec 1) : BitVec 1 :=
  let v3501 : BitVec 32 := Scalar.extui v3500
  let c0_i32_2531 : BitVec 32 := 0#32
  let v3502 : BitVec 1 := Scalar.cmpi .ne v3501 c0_i32_2531
  v3502

def k0_off1 (v3511 : BitVec 32) : Fin 2 → Nat :=
  let c0_2540 : Index := 0#32
  let c0_i32_2533 : BitVec 32 := 0#32
  let v3513 : BitVec 1 := Scalar.cmpi .sgt v3511 c0_i32_2533
  let v3514 : BitVec 32 := Scalar.extui v3513
  let c0_i32_2534 : BitVec 32 := 0#32
  let v3515 : BitVec 1 := Scalar.cmpi .slt v3511 c0_i32_2534
  let v3516 : BitVec 32 := Scalar.extui v3515
  let v3517 : BitVec 32 := Scalar.subi v3514 v3516
  let c128_i32 : BitVec 32 := 128#32
  let c0_i32_2535 : BitVec 32 := 0#32
  let v3518 : BitVec 1 := Scalar.cmpi .sgt c128_i32 c0_i32_2535
  let v3519 : BitVec 32 := Scalar.extui v3518
  let c0_i32_2536 : BitVec 32 := 0#32
  let v3520 : BitVec 1 := Scalar.cmpi .slt c128_i32 c0_i32_2536
  let v3521 : BitVec 32 := Scalar.extui v3520
  let v3522 : BitVec 32 := Scalar.subi v3519 v3521
  let v3523 : BitVec 1 := Scalar.cmpi .ne v3517 v3522
  let v3524 : BitVec 32 := Scalar.remsi v3511 c128_i32
  let c0_i32_2537 : BitVec 32 := 0#32
  let v3525 : BitVec 1 := Scalar.cmpi .ne v3524 c0_i32_2537
  let v3526 : BitVec 1 := Scalar.andi v3523 v3525
  let v3512 : BitVec 32 := Scalar.divsi v3511 c128_i32
  let c1_i32_2538 : BitVec 32 := 1#32
  let v3527 : BitVec 32 := Scalar.subi v3512 c1_i32_2538
  let v3528 : BitVec 32 := Scalar.select v3526 v3527 v3512
  let c128_i32_2539 : BitVec 32 := 128#32
  let v3529 : BitVec 32 := Scalar.muli v3528 c128_i32_2539
  let v3530 : BitVec 32 := v3529
  let v3535 : Index := Scalar.indexCast v3530
  ![0, v3535.toNat]
def k0_off2 (v3511 : BitVec 32) : Fin 2 → Nat :=
  let c0_2543 : Index := 0#32
  let c0_i32_2533 : BitVec 32 := 0#32
  let v3513 : BitVec 1 := Scalar.cmpi .sgt v3511 c0_i32_2533
  let v3514 : BitVec 32 := Scalar.extui v3513
  let c0_i32_2534 : BitVec 32 := 0#32
  let v3515 : BitVec 1 := Scalar.cmpi .slt v3511 c0_i32_2534
  let v3516 : BitVec 32 := Scalar.extui v3515
  let v3517 : BitVec 32 := Scalar.subi v3514 v3516
  let c128_i32 : BitVec 32 := 128#32
  let c0_i32_2535 : BitVec 32 := 0#32
  let v3518 : BitVec 1 := Scalar.cmpi .sgt c128_i32 c0_i32_2535
  let v3519 : BitVec 32 := Scalar.extui v3518
  let c0_i32_2536 : BitVec 32 := 0#32
  let v3520 : BitVec 1 := Scalar.cmpi .slt c128_i32 c0_i32_2536
  let v3521 : BitVec 32 := Scalar.extui v3520
  let v3522 : BitVec 32 := Scalar.subi v3519 v3521
  let v3523 : BitVec 1 := Scalar.cmpi .ne v3517 v3522
  let v3524 : BitVec 32 := Scalar.remsi v3511 c128_i32
  let c0_i32_2537 : BitVec 32 := 0#32
  let v3525 : BitVec 1 := Scalar.cmpi .ne v3524 c0_i32_2537
  let v3526 : BitVec 1 := Scalar.andi v3523 v3525
  let v3512 : BitVec 32 := Scalar.divsi v3511 c128_i32
  let c1_i32_2538 : BitVec 32 := 1#32
  let v3527 : BitVec 32 := Scalar.subi v3512 c1_i32_2538
  let v3528 : BitVec 32 := Scalar.select v3526 v3527 v3512
  let c128_i32_2539 : BitVec 32 := 128#32
  let v3529 : BitVec 32 := Scalar.muli v3528 c128_i32_2539
  let v3530 : BitVec 32 := v3529
  let v3543 : Index := Scalar.indexCast v3530
  ![0, v3543.toNat]

def k0_chk1 (v3500 : BitVec 1) (v3511 : BitVec 32) : Prop :=
  (∀ (k0_h1 : k0_cond1 v3500 = 1#1), 128 ∣ (k0_mult1 v3511).toNat) ∧
  (∀ (k0_h1 : k0_cond1 v3500 = 1#1), ∀ a, (k0_off1 v3511) a + S100x128.size a ≤ S100x20480.size a) ∧
  (∀ (k0_h1 : k0_cond1 v3500 = 1#1), ∀ a, (k0_off2 v3511) a + S1x128.size a ≤ S1x20480.size a)
theorem k0_mult1_dvd : ∀ (v3500 : BitVec 1) (v3511 : BitVec 32) (k0_hw1 : k0_chk1 v3500 v3511), ∀ (k0_h1 : k0_cond1 v3500 = 1#1), 128 ∣ (k0_mult1 v3511).toNat := fun v3500 v3511 k0_hw1 k0_h1 => k0_hw1.1 k0_h1
theorem k0_off1_inb : ∀ (v3500 : BitVec 1) (v3511 : BitVec 32) (k0_hw1 : k0_chk1 v3500 v3511), ∀ (k0_h1 : k0_cond1 v3500 = 1#1), ∀ a, (k0_off1 v3511) a + S100x128.size a ≤ S100x20480.size a := fun v3500 v3511 k0_hw1 k0_h1 => k0_hw1.2.1 k0_h1
theorem k0_off2_inb : ∀ (v3500 : BitVec 1) (v3511 : BitVec 32) (k0_hw1 : k0_chk1 v3500 v3511), ∀ (k0_h1 : k0_cond1 v3500 = 1#1), ∀ a, (k0_off2 v3511) a + S1x128.size a ≤ S1x20480.size a := fun v3500 v3511 k0_hw1 k0_h1 => k0_hw1.2.2 k0_h1

def k0_off3 (v3569 : BitVec 32) : Fin 2 → Nat :=
  let c0_2562 : Index := 0#32
  let v3593 : Index := Scalar.indexCast v3569
  ![0, v3593.toNat]

def k0_off4 (v3569 : BitVec 32) : Fin 2 → Nat :=
  let c0_2590 : Index := 0#32
  let c0_i32_2578 : BitVec 32 := 0#32
  let v3614 : BitVec 1 := Scalar.cmpi .sgt v3569 c0_i32_2578
  let v3615 : BitVec 32 := Scalar.extui v3614
  let c0_i32_2579 : BitVec 32 := 0#32
  let v3616 : BitVec 1 := Scalar.cmpi .slt v3569 c0_i32_2579
  let v3617 : BitVec 32 := Scalar.extui v3616
  let v3618 : BitVec 32 := Scalar.subi v3615 v3617
  let c32_i32_2577 : BitVec 32 := 32#32
  let c0_i32_2580 : BitVec 32 := 0#32
  let v3619 : BitVec 1 := Scalar.cmpi .sgt c32_i32_2577 c0_i32_2580
  let v3620 : BitVec 32 := Scalar.extui v3619
  let c0_i32_2581 : BitVec 32 := 0#32
  let v3621 : BitVec 1 := Scalar.cmpi .slt c32_i32_2577 c0_i32_2581
  let v3622 : BitVec 32 := Scalar.extui v3621
  let v3623 : BitVec 32 := Scalar.subi v3620 v3622
  let v3624 : BitVec 1 := Scalar.cmpi .ne v3618 v3623
  let v3625 : BitVec 32 := Scalar.remsi v3569 c32_i32_2577
  let c0_i32_2582 : BitVec 32 := 0#32
  let v3626 : BitVec 1 := Scalar.cmpi .ne v3625 c0_i32_2582
  let v3627 : BitVec 1 := Scalar.andi v3624 v3626
  let v3613 : BitVec 32 := Scalar.divsi v3569 c32_i32_2577
  let c1_i32_2583 : BitVec 32 := 1#32
  let v3628 : BitVec 32 := Scalar.subi v3613 c1_i32_2583
  let v3629 : BitVec 32 := Scalar.select v3627 v3628 v3613
  let v3640 : Index := Scalar.indexCast v3629
  ![0, v3640.toNat]
def k0_cond2 (v3511 : BitVec 32) : BitVec 1 :=
  let c0_i32_2563 : BitVec 32 := 0#32
  let v3595 : BitVec 1 := Scalar.cmpi .sgt v3511 c0_i32_2563
  let v3596 : BitVec 32 := Scalar.extui v3595
  let c0_i32_2564 : BitVec 32 := 0#32
  let v3597 : BitVec 1 := Scalar.cmpi .ne v3596 c0_i32_2564
  v3597

def k0_chk2 (v3500 : BitVec 1) (v3511 : BitVec 32) (v3569 : BitVec 32) : Prop :=
  (∀ (k0_h1 : k0_cond1 v3500 = 1#1), ∀ a, (k0_off3 v3569) a + S1x1.size a ≤ S1x100.size a) ∧
  (∀ (k0_h1 : k0_cond1 v3500 = 1#1), ∀ (k0_h2 : k0_cond2 v3511 = 1#1), ∀ a, (k0_off4 v3569) a + S1x1.size a ≤ S1x4.size a)
theorem k0_off3_inb : ∀ (v3500 : BitVec 1) (v3511 : BitVec 32) (v3569 : BitVec 32) (k0_hw2 : k0_chk2 v3500 v3511 v3569), ∀ (k0_h1 : k0_cond1 v3500 = 1#1), ∀ a, (k0_off3 v3569) a + S1x1.size a ≤ S1x100.size a := fun v3500 v3511 v3569 k0_hw2 k0_h1 => k0_hw2.1 k0_h1
theorem k0_off4_inb : ∀ (v3500 : BitVec 1) (v3511 : BitVec 32) (v3569 : BitVec 32) (k0_hw2 : k0_chk2 v3500 v3511 v3569), ∀ (k0_h1 : k0_cond1 v3500 = 1#1), ∀ (k0_h2 : k0_cond2 v3511 = 1#1), ∀ a, (k0_off4 v3569) a + S1x1.size a ≤ S1x4.size a := fun v3500 v3511 v3569 k0_hw2 k0_h1 k0_h2 => k0_hw2.2 k0_h1 k0_h2

def k0_off5 (v1572 : BitVec 32) : Fin 2 → Nat :=
  let c0_i32_807 : BitVec 32 := 0#32
  let v1573 : BitVec 32 := Scalar.maxsi v1572 c0_i32_807
  let c0_i32_811 : BitVec 32 := 0#32
  ![v1573.toNat, 0]

def k0_off6 (v1578 : BitVec 32) : Fin 2 → Nat :=
  let c0_i32_814 : BitVec 32 := 0#32
  let v1579 : BitVec 32 := Scalar.maxsi v1578 c0_i32_814
  let c0_i32_818 : BitVec 32 := 0#32
  ![v1579.toNat, 0]

def k0_off7 (v1584 : BitVec 32) : Fin 2 → Nat :=
  let c0_i32_821 : BitVec 32 := 0#32
  let v1585 : BitVec 32 := Scalar.maxsi v1584 c0_i32_821
  let c0_i32_824 : BitVec 32 := 0#32
  ![v1585.toNat, 0]

def k0_off8 (v1590 : BitVec 32) : Fin 2 → Nat :=
  let c0_i32_827 : BitVec 32 := 0#32
  let v1591 : BitVec 32 := Scalar.maxsi v1590 c0_i32_827
  let c0_i32_830 : BitVec 32 := 0#32
  ![v1591.toNat, 0]

def k0_off9 (v1596 : BitVec 32) : Fin 2 → Nat :=
  let c0_i32_833 : BitVec 32 := 0#32
  let v1597 : BitVec 32 := Scalar.maxsi v1596 c0_i32_833
  let c0_i32_836 : BitVec 32 := 0#32
  ![v1597.toNat, 0]

def k0_off10 (v1602 : BitVec 32) : Fin 2 → Nat :=
  let c0_i32_839 : BitVec 32 := 0#32
  let v1603 : BitVec 32 := Scalar.maxsi v1602 c0_i32_839
  let c0_i32_842 : BitVec 32 := 0#32
  ![v1603.toNat, 0]

def k0_off11 (v1608 : BitVec 32) : Fin 2 → Nat :=
  let c0_i32_845 : BitVec 32 := 0#32
  let v1609 : BitVec 32 := Scalar.maxsi v1608 c0_i32_845
  let c0_i32_848 : BitVec 32 := 0#32
  ![v1609.toNat, 0]

def k0_off12 (v1614 : BitVec 32) : Fin 2 → Nat :=
  let c0_i32_851 : BitVec 32 := 0#32
  let v1615 : BitVec 32 := Scalar.maxsi v1614 c0_i32_851
  let c0_i32_854 : BitVec 32 := 0#32
  ![v1615.toNat, 0]

def k0_off13 (v1620 : BitVec 32) : Fin 2 → Nat :=
  let c0_i32_857 : BitVec 32 := 0#32
  let v1621 : BitVec 32 := Scalar.maxsi v1620 c0_i32_857
  let c0_i32_860 : BitVec 32 := 0#32
  ![v1621.toNat, 0]

def k0_off14 (v1626 : BitVec 32) : Fin 2 → Nat :=
  let c0_i32_863 : BitVec 32 := 0#32
  let v1627 : BitVec 32 := Scalar.maxsi v1626 c0_i32_863
  let c0_i32_866 : BitVec 32 := 0#32
  ![v1627.toNat, 0]

def k0_off15 (v1632 : BitVec 32) : Fin 2 → Nat :=
  let c0_i32_869 : BitVec 32 := 0#32
  let v1633 : BitVec 32 := Scalar.maxsi v1632 c0_i32_869
  let c0_i32_872 : BitVec 32 := 0#32
  ![v1633.toNat, 0]

def k0_off16 (v1638 : BitVec 32) : Fin 2 → Nat :=
  let c0_i32_875 : BitVec 32 := 0#32
  let v1639 : BitVec 32 := Scalar.maxsi v1638 c0_i32_875
  let c0_i32_878 : BitVec 32 := 0#32
  ![v1639.toNat, 0]

def k0_off17 (v1644 : BitVec 32) : Fin 2 → Nat :=
  let c0_i32_881 : BitVec 32 := 0#32
  let v1645 : BitVec 32 := Scalar.maxsi v1644 c0_i32_881
  let c0_i32_884 : BitVec 32 := 0#32
  ![v1645.toNat, 0]

def k0_off18 (v1650 : BitVec 32) : Fin 2 → Nat :=
  let c0_i32_887 : BitVec 32 := 0#32
  let v1651 : BitVec 32 := Scalar.maxsi v1650 c0_i32_887
  let c0_i32_890 : BitVec 32 := 0#32
  ![v1651.toNat, 0]

def k0_off19 (v1656 : BitVec 32) : Fin 2 → Nat :=
  let c0_i32_893 : BitVec 32 := 0#32
  let v1657 : BitVec 32 := Scalar.maxsi v1656 c0_i32_893
  let c0_i32_896 : BitVec 32 := 0#32
  ![v1657.toNat, 0]

def k0_off20 (v1662 : BitVec 32) : Fin 2 → Nat :=
  let c0_i32_899 : BitVec 32 := 0#32
  let v1663 : BitVec 32 := Scalar.maxsi v1662 c0_i32_899
  let c0_i32_903 : BitVec 32 := 0#32
  ![v1663.toNat, 0]

def k0_off21 (v1668 : BitVec 32) : Fin 2 → Nat :=
  let c0_i32_906 : BitVec 32 := 0#32
  let v1669 : BitVec 32 := Scalar.maxsi v1668 c0_i32_906
  let c0_i32_909 : BitVec 32 := 0#32
  ![v1669.toNat, 0]

def k0_off22 (v1674 : BitVec 32) : Fin 2 → Nat :=
  let c0_i32_912 : BitVec 32 := 0#32
  let v1675 : BitVec 32 := Scalar.maxsi v1674 c0_i32_912
  let c0_i32_915 : BitVec 32 := 0#32
  ![v1675.toNat, 0]

def k0_off23 (v1680 : BitVec 32) : Fin 2 → Nat :=
  let c0_i32_918 : BitVec 32 := 0#32
  let v1681 : BitVec 32 := Scalar.maxsi v1680 c0_i32_918
  let c0_i32_921 : BitVec 32 := 0#32
  ![v1681.toNat, 0]

def k0_off24 (v1686 : BitVec 32) : Fin 2 → Nat :=
  let c0_i32_924 : BitVec 32 := 0#32
  let v1687 : BitVec 32 := Scalar.maxsi v1686 c0_i32_924
  let c0_i32_927 : BitVec 32 := 0#32
  ![v1687.toNat, 0]

def k0_off25 (v1692 : BitVec 32) : Fin 2 → Nat :=
  let c0_i32_930 : BitVec 32 := 0#32
  let v1693 : BitVec 32 := Scalar.maxsi v1692 c0_i32_930
  let c0_i32_933 : BitVec 32 := 0#32
  ![v1693.toNat, 0]

def k0_off26 (v1698 : BitVec 32) : Fin 2 → Nat :=
  let c0_i32_936 : BitVec 32 := 0#32
  let v1699 : BitVec 32 := Scalar.maxsi v1698 c0_i32_936
  let c0_i32_939 : BitVec 32 := 0#32
  ![v1699.toNat, 0]

def k0_off27 (v1704 : BitVec 32) : Fin 2 → Nat :=
  let c0_i32_942 : BitVec 32 := 0#32
  let v1705 : BitVec 32 := Scalar.maxsi v1704 c0_i32_942
  let c0_i32_945 : BitVec 32 := 0#32
  ![v1705.toNat, 0]

def k0_off28 (v1710 : BitVec 32) : Fin 2 → Nat :=
  let c0_i32_948 : BitVec 32 := 0#32
  let v1711 : BitVec 32 := Scalar.maxsi v1710 c0_i32_948
  let c0_i32_951 : BitVec 32 := 0#32
  ![v1711.toNat, 0]

def k0_off29 (v1716 : BitVec 32) : Fin 2 → Nat :=
  let c0_i32_954 : BitVec 32 := 0#32
  let v1717 : BitVec 32 := Scalar.maxsi v1716 c0_i32_954
  let c0_i32_957 : BitVec 32 := 0#32
  ![v1717.toNat, 0]

def k0_off30 (v1722 : BitVec 32) : Fin 2 → Nat :=
  let c0_i32_960 : BitVec 32 := 0#32
  let v1723 : BitVec 32 := Scalar.maxsi v1722 c0_i32_960
  let c0_i32_963 : BitVec 32 := 0#32
  ![v1723.toNat, 0]

def k0_off31 (v1728 : BitVec 32) : Fin 2 → Nat :=
  let c0_i32_966 : BitVec 32 := 0#32
  let v1729 : BitVec 32 := Scalar.maxsi v1728 c0_i32_966
  let c0_i32_969 : BitVec 32 := 0#32
  ![v1729.toNat, 0]

def k0_off32 (v1734 : BitVec 32) : Fin 2 → Nat :=
  let c0_i32_972 : BitVec 32 := 0#32
  let v1735 : BitVec 32 := Scalar.maxsi v1734 c0_i32_972
  let c0_i32_975 : BitVec 32 := 0#32
  ![v1735.toNat, 0]

def k0_off33 (v1740 : BitVec 32) : Fin 2 → Nat :=
  let c0_i32_978 : BitVec 32 := 0#32
  let v1741 : BitVec 32 := Scalar.maxsi v1740 c0_i32_978
  let c0_i32_981 : BitVec 32 := 0#32
  ![v1741.toNat, 0]

def k0_off34 (v1746 : BitVec 32) : Fin 2 → Nat :=
  let c0_i32_984 : BitVec 32 := 0#32
  let v1747 : BitVec 32 := Scalar.maxsi v1746 c0_i32_984
  let c0_i32_987 : BitVec 32 := 0#32
  ![v1747.toNat, 0]

def k0_off35 (v1752 : BitVec 32) : Fin 2 → Nat :=
  let c0_i32_990 : BitVec 32 := 0#32
  let v1753 : BitVec 32 := Scalar.maxsi v1752 c0_i32_990
  let c0_i32_993 : BitVec 32 := 0#32
  ![v1753.toNat, 0]

def k0_off36 (v1758 : BitVec 32) : Fin 2 → Nat :=
  let c0_i32_996 : BitVec 32 := 0#32
  let v1759 : BitVec 32 := Scalar.maxsi v1758 c0_i32_996
  let c0_i32_999 : BitVec 32 := 0#32
  ![v1759.toNat, 0]

def k0_off37 (v1764 : BitVec 32) : Fin 2 → Nat :=
  let c0_i32_1002 : BitVec 32 := 0#32
  let v1765 : BitVec 32 := Scalar.maxsi v1764 c0_i32_1002
  let c0_i32_1006 : BitVec 32 := 0#32
  ![v1765.toNat, 0]

def k0_off38 (v1770 : BitVec 32) : Fin 2 → Nat :=
  let c0_i32_1009 : BitVec 32 := 0#32
  let v1771 : BitVec 32 := Scalar.maxsi v1770 c0_i32_1009
  let c0_i32_1012 : BitVec 32 := 0#32
  ![v1771.toNat, 0]

def k0_off39 (v1776 : BitVec 32) : Fin 2 → Nat :=
  let c0_i32_1015 : BitVec 32 := 0#32
  let v1777 : BitVec 32 := Scalar.maxsi v1776 c0_i32_1015
  let c0_i32_1018 : BitVec 32 := 0#32
  ![v1777.toNat, 0]

def k0_off40 (v1782 : BitVec 32) : Fin 2 → Nat :=
  let c0_i32_1021 : BitVec 32 := 0#32
  let v1783 : BitVec 32 := Scalar.maxsi v1782 c0_i32_1021
  let c0_i32_1024 : BitVec 32 := 0#32
  ![v1783.toNat, 0]

def k0_off41 (v1788 : BitVec 32) : Fin 2 → Nat :=
  let c0_i32_1027 : BitVec 32 := 0#32
  let v1789 : BitVec 32 := Scalar.maxsi v1788 c0_i32_1027
  let c0_i32_1030 : BitVec 32 := 0#32
  ![v1789.toNat, 0]

def k0_off42 (v1794 : BitVec 32) : Fin 2 → Nat :=
  let c0_i32_1033 : BitVec 32 := 0#32
  let v1795 : BitVec 32 := Scalar.maxsi v1794 c0_i32_1033
  let c0_i32_1036 : BitVec 32 := 0#32
  ![v1795.toNat, 0]

def k0_off43 (v1800 : BitVec 32) : Fin 2 → Nat :=
  let c0_i32_1039 : BitVec 32 := 0#32
  let v1801 : BitVec 32 := Scalar.maxsi v1800 c0_i32_1039
  let c0_i32_1042 : BitVec 32 := 0#32
  ![v1801.toNat, 0]

def k0_off44 (v1806 : BitVec 32) : Fin 2 → Nat :=
  let c0_i32_1045 : BitVec 32 := 0#32
  let v1807 : BitVec 32 := Scalar.maxsi v1806 c0_i32_1045
  let c0_i32_1048 : BitVec 32 := 0#32
  ![v1807.toNat, 0]

def k0_off45 (v1812 : BitVec 32) : Fin 2 → Nat :=
  let c0_i32_1051 : BitVec 32 := 0#32
  let v1813 : BitVec 32 := Scalar.maxsi v1812 c0_i32_1051
  let c0_i32_1054 : BitVec 32 := 0#32
  ![v1813.toNat, 0]

def k0_off46 (v1818 : BitVec 32) : Fin 2 → Nat :=
  let c0_i32_1057 : BitVec 32 := 0#32
  let v1819 : BitVec 32 := Scalar.maxsi v1818 c0_i32_1057
  let c0_i32_1060 : BitVec 32 := 0#32
  ![v1819.toNat, 0]

def k0_off47 (v1824 : BitVec 32) : Fin 2 → Nat :=
  let c0_i32_1063 : BitVec 32 := 0#32
  let v1825 : BitVec 32 := Scalar.maxsi v1824 c0_i32_1063
  let c0_i32_1066 : BitVec 32 := 0#32
  ![v1825.toNat, 0]

def k0_off48 (v1830 : BitVec 32) : Fin 2 → Nat :=
  let c0_i32_1069 : BitVec 32 := 0#32
  let v1831 : BitVec 32 := Scalar.maxsi v1830 c0_i32_1069
  let c0_i32_1072 : BitVec 32 := 0#32
  ![v1831.toNat, 0]

def k0_off49 (v1836 : BitVec 32) : Fin 2 → Nat :=
  let c0_i32_1075 : BitVec 32 := 0#32
  let v1837 : BitVec 32 := Scalar.maxsi v1836 c0_i32_1075
  let c0_i32_1078 : BitVec 32 := 0#32
  ![v1837.toNat, 0]

def k0_off50 (v1842 : BitVec 32) : Fin 2 → Nat :=
  let c0_i32_1081 : BitVec 32 := 0#32
  let v1843 : BitVec 32 := Scalar.maxsi v1842 c0_i32_1081
  let c0_i32_1084 : BitVec 32 := 0#32
  ![v1843.toNat, 0]

def k0_off51 (v1848 : BitVec 32) : Fin 2 → Nat :=
  let c0_i32_1087 : BitVec 32 := 0#32
  let v1849 : BitVec 32 := Scalar.maxsi v1848 c0_i32_1087
  let c0_i32_1090 : BitVec 32 := 0#32
  ![v1849.toNat, 0]

def k0_off52 (v1854 : BitVec 32) : Fin 2 → Nat :=
  let c0_i32_1093 : BitVec 32 := 0#32
  let v1855 : BitVec 32 := Scalar.maxsi v1854 c0_i32_1093
  let c0_i32_1096 : BitVec 32 := 0#32
  ![v1855.toNat, 0]

def k0_off53 (v1860 : BitVec 32) : Fin 2 → Nat :=
  let c0_i32_1099 : BitVec 32 := 0#32
  let v1861 : BitVec 32 := Scalar.maxsi v1860 c0_i32_1099
  let c0_i32_1102 : BitVec 32 := 0#32
  ![v1861.toNat, 0]

def k0_off54 (v1866 : BitVec 32) : Fin 2 → Nat :=
  let c0_i32_1105 : BitVec 32 := 0#32
  let v1867 : BitVec 32 := Scalar.maxsi v1866 c0_i32_1105
  let c0_i32_1108 : BitVec 32 := 0#32
  ![v1867.toNat, 0]

def k0_off55 (v1872 : BitVec 32) : Fin 2 → Nat :=
  let c0_i32_1111 : BitVec 32 := 0#32
  let v1873 : BitVec 32 := Scalar.maxsi v1872 c0_i32_1111
  let c0_i32_1114 : BitVec 32 := 0#32
  ![v1873.toNat, 0]

def k0_off56 (v1878 : BitVec 32) : Fin 2 → Nat :=
  let c0_i32_1117 : BitVec 32 := 0#32
  let v1879 : BitVec 32 := Scalar.maxsi v1878 c0_i32_1117
  let c0_i32_1120 : BitVec 32 := 0#32
  ![v1879.toNat, 0]

def k0_off57 (v1884 : BitVec 32) : Fin 2 → Nat :=
  let c0_i32_1123 : BitVec 32 := 0#32
  let v1885 : BitVec 32 := Scalar.maxsi v1884 c0_i32_1123
  let c0_i32_1126 : BitVec 32 := 0#32
  ![v1885.toNat, 0]

def k0_off58 (v1890 : BitVec 32) : Fin 2 → Nat :=
  let c0_i32_1129 : BitVec 32 := 0#32
  let v1891 : BitVec 32 := Scalar.maxsi v1890 c0_i32_1129
  let c0_i32_1132 : BitVec 32 := 0#32
  ![v1891.toNat, 0]

def k0_off59 (v1896 : BitVec 32) : Fin 2 → Nat :=
  let c0_i32_1135 : BitVec 32 := 0#32
  let v1897 : BitVec 32 := Scalar.maxsi v1896 c0_i32_1135
  let c0_i32_1138 : BitVec 32 := 0#32
  ![v1897.toNat, 0]

def k0_off60 (v1902 : BitVec 32) : Fin 2 → Nat :=
  let c0_i32_1141 : BitVec 32 := 0#32
  let v1903 : BitVec 32 := Scalar.maxsi v1902 c0_i32_1141
  let c0_i32_1144 : BitVec 32 := 0#32
  ![v1903.toNat, 0]

def k0_off61 (v1908 : BitVec 32) : Fin 2 → Nat :=
  let c0_i32_1147 : BitVec 32 := 0#32
  let v1909 : BitVec 32 := Scalar.maxsi v1908 c0_i32_1147
  let c0_i32_1150 : BitVec 32 := 0#32
  ![v1909.toNat, 0]

def k0_off62 (v1914 : BitVec 32) : Fin 2 → Nat :=
  let c0_i32_1153 : BitVec 32 := 0#32
  let v1915 : BitVec 32 := Scalar.maxsi v1914 c0_i32_1153
  let c0_i32_1156 : BitVec 32 := 0#32
  ![v1915.toNat, 0]

def k0_off63 (v1920 : BitVec 32) : Fin 2 → Nat :=
  let c0_i32_1159 : BitVec 32 := 0#32
  let v1921 : BitVec 32 := Scalar.maxsi v1920 c0_i32_1159
  let c0_i32_1162 : BitVec 32 := 0#32
  ![v1921.toNat, 0]

def k0_off64 (v1926 : BitVec 32) : Fin 2 → Nat :=
  let c0_i32_1165 : BitVec 32 := 0#32
  let v1927 : BitVec 32 := Scalar.maxsi v1926 c0_i32_1165
  let c0_i32_1168 : BitVec 32 := 0#32
  ![v1927.toNat, 0]

def k0_off65 (v1932 : BitVec 32) : Fin 2 → Nat :=
  let c0_i32_1171 : BitVec 32 := 0#32
  let v1933 : BitVec 32 := Scalar.maxsi v1932 c0_i32_1171
  let c0_i32_1174 : BitVec 32 := 0#32
  ![v1933.toNat, 0]

def k0_off66 (v1938 : BitVec 32) : Fin 2 → Nat :=
  let c0_i32_1177 : BitVec 32 := 0#32
  let v1939 : BitVec 32 := Scalar.maxsi v1938 c0_i32_1177
  let c0_i32_1180 : BitVec 32 := 0#32
  ![v1939.toNat, 0]

def k0_off67 (v1944 : BitVec 32) : Fin 2 → Nat :=
  let c0_i32_1183 : BitVec 32 := 0#32
  let v1945 : BitVec 32 := Scalar.maxsi v1944 c0_i32_1183
  let c0_i32_1186 : BitVec 32 := 0#32
  ![v1945.toNat, 0]

def k0_off68 (v1950 : BitVec 32) : Fin 2 → Nat :=
  let c0_i32_1189 : BitVec 32 := 0#32
  let v1951 : BitVec 32 := Scalar.maxsi v1950 c0_i32_1189
  let c0_i32_1192 : BitVec 32 := 0#32
  ![v1951.toNat, 0]

def k0_off69 (v1956 : BitVec 32) : Fin 2 → Nat :=
  let c0_i32_1195 : BitVec 32 := 0#32
  let v1957 : BitVec 32 := Scalar.maxsi v1956 c0_i32_1195
  let c0_i32_1198 : BitVec 32 := 0#32
  ![v1957.toNat, 0]

def k0_off70 (v1962 : BitVec 32) : Fin 2 → Nat :=
  let c0_i32_1201 : BitVec 32 := 0#32
  let v1963 : BitVec 32 := Scalar.maxsi v1962 c0_i32_1201
  let c0_i32_1204 : BitVec 32 := 0#32
  ![v1963.toNat, 0]

def k0_off71 (v1968 : BitVec 32) : Fin 2 → Nat :=
  let c0_i32_1207 : BitVec 32 := 0#32
  let v1969 : BitVec 32 := Scalar.maxsi v1968 c0_i32_1207
  let c0_i32_1210 : BitVec 32 := 0#32
  ![v1969.toNat, 0]

def k0_off72 (v1974 : BitVec 32) : Fin 2 → Nat :=
  let c0_i32_1213 : BitVec 32 := 0#32
  let v1975 : BitVec 32 := Scalar.maxsi v1974 c0_i32_1213
  let c0_i32_1216 : BitVec 32 := 0#32
  ![v1975.toNat, 0]

def k0_off73 (v1980 : BitVec 32) : Fin 2 → Nat :=
  let c0_i32_1219 : BitVec 32 := 0#32
  let v1981 : BitVec 32 := Scalar.maxsi v1980 c0_i32_1219
  let c0_i32_1222 : BitVec 32 := 0#32
  ![v1981.toNat, 0]

def k0_off74 (v1986 : BitVec 32) : Fin 2 → Nat :=
  let c0_i32_1225 : BitVec 32 := 0#32
  let v1987 : BitVec 32 := Scalar.maxsi v1986 c0_i32_1225
  let c0_i32_1228 : BitVec 32 := 0#32
  ![v1987.toNat, 0]

def k0_off75 (v1992 : BitVec 32) : Fin 2 → Nat :=
  let c0_i32_1231 : BitVec 32 := 0#32
  let v1993 : BitVec 32 := Scalar.maxsi v1992 c0_i32_1231
  let c0_i32_1234 : BitVec 32 := 0#32
  ![v1993.toNat, 0]

def k0_off76 (v1998 : BitVec 32) : Fin 2 → Nat :=
  let c0_i32_1237 : BitVec 32 := 0#32
  let v1999 : BitVec 32 := Scalar.maxsi v1998 c0_i32_1237
  let c0_i32_1240 : BitVec 32 := 0#32
  ![v1999.toNat, 0]

def k0_off77 (v2004 : BitVec 32) : Fin 2 → Nat :=
  let c0_i32_1243 : BitVec 32 := 0#32
  let v2005 : BitVec 32 := Scalar.maxsi v2004 c0_i32_1243
  let c0_i32_1246 : BitVec 32 := 0#32
  ![v2005.toNat, 0]

def k0_off78 (v2010 : BitVec 32) : Fin 2 → Nat :=
  let c0_i32_1249 : BitVec 32 := 0#32
  let v2011 : BitVec 32 := Scalar.maxsi v2010 c0_i32_1249
  let c0_i32_1252 : BitVec 32 := 0#32
  ![v2011.toNat, 0]

def k0_off79 (v2016 : BitVec 32) : Fin 2 → Nat :=
  let c0_i32_1255 : BitVec 32 := 0#32
  let v2017 : BitVec 32 := Scalar.maxsi v2016 c0_i32_1255
  let c0_i32_1258 : BitVec 32 := 0#32
  ![v2017.toNat, 0]

def k0_off80 (v2022 : BitVec 32) : Fin 2 → Nat :=
  let c0_i32_1261 : BitVec 32 := 0#32
  let v2023 : BitVec 32 := Scalar.maxsi v2022 c0_i32_1261
  let c0_i32_1264 : BitVec 32 := 0#32
  ![v2023.toNat, 0]

def k0_off81 (v2028 : BitVec 32) : Fin 2 → Nat :=
  let c0_i32_1267 : BitVec 32 := 0#32
  let v2029 : BitVec 32 := Scalar.maxsi v2028 c0_i32_1267
  let c0_i32_1270 : BitVec 32 := 0#32
  ![v2029.toNat, 0]

def k0_off82 (v2034 : BitVec 32) : Fin 2 → Nat :=
  let c0_i32_1273 : BitVec 32 := 0#32
  let v2035 : BitVec 32 := Scalar.maxsi v2034 c0_i32_1273
  let c0_i32_1276 : BitVec 32 := 0#32
  ![v2035.toNat, 0]

def k0_off83 (v2040 : BitVec 32) : Fin 2 → Nat :=
  let c0_i32_1279 : BitVec 32 := 0#32
  let v2041 : BitVec 32 := Scalar.maxsi v2040 c0_i32_1279
  let c0_i32_1282 : BitVec 32 := 0#32
  ![v2041.toNat, 0]

def k0_off84 (v2046 : BitVec 32) : Fin 2 → Nat :=
  let c0_i32_1285 : BitVec 32 := 0#32
  let v2047 : BitVec 32 := Scalar.maxsi v2046 c0_i32_1285
  let c0_i32_1288 : BitVec 32 := 0#32
  ![v2047.toNat, 0]

def k0_off85 (v2052 : BitVec 32) : Fin 2 → Nat :=
  let c0_i32_1291 : BitVec 32 := 0#32
  let v2053 : BitVec 32 := Scalar.maxsi v2052 c0_i32_1291
  let c0_i32_1294 : BitVec 32 := 0#32
  ![v2053.toNat, 0]

def k0_off86 (v2058 : BitVec 32) : Fin 2 → Nat :=
  let c0_i32_1297 : BitVec 32 := 0#32
  let v2059 : BitVec 32 := Scalar.maxsi v2058 c0_i32_1297
  let c0_i32_1300 : BitVec 32 := 0#32
  ![v2059.toNat, 0]

def k0_off87 (v2064 : BitVec 32) : Fin 2 → Nat :=
  let c0_i32_1303 : BitVec 32 := 0#32
  let v2065 : BitVec 32 := Scalar.maxsi v2064 c0_i32_1303
  let c0_i32_1306 : BitVec 32 := 0#32
  ![v2065.toNat, 0]

def k0_off88 (v2070 : BitVec 32) : Fin 2 → Nat :=
  let c0_i32_1309 : BitVec 32 := 0#32
  let v2071 : BitVec 32 := Scalar.maxsi v2070 c0_i32_1309
  let c0_i32_1312 : BitVec 32 := 0#32
  ![v2071.toNat, 0]

def k0_off89 (v2076 : BitVec 32) : Fin 2 → Nat :=
  let c0_i32_1315 : BitVec 32 := 0#32
  let v2077 : BitVec 32 := Scalar.maxsi v2076 c0_i32_1315
  let c0_i32_1318 : BitVec 32 := 0#32
  ![v2077.toNat, 0]

def k0_off90 (v2082 : BitVec 32) : Fin 2 → Nat :=
  let c0_i32_1321 : BitVec 32 := 0#32
  let v2083 : BitVec 32 := Scalar.maxsi v2082 c0_i32_1321
  let c0_i32_1324 : BitVec 32 := 0#32
  ![v2083.toNat, 0]

def k0_off91 (v2088 : BitVec 32) : Fin 2 → Nat :=
  let c0_i32_1327 : BitVec 32 := 0#32
  let v2089 : BitVec 32 := Scalar.maxsi v2088 c0_i32_1327
  let c0_i32_1330 : BitVec 32 := 0#32
  ![v2089.toNat, 0]

def k0_off92 (v2094 : BitVec 32) : Fin 2 → Nat :=
  let c0_i32_1333 : BitVec 32 := 0#32
  let v2095 : BitVec 32 := Scalar.maxsi v2094 c0_i32_1333
  let c0_i32_1336 : BitVec 32 := 0#32
  ![v2095.toNat, 0]

def k0_off93 (v2100 : BitVec 32) : Fin 2 → Nat :=
  let c0_i32_1339 : BitVec 32 := 0#32
  let v2101 : BitVec 32 := Scalar.maxsi v2100 c0_i32_1339
  let c0_i32_1342 : BitVec 32 := 0#32
  ![v2101.toNat, 0]

def k0_off94 (v2106 : BitVec 32) : Fin 2 → Nat :=
  let c0_i32_1345 : BitVec 32 := 0#32
  let v2107 : BitVec 32 := Scalar.maxsi v2106 c0_i32_1345
  let c0_i32_1348 : BitVec 32 := 0#32
  ![v2107.toNat, 0]

def k0_off95 (v2112 : BitVec 32) : Fin 2 → Nat :=
  let c0_i32_1351 : BitVec 32 := 0#32
  let v2113 : BitVec 32 := Scalar.maxsi v2112 c0_i32_1351
  let c0_i32_1354 : BitVec 32 := 0#32
  ![v2113.toNat, 0]

def k0_off96 (v2118 : BitVec 32) : Fin 2 → Nat :=
  let c0_i32_1357 : BitVec 32 := 0#32
  let v2119 : BitVec 32 := Scalar.maxsi v2118 c0_i32_1357
  let c0_i32_1360 : BitVec 32 := 0#32
  ![v2119.toNat, 0]

def k0_off97 (v2124 : BitVec 32) : Fin 2 → Nat :=
  let c0_i32_1363 : BitVec 32 := 0#32
  let v2125 : BitVec 32 := Scalar.maxsi v2124 c0_i32_1363
  let c0_i32_1366 : BitVec 32 := 0#32
  ![v2125.toNat, 0]

def k0_off98 (v2130 : BitVec 32) : Fin 2 → Nat :=
  let c0_i32_1369 : BitVec 32 := 0#32
  let v2131 : BitVec 32 := Scalar.maxsi v2130 c0_i32_1369
  let c0_i32_1372 : BitVec 32 := 0#32
  ![v2131.toNat, 0]

def k0_off99 (v2136 : BitVec 32) : Fin 2 → Nat :=
  let c0_i32_1375 : BitVec 32 := 0#32
  let v2137 : BitVec 32 := Scalar.maxsi v2136 c0_i32_1375
  let c0_i32_1378 : BitVec 32 := 0#32
  ![v2137.toNat, 0]

def k0_off100 (v2142 : BitVec 32) : Fin 2 → Nat :=
  let c0_i32_1381 : BitVec 32 := 0#32
  let v2143 : BitVec 32 := Scalar.maxsi v2142 c0_i32_1381
  let c0_i32_1384 : BitVec 32 := 0#32
  ![v2143.toNat, 0]

def k0_off101 (v2148 : BitVec 32) : Fin 2 → Nat :=
  let c0_i32_1387 : BitVec 32 := 0#32
  let v2149 : BitVec 32 := Scalar.maxsi v2148 c0_i32_1387
  let c0_i32_1390 : BitVec 32 := 0#32
  ![v2149.toNat, 0]

def k0_off102 (v2154 : BitVec 32) : Fin 2 → Nat :=
  let c0_i32_1393 : BitVec 32 := 0#32
  let v2155 : BitVec 32 := Scalar.maxsi v2154 c0_i32_1393
  let c0_i32_1396 : BitVec 32 := 0#32
  ![v2155.toNat, 0]

def k0_off103 (v2160 : BitVec 32) : Fin 2 → Nat :=
  let c0_i32_1399 : BitVec 32 := 0#32
  let v2161 : BitVec 32 := Scalar.maxsi v2160 c0_i32_1399
  let c0_i32_1402 : BitVec 32 := 0#32
  ![v2161.toNat, 0]

def k0_off104 (v2166 : BitVec 32) : Fin 2 → Nat :=
  let c0_i32_1405 : BitVec 32 := 0#32
  let v2167 : BitVec 32 := Scalar.maxsi v2166 c0_i32_1405
  let c0_i32_1408 : BitVec 32 := 0#32
  ![v2167.toNat, 0]

def k0_chk102 (v2166 : BitVec 32) : Prop :=
  (∀ a, (k0_off104 v2166) a + S1x784.size a ≤ S20000x784.size a)
theorem k0_off104_inb : ∀ (v2166 : BitVec 32) (k0_hw102 : k0_chk102 v2166), ∀ a, (k0_off104 v2166) a + S1x784.size a ≤ S20000x784.size a := fun v2166 k0_hw102 => k0_hw102

def k0_off105 (v1572 : BitVec 32) : Fin 2 → Nat :=
  let c0_i32_807 : BitVec 32 := 0#32
  let v1573 : BitVec 32 := Scalar.maxsi v1572 c0_i32_807
  let c0_i32_1412 : BitVec 32 := 0#32
  ![v1573.toNat, 0]

def k0_chk3 (v1572 : BitVec 32) : Prop :=
  (∀ a, (k0_off5 v1572) a + S1x784.size a ≤ S20000x784.size a) ∧
  (∀ a, (k0_off105 v1572) a + S1x784.size a ≤ S20000x784.size a)
theorem k0_off5_inb : ∀ (v1572 : BitVec 32) (k0_hw3 : k0_chk3 v1572), ∀ a, (k0_off5 v1572) a + S1x784.size a ≤ S20000x784.size a := fun v1572 k0_hw3 => k0_hw3.1
theorem k0_off105_inb : ∀ (v1572 : BitVec 32) (k0_hw3 : k0_chk3 v1572), ∀ a, (k0_off105 v1572) a + S1x784.size a ≤ S20000x784.size a := fun v1572 k0_hw3 => k0_hw3.2

def k0_off106 (v1578 : BitVec 32) : Fin 2 → Nat :=
  let c0_i32_814 : BitVec 32 := 0#32
  let v1579 : BitVec 32 := Scalar.maxsi v1578 c0_i32_814
  let c0_i32_1416 : BitVec 32 := 0#32
  ![v1579.toNat, 0]

def k0_chk4 (v1578 : BitVec 32) : Prop :=
  (∀ a, (k0_off6 v1578) a + S1x784.size a ≤ S20000x784.size a) ∧
  (∀ a, (k0_off106 v1578) a + S1x784.size a ≤ S20000x784.size a)
theorem k0_off6_inb : ∀ (v1578 : BitVec 32) (k0_hw4 : k0_chk4 v1578), ∀ a, (k0_off6 v1578) a + S1x784.size a ≤ S20000x784.size a := fun v1578 k0_hw4 => k0_hw4.1
theorem k0_off106_inb : ∀ (v1578 : BitVec 32) (k0_hw4 : k0_chk4 v1578), ∀ a, (k0_off106 v1578) a + S1x784.size a ≤ S20000x784.size a := fun v1578 k0_hw4 => k0_hw4.2

def k0_off107 (v1584 : BitVec 32) : Fin 2 → Nat :=
  let c0_i32_821 : BitVec 32 := 0#32
  let v1585 : BitVec 32 := Scalar.maxsi v1584 c0_i32_821
  let c0_i32_1420 : BitVec 32 := 0#32
  ![v1585.toNat, 0]

def k0_chk5 (v1584 : BitVec 32) : Prop :=
  (∀ a, (k0_off7 v1584) a + S1x784.size a ≤ S20000x784.size a) ∧
  (∀ a, (k0_off107 v1584) a + S1x784.size a ≤ S20000x784.size a)
theorem k0_off7_inb : ∀ (v1584 : BitVec 32) (k0_hw5 : k0_chk5 v1584), ∀ a, (k0_off7 v1584) a + S1x784.size a ≤ S20000x784.size a := fun v1584 k0_hw5 => k0_hw5.1
theorem k0_off107_inb : ∀ (v1584 : BitVec 32) (k0_hw5 : k0_chk5 v1584), ∀ a, (k0_off107 v1584) a + S1x784.size a ≤ S20000x784.size a := fun v1584 k0_hw5 => k0_hw5.2

def k0_off108 (v1590 : BitVec 32) : Fin 2 → Nat :=
  let c0_i32_827 : BitVec 32 := 0#32
  let v1591 : BitVec 32 := Scalar.maxsi v1590 c0_i32_827
  let c0_i32_1424 : BitVec 32 := 0#32
  ![v1591.toNat, 0]

def k0_chk6 (v1590 : BitVec 32) : Prop :=
  (∀ a, (k0_off8 v1590) a + S1x784.size a ≤ S20000x784.size a) ∧
  (∀ a, (k0_off108 v1590) a + S1x784.size a ≤ S20000x784.size a)
theorem k0_off8_inb : ∀ (v1590 : BitVec 32) (k0_hw6 : k0_chk6 v1590), ∀ a, (k0_off8 v1590) a + S1x784.size a ≤ S20000x784.size a := fun v1590 k0_hw6 => k0_hw6.1
theorem k0_off108_inb : ∀ (v1590 : BitVec 32) (k0_hw6 : k0_chk6 v1590), ∀ a, (k0_off108 v1590) a + S1x784.size a ≤ S20000x784.size a := fun v1590 k0_hw6 => k0_hw6.2

def k0_off109 (v1596 : BitVec 32) : Fin 2 → Nat :=
  let c0_i32_833 : BitVec 32 := 0#32
  let v1597 : BitVec 32 := Scalar.maxsi v1596 c0_i32_833
  let c0_i32_1428 : BitVec 32 := 0#32
  ![v1597.toNat, 0]

def k0_chk7 (v1596 : BitVec 32) : Prop :=
  (∀ a, (k0_off9 v1596) a + S1x784.size a ≤ S20000x784.size a) ∧
  (∀ a, (k0_off109 v1596) a + S1x784.size a ≤ S20000x784.size a)
theorem k0_off9_inb : ∀ (v1596 : BitVec 32) (k0_hw7 : k0_chk7 v1596), ∀ a, (k0_off9 v1596) a + S1x784.size a ≤ S20000x784.size a := fun v1596 k0_hw7 => k0_hw7.1
theorem k0_off109_inb : ∀ (v1596 : BitVec 32) (k0_hw7 : k0_chk7 v1596), ∀ a, (k0_off109 v1596) a + S1x784.size a ≤ S20000x784.size a := fun v1596 k0_hw7 => k0_hw7.2

def k0_off110 (v1602 : BitVec 32) : Fin 2 → Nat :=
  let c0_i32_839 : BitVec 32 := 0#32
  let v1603 : BitVec 32 := Scalar.maxsi v1602 c0_i32_839
  let c0_i32_1432 : BitVec 32 := 0#32
  ![v1603.toNat, 0]

def k0_chk8 (v1602 : BitVec 32) : Prop :=
  (∀ a, (k0_off10 v1602) a + S1x784.size a ≤ S20000x784.size a) ∧
  (∀ a, (k0_off110 v1602) a + S1x784.size a ≤ S20000x784.size a)
theorem k0_off10_inb : ∀ (v1602 : BitVec 32) (k0_hw8 : k0_chk8 v1602), ∀ a, (k0_off10 v1602) a + S1x784.size a ≤ S20000x784.size a := fun v1602 k0_hw8 => k0_hw8.1
theorem k0_off110_inb : ∀ (v1602 : BitVec 32) (k0_hw8 : k0_chk8 v1602), ∀ a, (k0_off110 v1602) a + S1x784.size a ≤ S20000x784.size a := fun v1602 k0_hw8 => k0_hw8.2

def k0_off111 (v1608 : BitVec 32) : Fin 2 → Nat :=
  let c0_i32_845 : BitVec 32 := 0#32
  let v1609 : BitVec 32 := Scalar.maxsi v1608 c0_i32_845
  let c0_i32_1436 : BitVec 32 := 0#32
  ![v1609.toNat, 0]

def k0_chk9 (v1608 : BitVec 32) : Prop :=
  (∀ a, (k0_off11 v1608) a + S1x784.size a ≤ S20000x784.size a) ∧
  (∀ a, (k0_off111 v1608) a + S1x784.size a ≤ S20000x784.size a)
theorem k0_off11_inb : ∀ (v1608 : BitVec 32) (k0_hw9 : k0_chk9 v1608), ∀ a, (k0_off11 v1608) a + S1x784.size a ≤ S20000x784.size a := fun v1608 k0_hw9 => k0_hw9.1
theorem k0_off111_inb : ∀ (v1608 : BitVec 32) (k0_hw9 : k0_chk9 v1608), ∀ a, (k0_off111 v1608) a + S1x784.size a ≤ S20000x784.size a := fun v1608 k0_hw9 => k0_hw9.2

def k0_off112 (v1614 : BitVec 32) : Fin 2 → Nat :=
  let c0_i32_851 : BitVec 32 := 0#32
  let v1615 : BitVec 32 := Scalar.maxsi v1614 c0_i32_851
  let c0_i32_1440 : BitVec 32 := 0#32
  ![v1615.toNat, 0]

def k0_chk10 (v1614 : BitVec 32) : Prop :=
  (∀ a, (k0_off12 v1614) a + S1x784.size a ≤ S20000x784.size a) ∧
  (∀ a, (k0_off112 v1614) a + S1x784.size a ≤ S20000x784.size a)
theorem k0_off12_inb : ∀ (v1614 : BitVec 32) (k0_hw10 : k0_chk10 v1614), ∀ a, (k0_off12 v1614) a + S1x784.size a ≤ S20000x784.size a := fun v1614 k0_hw10 => k0_hw10.1
theorem k0_off112_inb : ∀ (v1614 : BitVec 32) (k0_hw10 : k0_chk10 v1614), ∀ a, (k0_off112 v1614) a + S1x784.size a ≤ S20000x784.size a := fun v1614 k0_hw10 => k0_hw10.2

def k0_off113 (v1620 : BitVec 32) : Fin 2 → Nat :=
  let c0_i32_857 : BitVec 32 := 0#32
  let v1621 : BitVec 32 := Scalar.maxsi v1620 c0_i32_857
  let c0_i32_1444 : BitVec 32 := 0#32
  ![v1621.toNat, 0]

def k0_chk11 (v1620 : BitVec 32) : Prop :=
  (∀ a, (k0_off13 v1620) a + S1x784.size a ≤ S20000x784.size a) ∧
  (∀ a, (k0_off113 v1620) a + S1x784.size a ≤ S20000x784.size a)
theorem k0_off13_inb : ∀ (v1620 : BitVec 32) (k0_hw11 : k0_chk11 v1620), ∀ a, (k0_off13 v1620) a + S1x784.size a ≤ S20000x784.size a := fun v1620 k0_hw11 => k0_hw11.1
theorem k0_off113_inb : ∀ (v1620 : BitVec 32) (k0_hw11 : k0_chk11 v1620), ∀ a, (k0_off113 v1620) a + S1x784.size a ≤ S20000x784.size a := fun v1620 k0_hw11 => k0_hw11.2

def k0_off114 (v1626 : BitVec 32) : Fin 2 → Nat :=
  let c0_i32_863 : BitVec 32 := 0#32
  let v1627 : BitVec 32 := Scalar.maxsi v1626 c0_i32_863
  let c0_i32_1448 : BitVec 32 := 0#32
  ![v1627.toNat, 0]

def k0_chk12 (v1626 : BitVec 32) : Prop :=
  (∀ a, (k0_off14 v1626) a + S1x784.size a ≤ S20000x784.size a) ∧
  (∀ a, (k0_off114 v1626) a + S1x784.size a ≤ S20000x784.size a)
theorem k0_off14_inb : ∀ (v1626 : BitVec 32) (k0_hw12 : k0_chk12 v1626), ∀ a, (k0_off14 v1626) a + S1x784.size a ≤ S20000x784.size a := fun v1626 k0_hw12 => k0_hw12.1
theorem k0_off114_inb : ∀ (v1626 : BitVec 32) (k0_hw12 : k0_chk12 v1626), ∀ a, (k0_off114 v1626) a + S1x784.size a ≤ S20000x784.size a := fun v1626 k0_hw12 => k0_hw12.2

def k0_off115 (v1632 : BitVec 32) : Fin 2 → Nat :=
  let c0_i32_869 : BitVec 32 := 0#32
  let v1633 : BitVec 32 := Scalar.maxsi v1632 c0_i32_869
  let c0_i32_1452 : BitVec 32 := 0#32
  ![v1633.toNat, 0]

def k0_chk13 (v1632 : BitVec 32) : Prop :=
  (∀ a, (k0_off15 v1632) a + S1x784.size a ≤ S20000x784.size a) ∧
  (∀ a, (k0_off115 v1632) a + S1x784.size a ≤ S20000x784.size a)
theorem k0_off15_inb : ∀ (v1632 : BitVec 32) (k0_hw13 : k0_chk13 v1632), ∀ a, (k0_off15 v1632) a + S1x784.size a ≤ S20000x784.size a := fun v1632 k0_hw13 => k0_hw13.1
theorem k0_off115_inb : ∀ (v1632 : BitVec 32) (k0_hw13 : k0_chk13 v1632), ∀ a, (k0_off115 v1632) a + S1x784.size a ≤ S20000x784.size a := fun v1632 k0_hw13 => k0_hw13.2

def k0_off116 (v1638 : BitVec 32) : Fin 2 → Nat :=
  let c0_i32_875 : BitVec 32 := 0#32
  let v1639 : BitVec 32 := Scalar.maxsi v1638 c0_i32_875
  let c0_i32_1456 : BitVec 32 := 0#32
  ![v1639.toNat, 0]

def k0_chk14 (v1638 : BitVec 32) : Prop :=
  (∀ a, (k0_off16 v1638) a + S1x784.size a ≤ S20000x784.size a) ∧
  (∀ a, (k0_off116 v1638) a + S1x784.size a ≤ S20000x784.size a)
theorem k0_off16_inb : ∀ (v1638 : BitVec 32) (k0_hw14 : k0_chk14 v1638), ∀ a, (k0_off16 v1638) a + S1x784.size a ≤ S20000x784.size a := fun v1638 k0_hw14 => k0_hw14.1
theorem k0_off116_inb : ∀ (v1638 : BitVec 32) (k0_hw14 : k0_chk14 v1638), ∀ a, (k0_off116 v1638) a + S1x784.size a ≤ S20000x784.size a := fun v1638 k0_hw14 => k0_hw14.2

def k0_off117 (v1644 : BitVec 32) : Fin 2 → Nat :=
  let c0_i32_881 : BitVec 32 := 0#32
  let v1645 : BitVec 32 := Scalar.maxsi v1644 c0_i32_881
  let c0_i32_1460 : BitVec 32 := 0#32
  ![v1645.toNat, 0]

def k0_chk15 (v1644 : BitVec 32) : Prop :=
  (∀ a, (k0_off17 v1644) a + S1x784.size a ≤ S20000x784.size a) ∧
  (∀ a, (k0_off117 v1644) a + S1x784.size a ≤ S20000x784.size a)
theorem k0_off17_inb : ∀ (v1644 : BitVec 32) (k0_hw15 : k0_chk15 v1644), ∀ a, (k0_off17 v1644) a + S1x784.size a ≤ S20000x784.size a := fun v1644 k0_hw15 => k0_hw15.1
theorem k0_off117_inb : ∀ (v1644 : BitVec 32) (k0_hw15 : k0_chk15 v1644), ∀ a, (k0_off117 v1644) a + S1x784.size a ≤ S20000x784.size a := fun v1644 k0_hw15 => k0_hw15.2

def k0_off118 (v1650 : BitVec 32) : Fin 2 → Nat :=
  let c0_i32_887 : BitVec 32 := 0#32
  let v1651 : BitVec 32 := Scalar.maxsi v1650 c0_i32_887
  let c0_i32_1464 : BitVec 32 := 0#32
  ![v1651.toNat, 0]

def k0_chk16 (v1650 : BitVec 32) : Prop :=
  (∀ a, (k0_off18 v1650) a + S1x784.size a ≤ S20000x784.size a) ∧
  (∀ a, (k0_off118 v1650) a + S1x784.size a ≤ S20000x784.size a)
theorem k0_off18_inb : ∀ (v1650 : BitVec 32) (k0_hw16 : k0_chk16 v1650), ∀ a, (k0_off18 v1650) a + S1x784.size a ≤ S20000x784.size a := fun v1650 k0_hw16 => k0_hw16.1
theorem k0_off118_inb : ∀ (v1650 : BitVec 32) (k0_hw16 : k0_chk16 v1650), ∀ a, (k0_off118 v1650) a + S1x784.size a ≤ S20000x784.size a := fun v1650 k0_hw16 => k0_hw16.2

def k0_off119 (v1656 : BitVec 32) : Fin 2 → Nat :=
  let c0_i32_893 : BitVec 32 := 0#32
  let v1657 : BitVec 32 := Scalar.maxsi v1656 c0_i32_893
  let c0_i32_1468 : BitVec 32 := 0#32
  ![v1657.toNat, 0]

def k0_chk17 (v1656 : BitVec 32) : Prop :=
  (∀ a, (k0_off19 v1656) a + S1x784.size a ≤ S20000x784.size a) ∧
  (∀ a, (k0_off119 v1656) a + S1x784.size a ≤ S20000x784.size a)
theorem k0_off19_inb : ∀ (v1656 : BitVec 32) (k0_hw17 : k0_chk17 v1656), ∀ a, (k0_off19 v1656) a + S1x784.size a ≤ S20000x784.size a := fun v1656 k0_hw17 => k0_hw17.1
theorem k0_off119_inb : ∀ (v1656 : BitVec 32) (k0_hw17 : k0_chk17 v1656), ∀ a, (k0_off119 v1656) a + S1x784.size a ≤ S20000x784.size a := fun v1656 k0_hw17 => k0_hw17.2

def k0_off120 (v1662 : BitVec 32) : Fin 2 → Nat :=
  let c0_i32_899 : BitVec 32 := 0#32
  let v1663 : BitVec 32 := Scalar.maxsi v1662 c0_i32_899
  let c0_i32_1472 : BitVec 32 := 0#32
  ![v1663.toNat, 0]

def k0_chk18 (v1662 : BitVec 32) : Prop :=
  (∀ a, (k0_off20 v1662) a + S1x784.size a ≤ S20000x784.size a) ∧
  (∀ a, (k0_off120 v1662) a + S1x784.size a ≤ S20000x784.size a)
theorem k0_off20_inb : ∀ (v1662 : BitVec 32) (k0_hw18 : k0_chk18 v1662), ∀ a, (k0_off20 v1662) a + S1x784.size a ≤ S20000x784.size a := fun v1662 k0_hw18 => k0_hw18.1
theorem k0_off120_inb : ∀ (v1662 : BitVec 32) (k0_hw18 : k0_chk18 v1662), ∀ a, (k0_off120 v1662) a + S1x784.size a ≤ S20000x784.size a := fun v1662 k0_hw18 => k0_hw18.2

def k0_off121 (v1668 : BitVec 32) : Fin 2 → Nat :=
  let c0_i32_906 : BitVec 32 := 0#32
  let v1669 : BitVec 32 := Scalar.maxsi v1668 c0_i32_906
  let c0_i32_1476 : BitVec 32 := 0#32
  ![v1669.toNat, 0]

def k0_chk19 (v1668 : BitVec 32) : Prop :=
  (∀ a, (k0_off21 v1668) a + S1x784.size a ≤ S20000x784.size a) ∧
  (∀ a, (k0_off121 v1668) a + S1x784.size a ≤ S20000x784.size a)
theorem k0_off21_inb : ∀ (v1668 : BitVec 32) (k0_hw19 : k0_chk19 v1668), ∀ a, (k0_off21 v1668) a + S1x784.size a ≤ S20000x784.size a := fun v1668 k0_hw19 => k0_hw19.1
theorem k0_off121_inb : ∀ (v1668 : BitVec 32) (k0_hw19 : k0_chk19 v1668), ∀ a, (k0_off121 v1668) a + S1x784.size a ≤ S20000x784.size a := fun v1668 k0_hw19 => k0_hw19.2

def k0_off122 (v1674 : BitVec 32) : Fin 2 → Nat :=
  let c0_i32_912 : BitVec 32 := 0#32
  let v1675 : BitVec 32 := Scalar.maxsi v1674 c0_i32_912
  let c0_i32_1480 : BitVec 32 := 0#32
  ![v1675.toNat, 0]

def k0_chk20 (v1674 : BitVec 32) : Prop :=
  (∀ a, (k0_off22 v1674) a + S1x784.size a ≤ S20000x784.size a) ∧
  (∀ a, (k0_off122 v1674) a + S1x784.size a ≤ S20000x784.size a)
theorem k0_off22_inb : ∀ (v1674 : BitVec 32) (k0_hw20 : k0_chk20 v1674), ∀ a, (k0_off22 v1674) a + S1x784.size a ≤ S20000x784.size a := fun v1674 k0_hw20 => k0_hw20.1
theorem k0_off122_inb : ∀ (v1674 : BitVec 32) (k0_hw20 : k0_chk20 v1674), ∀ a, (k0_off122 v1674) a + S1x784.size a ≤ S20000x784.size a := fun v1674 k0_hw20 => k0_hw20.2

def k0_off123 (v1680 : BitVec 32) : Fin 2 → Nat :=
  let c0_i32_918 : BitVec 32 := 0#32
  let v1681 : BitVec 32 := Scalar.maxsi v1680 c0_i32_918
  let c0_i32_1484 : BitVec 32 := 0#32
  ![v1681.toNat, 0]

def k0_chk21 (v1680 : BitVec 32) : Prop :=
  (∀ a, (k0_off23 v1680) a + S1x784.size a ≤ S20000x784.size a) ∧
  (∀ a, (k0_off123 v1680) a + S1x784.size a ≤ S20000x784.size a)
theorem k0_off23_inb : ∀ (v1680 : BitVec 32) (k0_hw21 : k0_chk21 v1680), ∀ a, (k0_off23 v1680) a + S1x784.size a ≤ S20000x784.size a := fun v1680 k0_hw21 => k0_hw21.1
theorem k0_off123_inb : ∀ (v1680 : BitVec 32) (k0_hw21 : k0_chk21 v1680), ∀ a, (k0_off123 v1680) a + S1x784.size a ≤ S20000x784.size a := fun v1680 k0_hw21 => k0_hw21.2

def k0_off124 (v1686 : BitVec 32) : Fin 2 → Nat :=
  let c0_i32_924 : BitVec 32 := 0#32
  let v1687 : BitVec 32 := Scalar.maxsi v1686 c0_i32_924
  let c0_i32_1488 : BitVec 32 := 0#32
  ![v1687.toNat, 0]

def k0_chk22 (v1686 : BitVec 32) : Prop :=
  (∀ a, (k0_off24 v1686) a + S1x784.size a ≤ S20000x784.size a) ∧
  (∀ a, (k0_off124 v1686) a + S1x784.size a ≤ S20000x784.size a)
theorem k0_off24_inb : ∀ (v1686 : BitVec 32) (k0_hw22 : k0_chk22 v1686), ∀ a, (k0_off24 v1686) a + S1x784.size a ≤ S20000x784.size a := fun v1686 k0_hw22 => k0_hw22.1
theorem k0_off124_inb : ∀ (v1686 : BitVec 32) (k0_hw22 : k0_chk22 v1686), ∀ a, (k0_off124 v1686) a + S1x784.size a ≤ S20000x784.size a := fun v1686 k0_hw22 => k0_hw22.2

def k0_off125 (v1692 : BitVec 32) : Fin 2 → Nat :=
  let c0_i32_930 : BitVec 32 := 0#32
  let v1693 : BitVec 32 := Scalar.maxsi v1692 c0_i32_930
  let c0_i32_1492 : BitVec 32 := 0#32
  ![v1693.toNat, 0]

def k0_chk23 (v1692 : BitVec 32) : Prop :=
  (∀ a, (k0_off25 v1692) a + S1x784.size a ≤ S20000x784.size a) ∧
  (∀ a, (k0_off125 v1692) a + S1x784.size a ≤ S20000x784.size a)
theorem k0_off25_inb : ∀ (v1692 : BitVec 32) (k0_hw23 : k0_chk23 v1692), ∀ a, (k0_off25 v1692) a + S1x784.size a ≤ S20000x784.size a := fun v1692 k0_hw23 => k0_hw23.1
theorem k0_off125_inb : ∀ (v1692 : BitVec 32) (k0_hw23 : k0_chk23 v1692), ∀ a, (k0_off125 v1692) a + S1x784.size a ≤ S20000x784.size a := fun v1692 k0_hw23 => k0_hw23.2

def k0_off126 (v1698 : BitVec 32) : Fin 2 → Nat :=
  let c0_i32_936 : BitVec 32 := 0#32
  let v1699 : BitVec 32 := Scalar.maxsi v1698 c0_i32_936
  let c0_i32_1496 : BitVec 32 := 0#32
  ![v1699.toNat, 0]

def k0_chk24 (v1698 : BitVec 32) : Prop :=
  (∀ a, (k0_off26 v1698) a + S1x784.size a ≤ S20000x784.size a) ∧
  (∀ a, (k0_off126 v1698) a + S1x784.size a ≤ S20000x784.size a)
theorem k0_off26_inb : ∀ (v1698 : BitVec 32) (k0_hw24 : k0_chk24 v1698), ∀ a, (k0_off26 v1698) a + S1x784.size a ≤ S20000x784.size a := fun v1698 k0_hw24 => k0_hw24.1
theorem k0_off126_inb : ∀ (v1698 : BitVec 32) (k0_hw24 : k0_chk24 v1698), ∀ a, (k0_off126 v1698) a + S1x784.size a ≤ S20000x784.size a := fun v1698 k0_hw24 => k0_hw24.2

def k0_off127 (v1704 : BitVec 32) : Fin 2 → Nat :=
  let c0_i32_942 : BitVec 32 := 0#32
  let v1705 : BitVec 32 := Scalar.maxsi v1704 c0_i32_942
  let c0_i32_1500 : BitVec 32 := 0#32
  ![v1705.toNat, 0]

def k0_chk25 (v1704 : BitVec 32) : Prop :=
  (∀ a, (k0_off27 v1704) a + S1x784.size a ≤ S20000x784.size a) ∧
  (∀ a, (k0_off127 v1704) a + S1x784.size a ≤ S20000x784.size a)
theorem k0_off27_inb : ∀ (v1704 : BitVec 32) (k0_hw25 : k0_chk25 v1704), ∀ a, (k0_off27 v1704) a + S1x784.size a ≤ S20000x784.size a := fun v1704 k0_hw25 => k0_hw25.1
theorem k0_off127_inb : ∀ (v1704 : BitVec 32) (k0_hw25 : k0_chk25 v1704), ∀ a, (k0_off127 v1704) a + S1x784.size a ≤ S20000x784.size a := fun v1704 k0_hw25 => k0_hw25.2

def k0_off128 (v1710 : BitVec 32) : Fin 2 → Nat :=
  let c0_i32_948 : BitVec 32 := 0#32
  let v1711 : BitVec 32 := Scalar.maxsi v1710 c0_i32_948
  let c0_i32_1504 : BitVec 32 := 0#32
  ![v1711.toNat, 0]

def k0_chk26 (v1710 : BitVec 32) : Prop :=
  (∀ a, (k0_off28 v1710) a + S1x784.size a ≤ S20000x784.size a) ∧
  (∀ a, (k0_off128 v1710) a + S1x784.size a ≤ S20000x784.size a)
theorem k0_off28_inb : ∀ (v1710 : BitVec 32) (k0_hw26 : k0_chk26 v1710), ∀ a, (k0_off28 v1710) a + S1x784.size a ≤ S20000x784.size a := fun v1710 k0_hw26 => k0_hw26.1
theorem k0_off128_inb : ∀ (v1710 : BitVec 32) (k0_hw26 : k0_chk26 v1710), ∀ a, (k0_off128 v1710) a + S1x784.size a ≤ S20000x784.size a := fun v1710 k0_hw26 => k0_hw26.2

def k0_off129 (v1716 : BitVec 32) : Fin 2 → Nat :=
  let c0_i32_954 : BitVec 32 := 0#32
  let v1717 : BitVec 32 := Scalar.maxsi v1716 c0_i32_954
  let c0_i32_1508 : BitVec 32 := 0#32
  ![v1717.toNat, 0]

def k0_chk27 (v1716 : BitVec 32) : Prop :=
  (∀ a, (k0_off29 v1716) a + S1x784.size a ≤ S20000x784.size a) ∧
  (∀ a, (k0_off129 v1716) a + S1x784.size a ≤ S20000x784.size a)
theorem k0_off29_inb : ∀ (v1716 : BitVec 32) (k0_hw27 : k0_chk27 v1716), ∀ a, (k0_off29 v1716) a + S1x784.size a ≤ S20000x784.size a := fun v1716 k0_hw27 => k0_hw27.1
theorem k0_off129_inb : ∀ (v1716 : BitVec 32) (k0_hw27 : k0_chk27 v1716), ∀ a, (k0_off129 v1716) a + S1x784.size a ≤ S20000x784.size a := fun v1716 k0_hw27 => k0_hw27.2

def k0_off130 (v1722 : BitVec 32) : Fin 2 → Nat :=
  let c0_i32_960 : BitVec 32 := 0#32
  let v1723 : BitVec 32 := Scalar.maxsi v1722 c0_i32_960
  let c0_i32_1512 : BitVec 32 := 0#32
  ![v1723.toNat, 0]

def k0_chk28 (v1722 : BitVec 32) : Prop :=
  (∀ a, (k0_off30 v1722) a + S1x784.size a ≤ S20000x784.size a) ∧
  (∀ a, (k0_off130 v1722) a + S1x784.size a ≤ S20000x784.size a)
theorem k0_off30_inb : ∀ (v1722 : BitVec 32) (k0_hw28 : k0_chk28 v1722), ∀ a, (k0_off30 v1722) a + S1x784.size a ≤ S20000x784.size a := fun v1722 k0_hw28 => k0_hw28.1
theorem k0_off130_inb : ∀ (v1722 : BitVec 32) (k0_hw28 : k0_chk28 v1722), ∀ a, (k0_off130 v1722) a + S1x784.size a ≤ S20000x784.size a := fun v1722 k0_hw28 => k0_hw28.2

def k0_off131 (v1728 : BitVec 32) : Fin 2 → Nat :=
  let c0_i32_966 : BitVec 32 := 0#32
  let v1729 : BitVec 32 := Scalar.maxsi v1728 c0_i32_966
  let c0_i32_1516 : BitVec 32 := 0#32
  ![v1729.toNat, 0]

def k0_chk29 (v1728 : BitVec 32) : Prop :=
  (∀ a, (k0_off31 v1728) a + S1x784.size a ≤ S20000x784.size a) ∧
  (∀ a, (k0_off131 v1728) a + S1x784.size a ≤ S20000x784.size a)
theorem k0_off31_inb : ∀ (v1728 : BitVec 32) (k0_hw29 : k0_chk29 v1728), ∀ a, (k0_off31 v1728) a + S1x784.size a ≤ S20000x784.size a := fun v1728 k0_hw29 => k0_hw29.1
theorem k0_off131_inb : ∀ (v1728 : BitVec 32) (k0_hw29 : k0_chk29 v1728), ∀ a, (k0_off131 v1728) a + S1x784.size a ≤ S20000x784.size a := fun v1728 k0_hw29 => k0_hw29.2

def k0_off132 (v1734 : BitVec 32) : Fin 2 → Nat :=
  let c0_i32_972 : BitVec 32 := 0#32
  let v1735 : BitVec 32 := Scalar.maxsi v1734 c0_i32_972
  let c0_i32_1520 : BitVec 32 := 0#32
  ![v1735.toNat, 0]

def k0_chk30 (v1734 : BitVec 32) : Prop :=
  (∀ a, (k0_off32 v1734) a + S1x784.size a ≤ S20000x784.size a) ∧
  (∀ a, (k0_off132 v1734) a + S1x784.size a ≤ S20000x784.size a)
theorem k0_off32_inb : ∀ (v1734 : BitVec 32) (k0_hw30 : k0_chk30 v1734), ∀ a, (k0_off32 v1734) a + S1x784.size a ≤ S20000x784.size a := fun v1734 k0_hw30 => k0_hw30.1
theorem k0_off132_inb : ∀ (v1734 : BitVec 32) (k0_hw30 : k0_chk30 v1734), ∀ a, (k0_off132 v1734) a + S1x784.size a ≤ S20000x784.size a := fun v1734 k0_hw30 => k0_hw30.2

def k0_off133 (v1740 : BitVec 32) : Fin 2 → Nat :=
  let c0_i32_978 : BitVec 32 := 0#32
  let v1741 : BitVec 32 := Scalar.maxsi v1740 c0_i32_978
  let c0_i32_1524 : BitVec 32 := 0#32
  ![v1741.toNat, 0]

def k0_chk31 (v1740 : BitVec 32) : Prop :=
  (∀ a, (k0_off33 v1740) a + S1x784.size a ≤ S20000x784.size a) ∧
  (∀ a, (k0_off133 v1740) a + S1x784.size a ≤ S20000x784.size a)
theorem k0_off33_inb : ∀ (v1740 : BitVec 32) (k0_hw31 : k0_chk31 v1740), ∀ a, (k0_off33 v1740) a + S1x784.size a ≤ S20000x784.size a := fun v1740 k0_hw31 => k0_hw31.1
theorem k0_off133_inb : ∀ (v1740 : BitVec 32) (k0_hw31 : k0_chk31 v1740), ∀ a, (k0_off133 v1740) a + S1x784.size a ≤ S20000x784.size a := fun v1740 k0_hw31 => k0_hw31.2

def k0_off134 (v1746 : BitVec 32) : Fin 2 → Nat :=
  let c0_i32_984 : BitVec 32 := 0#32
  let v1747 : BitVec 32 := Scalar.maxsi v1746 c0_i32_984
  let c0_i32_1528 : BitVec 32 := 0#32
  ![v1747.toNat, 0]

def k0_chk32 (v1746 : BitVec 32) : Prop :=
  (∀ a, (k0_off34 v1746) a + S1x784.size a ≤ S20000x784.size a) ∧
  (∀ a, (k0_off134 v1746) a + S1x784.size a ≤ S20000x784.size a)
theorem k0_off34_inb : ∀ (v1746 : BitVec 32) (k0_hw32 : k0_chk32 v1746), ∀ a, (k0_off34 v1746) a + S1x784.size a ≤ S20000x784.size a := fun v1746 k0_hw32 => k0_hw32.1
theorem k0_off134_inb : ∀ (v1746 : BitVec 32) (k0_hw32 : k0_chk32 v1746), ∀ a, (k0_off134 v1746) a + S1x784.size a ≤ S20000x784.size a := fun v1746 k0_hw32 => k0_hw32.2

def k0_off135 (v1752 : BitVec 32) : Fin 2 → Nat :=
  let c0_i32_990 : BitVec 32 := 0#32
  let v1753 : BitVec 32 := Scalar.maxsi v1752 c0_i32_990
  let c0_i32_1532 : BitVec 32 := 0#32
  ![v1753.toNat, 0]

def k0_chk33 (v1752 : BitVec 32) : Prop :=
  (∀ a, (k0_off35 v1752) a + S1x784.size a ≤ S20000x784.size a) ∧
  (∀ a, (k0_off135 v1752) a + S1x784.size a ≤ S20000x784.size a)
theorem k0_off35_inb : ∀ (v1752 : BitVec 32) (k0_hw33 : k0_chk33 v1752), ∀ a, (k0_off35 v1752) a + S1x784.size a ≤ S20000x784.size a := fun v1752 k0_hw33 => k0_hw33.1
theorem k0_off135_inb : ∀ (v1752 : BitVec 32) (k0_hw33 : k0_chk33 v1752), ∀ a, (k0_off135 v1752) a + S1x784.size a ≤ S20000x784.size a := fun v1752 k0_hw33 => k0_hw33.2

def k0_off136 (v1758 : BitVec 32) : Fin 2 → Nat :=
  let c0_i32_996 : BitVec 32 := 0#32
  let v1759 : BitVec 32 := Scalar.maxsi v1758 c0_i32_996
  let c0_i32_1536 : BitVec 32 := 0#32
  ![v1759.toNat, 0]

def k0_chk34 (v1758 : BitVec 32) : Prop :=
  (∀ a, (k0_off36 v1758) a + S1x784.size a ≤ S20000x784.size a) ∧
  (∀ a, (k0_off136 v1758) a + S1x784.size a ≤ S20000x784.size a)
theorem k0_off36_inb : ∀ (v1758 : BitVec 32) (k0_hw34 : k0_chk34 v1758), ∀ a, (k0_off36 v1758) a + S1x784.size a ≤ S20000x784.size a := fun v1758 k0_hw34 => k0_hw34.1
theorem k0_off136_inb : ∀ (v1758 : BitVec 32) (k0_hw34 : k0_chk34 v1758), ∀ a, (k0_off136 v1758) a + S1x784.size a ≤ S20000x784.size a := fun v1758 k0_hw34 => k0_hw34.2

def k0_off137 (v1764 : BitVec 32) : Fin 2 → Nat :=
  let c0_i32_1002 : BitVec 32 := 0#32
  let v1765 : BitVec 32 := Scalar.maxsi v1764 c0_i32_1002
  let c0_i32_1540 : BitVec 32 := 0#32
  ![v1765.toNat, 0]

def k0_chk35 (v1764 : BitVec 32) : Prop :=
  (∀ a, (k0_off37 v1764) a + S1x784.size a ≤ S20000x784.size a) ∧
  (∀ a, (k0_off137 v1764) a + S1x784.size a ≤ S20000x784.size a)
theorem k0_off37_inb : ∀ (v1764 : BitVec 32) (k0_hw35 : k0_chk35 v1764), ∀ a, (k0_off37 v1764) a + S1x784.size a ≤ S20000x784.size a := fun v1764 k0_hw35 => k0_hw35.1
theorem k0_off137_inb : ∀ (v1764 : BitVec 32) (k0_hw35 : k0_chk35 v1764), ∀ a, (k0_off137 v1764) a + S1x784.size a ≤ S20000x784.size a := fun v1764 k0_hw35 => k0_hw35.2

def k0_off138 (v1770 : BitVec 32) : Fin 2 → Nat :=
  let c0_i32_1009 : BitVec 32 := 0#32
  let v1771 : BitVec 32 := Scalar.maxsi v1770 c0_i32_1009
  let c0_i32_1544 : BitVec 32 := 0#32
  ![v1771.toNat, 0]

def k0_chk36 (v1770 : BitVec 32) : Prop :=
  (∀ a, (k0_off38 v1770) a + S1x784.size a ≤ S20000x784.size a) ∧
  (∀ a, (k0_off138 v1770) a + S1x784.size a ≤ S20000x784.size a)
theorem k0_off38_inb : ∀ (v1770 : BitVec 32) (k0_hw36 : k0_chk36 v1770), ∀ a, (k0_off38 v1770) a + S1x784.size a ≤ S20000x784.size a := fun v1770 k0_hw36 => k0_hw36.1
theorem k0_off138_inb : ∀ (v1770 : BitVec 32) (k0_hw36 : k0_chk36 v1770), ∀ a, (k0_off138 v1770) a + S1x784.size a ≤ S20000x784.size a := fun v1770 k0_hw36 => k0_hw36.2

def k0_off139 (v1776 : BitVec 32) : Fin 2 → Nat :=
  let c0_i32_1015 : BitVec 32 := 0#32
  let v1777 : BitVec 32 := Scalar.maxsi v1776 c0_i32_1015
  let c0_i32_1548 : BitVec 32 := 0#32
  ![v1777.toNat, 0]

def k0_chk37 (v1776 : BitVec 32) : Prop :=
  (∀ a, (k0_off39 v1776) a + S1x784.size a ≤ S20000x784.size a) ∧
  (∀ a, (k0_off139 v1776) a + S1x784.size a ≤ S20000x784.size a)
theorem k0_off39_inb : ∀ (v1776 : BitVec 32) (k0_hw37 : k0_chk37 v1776), ∀ a, (k0_off39 v1776) a + S1x784.size a ≤ S20000x784.size a := fun v1776 k0_hw37 => k0_hw37.1
theorem k0_off139_inb : ∀ (v1776 : BitVec 32) (k0_hw37 : k0_chk37 v1776), ∀ a, (k0_off139 v1776) a + S1x784.size a ≤ S20000x784.size a := fun v1776 k0_hw37 => k0_hw37.2

def k0_off140 (v1782 : BitVec 32) : Fin 2 → Nat :=
  let c0_i32_1021 : BitVec 32 := 0#32
  let v1783 : BitVec 32 := Scalar.maxsi v1782 c0_i32_1021
  let c0_i32_1552 : BitVec 32 := 0#32
  ![v1783.toNat, 0]

def k0_chk38 (v1782 : BitVec 32) : Prop :=
  (∀ a, (k0_off40 v1782) a + S1x784.size a ≤ S20000x784.size a) ∧
  (∀ a, (k0_off140 v1782) a + S1x784.size a ≤ S20000x784.size a)
theorem k0_off40_inb : ∀ (v1782 : BitVec 32) (k0_hw38 : k0_chk38 v1782), ∀ a, (k0_off40 v1782) a + S1x784.size a ≤ S20000x784.size a := fun v1782 k0_hw38 => k0_hw38.1
theorem k0_off140_inb : ∀ (v1782 : BitVec 32) (k0_hw38 : k0_chk38 v1782), ∀ a, (k0_off140 v1782) a + S1x784.size a ≤ S20000x784.size a := fun v1782 k0_hw38 => k0_hw38.2

def k0_off141 (v1788 : BitVec 32) : Fin 2 → Nat :=
  let c0_i32_1027 : BitVec 32 := 0#32
  let v1789 : BitVec 32 := Scalar.maxsi v1788 c0_i32_1027
  let c0_i32_1556 : BitVec 32 := 0#32
  ![v1789.toNat, 0]

def k0_chk39 (v1788 : BitVec 32) : Prop :=
  (∀ a, (k0_off41 v1788) a + S1x784.size a ≤ S20000x784.size a) ∧
  (∀ a, (k0_off141 v1788) a + S1x784.size a ≤ S20000x784.size a)
theorem k0_off41_inb : ∀ (v1788 : BitVec 32) (k0_hw39 : k0_chk39 v1788), ∀ a, (k0_off41 v1788) a + S1x784.size a ≤ S20000x784.size a := fun v1788 k0_hw39 => k0_hw39.1
theorem k0_off141_inb : ∀ (v1788 : BitVec 32) (k0_hw39 : k0_chk39 v1788), ∀ a, (k0_off141 v1788) a + S1x784.size a ≤ S20000x784.size a := fun v1788 k0_hw39 => k0_hw39.2

def k0_off142 (v1794 : BitVec 32) : Fin 2 → Nat :=
  let c0_i32_1033 : BitVec 32 := 0#32
  let v1795 : BitVec 32 := Scalar.maxsi v1794 c0_i32_1033
  let c0_i32_1560 : BitVec 32 := 0#32
  ![v1795.toNat, 0]

def k0_chk40 (v1794 : BitVec 32) : Prop :=
  (∀ a, (k0_off42 v1794) a + S1x784.size a ≤ S20000x784.size a) ∧
  (∀ a, (k0_off142 v1794) a + S1x784.size a ≤ S20000x784.size a)
theorem k0_off42_inb : ∀ (v1794 : BitVec 32) (k0_hw40 : k0_chk40 v1794), ∀ a, (k0_off42 v1794) a + S1x784.size a ≤ S20000x784.size a := fun v1794 k0_hw40 => k0_hw40.1
theorem k0_off142_inb : ∀ (v1794 : BitVec 32) (k0_hw40 : k0_chk40 v1794), ∀ a, (k0_off142 v1794) a + S1x784.size a ≤ S20000x784.size a := fun v1794 k0_hw40 => k0_hw40.2

def k0_off143 (v1800 : BitVec 32) : Fin 2 → Nat :=
  let c0_i32_1039 : BitVec 32 := 0#32
  let v1801 : BitVec 32 := Scalar.maxsi v1800 c0_i32_1039
  let c0_i32_1564 : BitVec 32 := 0#32
  ![v1801.toNat, 0]

def k0_chk41 (v1800 : BitVec 32) : Prop :=
  (∀ a, (k0_off43 v1800) a + S1x784.size a ≤ S20000x784.size a) ∧
  (∀ a, (k0_off143 v1800) a + S1x784.size a ≤ S20000x784.size a)
theorem k0_off43_inb : ∀ (v1800 : BitVec 32) (k0_hw41 : k0_chk41 v1800), ∀ a, (k0_off43 v1800) a + S1x784.size a ≤ S20000x784.size a := fun v1800 k0_hw41 => k0_hw41.1
theorem k0_off143_inb : ∀ (v1800 : BitVec 32) (k0_hw41 : k0_chk41 v1800), ∀ a, (k0_off143 v1800) a + S1x784.size a ≤ S20000x784.size a := fun v1800 k0_hw41 => k0_hw41.2

def k0_off144 (v1806 : BitVec 32) : Fin 2 → Nat :=
  let c0_i32_1045 : BitVec 32 := 0#32
  let v1807 : BitVec 32 := Scalar.maxsi v1806 c0_i32_1045
  let c0_i32_1568 : BitVec 32 := 0#32
  ![v1807.toNat, 0]

def k0_chk42 (v1806 : BitVec 32) : Prop :=
  (∀ a, (k0_off44 v1806) a + S1x784.size a ≤ S20000x784.size a) ∧
  (∀ a, (k0_off144 v1806) a + S1x784.size a ≤ S20000x784.size a)
theorem k0_off44_inb : ∀ (v1806 : BitVec 32) (k0_hw42 : k0_chk42 v1806), ∀ a, (k0_off44 v1806) a + S1x784.size a ≤ S20000x784.size a := fun v1806 k0_hw42 => k0_hw42.1
theorem k0_off144_inb : ∀ (v1806 : BitVec 32) (k0_hw42 : k0_chk42 v1806), ∀ a, (k0_off144 v1806) a + S1x784.size a ≤ S20000x784.size a := fun v1806 k0_hw42 => k0_hw42.2

def k0_off145 (v1812 : BitVec 32) : Fin 2 → Nat :=
  let c0_i32_1051 : BitVec 32 := 0#32
  let v1813 : BitVec 32 := Scalar.maxsi v1812 c0_i32_1051
  let c0_i32_1572 : BitVec 32 := 0#32
  ![v1813.toNat, 0]

def k0_chk43 (v1812 : BitVec 32) : Prop :=
  (∀ a, (k0_off45 v1812) a + S1x784.size a ≤ S20000x784.size a) ∧
  (∀ a, (k0_off145 v1812) a + S1x784.size a ≤ S20000x784.size a)
theorem k0_off45_inb : ∀ (v1812 : BitVec 32) (k0_hw43 : k0_chk43 v1812), ∀ a, (k0_off45 v1812) a + S1x784.size a ≤ S20000x784.size a := fun v1812 k0_hw43 => k0_hw43.1
theorem k0_off145_inb : ∀ (v1812 : BitVec 32) (k0_hw43 : k0_chk43 v1812), ∀ a, (k0_off145 v1812) a + S1x784.size a ≤ S20000x784.size a := fun v1812 k0_hw43 => k0_hw43.2

def k0_off146 (v1818 : BitVec 32) : Fin 2 → Nat :=
  let c0_i32_1057 : BitVec 32 := 0#32
  let v1819 : BitVec 32 := Scalar.maxsi v1818 c0_i32_1057
  let c0_i32_1576 : BitVec 32 := 0#32
  ![v1819.toNat, 0]

def k0_chk44 (v1818 : BitVec 32) : Prop :=
  (∀ a, (k0_off46 v1818) a + S1x784.size a ≤ S20000x784.size a) ∧
  (∀ a, (k0_off146 v1818) a + S1x784.size a ≤ S20000x784.size a)
theorem k0_off46_inb : ∀ (v1818 : BitVec 32) (k0_hw44 : k0_chk44 v1818), ∀ a, (k0_off46 v1818) a + S1x784.size a ≤ S20000x784.size a := fun v1818 k0_hw44 => k0_hw44.1
theorem k0_off146_inb : ∀ (v1818 : BitVec 32) (k0_hw44 : k0_chk44 v1818), ∀ a, (k0_off146 v1818) a + S1x784.size a ≤ S20000x784.size a := fun v1818 k0_hw44 => k0_hw44.2

def k0_off147 (v1824 : BitVec 32) : Fin 2 → Nat :=
  let c0_i32_1063 : BitVec 32 := 0#32
  let v1825 : BitVec 32 := Scalar.maxsi v1824 c0_i32_1063
  let c0_i32_1580 : BitVec 32 := 0#32
  ![v1825.toNat, 0]

def k0_chk45 (v1824 : BitVec 32) : Prop :=
  (∀ a, (k0_off47 v1824) a + S1x784.size a ≤ S20000x784.size a) ∧
  (∀ a, (k0_off147 v1824) a + S1x784.size a ≤ S20000x784.size a)
theorem k0_off47_inb : ∀ (v1824 : BitVec 32) (k0_hw45 : k0_chk45 v1824), ∀ a, (k0_off47 v1824) a + S1x784.size a ≤ S20000x784.size a := fun v1824 k0_hw45 => k0_hw45.1
theorem k0_off147_inb : ∀ (v1824 : BitVec 32) (k0_hw45 : k0_chk45 v1824), ∀ a, (k0_off147 v1824) a + S1x784.size a ≤ S20000x784.size a := fun v1824 k0_hw45 => k0_hw45.2

def k0_off148 (v1830 : BitVec 32) : Fin 2 → Nat :=
  let c0_i32_1069 : BitVec 32 := 0#32
  let v1831 : BitVec 32 := Scalar.maxsi v1830 c0_i32_1069
  let c0_i32_1584 : BitVec 32 := 0#32
  ![v1831.toNat, 0]

def k0_chk46 (v1830 : BitVec 32) : Prop :=
  (∀ a, (k0_off48 v1830) a + S1x784.size a ≤ S20000x784.size a) ∧
  (∀ a, (k0_off148 v1830) a + S1x784.size a ≤ S20000x784.size a)
theorem k0_off48_inb : ∀ (v1830 : BitVec 32) (k0_hw46 : k0_chk46 v1830), ∀ a, (k0_off48 v1830) a + S1x784.size a ≤ S20000x784.size a := fun v1830 k0_hw46 => k0_hw46.1
theorem k0_off148_inb : ∀ (v1830 : BitVec 32) (k0_hw46 : k0_chk46 v1830), ∀ a, (k0_off148 v1830) a + S1x784.size a ≤ S20000x784.size a := fun v1830 k0_hw46 => k0_hw46.2

def k0_off149 (v1836 : BitVec 32) : Fin 2 → Nat :=
  let c0_i32_1075 : BitVec 32 := 0#32
  let v1837 : BitVec 32 := Scalar.maxsi v1836 c0_i32_1075
  let c0_i32_1588 : BitVec 32 := 0#32
  ![v1837.toNat, 0]

def k0_chk47 (v1836 : BitVec 32) : Prop :=
  (∀ a, (k0_off49 v1836) a + S1x784.size a ≤ S20000x784.size a) ∧
  (∀ a, (k0_off149 v1836) a + S1x784.size a ≤ S20000x784.size a)
theorem k0_off49_inb : ∀ (v1836 : BitVec 32) (k0_hw47 : k0_chk47 v1836), ∀ a, (k0_off49 v1836) a + S1x784.size a ≤ S20000x784.size a := fun v1836 k0_hw47 => k0_hw47.1
theorem k0_off149_inb : ∀ (v1836 : BitVec 32) (k0_hw47 : k0_chk47 v1836), ∀ a, (k0_off149 v1836) a + S1x784.size a ≤ S20000x784.size a := fun v1836 k0_hw47 => k0_hw47.2

def k0_off150 (v1842 : BitVec 32) : Fin 2 → Nat :=
  let c0_i32_1081 : BitVec 32 := 0#32
  let v1843 : BitVec 32 := Scalar.maxsi v1842 c0_i32_1081
  let c0_i32_1592 : BitVec 32 := 0#32
  ![v1843.toNat, 0]

def k0_chk48 (v1842 : BitVec 32) : Prop :=
  (∀ a, (k0_off50 v1842) a + S1x784.size a ≤ S20000x784.size a) ∧
  (∀ a, (k0_off150 v1842) a + S1x784.size a ≤ S20000x784.size a)
theorem k0_off50_inb : ∀ (v1842 : BitVec 32) (k0_hw48 : k0_chk48 v1842), ∀ a, (k0_off50 v1842) a + S1x784.size a ≤ S20000x784.size a := fun v1842 k0_hw48 => k0_hw48.1
theorem k0_off150_inb : ∀ (v1842 : BitVec 32) (k0_hw48 : k0_chk48 v1842), ∀ a, (k0_off150 v1842) a + S1x784.size a ≤ S20000x784.size a := fun v1842 k0_hw48 => k0_hw48.2

def k0_off151 (v1848 : BitVec 32) : Fin 2 → Nat :=
  let c0_i32_1087 : BitVec 32 := 0#32
  let v1849 : BitVec 32 := Scalar.maxsi v1848 c0_i32_1087
  let c0_i32_1596 : BitVec 32 := 0#32
  ![v1849.toNat, 0]

def k0_chk49 (v1848 : BitVec 32) : Prop :=
  (∀ a, (k0_off51 v1848) a + S1x784.size a ≤ S20000x784.size a) ∧
  (∀ a, (k0_off151 v1848) a + S1x784.size a ≤ S20000x784.size a)
theorem k0_off51_inb : ∀ (v1848 : BitVec 32) (k0_hw49 : k0_chk49 v1848), ∀ a, (k0_off51 v1848) a + S1x784.size a ≤ S20000x784.size a := fun v1848 k0_hw49 => k0_hw49.1
theorem k0_off151_inb : ∀ (v1848 : BitVec 32) (k0_hw49 : k0_chk49 v1848), ∀ a, (k0_off151 v1848) a + S1x784.size a ≤ S20000x784.size a := fun v1848 k0_hw49 => k0_hw49.2

def k0_off152 (v1854 : BitVec 32) : Fin 2 → Nat :=
  let c0_i32_1093 : BitVec 32 := 0#32
  let v1855 : BitVec 32 := Scalar.maxsi v1854 c0_i32_1093
  let c0_i32_1600 : BitVec 32 := 0#32
  ![v1855.toNat, 0]

def k0_chk50 (v1854 : BitVec 32) : Prop :=
  (∀ a, (k0_off52 v1854) a + S1x784.size a ≤ S20000x784.size a) ∧
  (∀ a, (k0_off152 v1854) a + S1x784.size a ≤ S20000x784.size a)
theorem k0_off52_inb : ∀ (v1854 : BitVec 32) (k0_hw50 : k0_chk50 v1854), ∀ a, (k0_off52 v1854) a + S1x784.size a ≤ S20000x784.size a := fun v1854 k0_hw50 => k0_hw50.1
theorem k0_off152_inb : ∀ (v1854 : BitVec 32) (k0_hw50 : k0_chk50 v1854), ∀ a, (k0_off152 v1854) a + S1x784.size a ≤ S20000x784.size a := fun v1854 k0_hw50 => k0_hw50.2

def k0_off153 (v1860 : BitVec 32) : Fin 2 → Nat :=
  let c0_i32_1099 : BitVec 32 := 0#32
  let v1861 : BitVec 32 := Scalar.maxsi v1860 c0_i32_1099
  let c0_i32_1604 : BitVec 32 := 0#32
  ![v1861.toNat, 0]

def k0_chk51 (v1860 : BitVec 32) : Prop :=
  (∀ a, (k0_off53 v1860) a + S1x784.size a ≤ S20000x784.size a) ∧
  (∀ a, (k0_off153 v1860) a + S1x784.size a ≤ S20000x784.size a)
theorem k0_off53_inb : ∀ (v1860 : BitVec 32) (k0_hw51 : k0_chk51 v1860), ∀ a, (k0_off53 v1860) a + S1x784.size a ≤ S20000x784.size a := fun v1860 k0_hw51 => k0_hw51.1
theorem k0_off153_inb : ∀ (v1860 : BitVec 32) (k0_hw51 : k0_chk51 v1860), ∀ a, (k0_off153 v1860) a + S1x784.size a ≤ S20000x784.size a := fun v1860 k0_hw51 => k0_hw51.2

def k0_off154 (v1866 : BitVec 32) : Fin 2 → Nat :=
  let c0_i32_1105 : BitVec 32 := 0#32
  let v1867 : BitVec 32 := Scalar.maxsi v1866 c0_i32_1105
  let c0_i32_1608 : BitVec 32 := 0#32
  ![v1867.toNat, 0]

def k0_chk52 (v1866 : BitVec 32) : Prop :=
  (∀ a, (k0_off54 v1866) a + S1x784.size a ≤ S20000x784.size a) ∧
  (∀ a, (k0_off154 v1866) a + S1x784.size a ≤ S20000x784.size a)
theorem k0_off54_inb : ∀ (v1866 : BitVec 32) (k0_hw52 : k0_chk52 v1866), ∀ a, (k0_off54 v1866) a + S1x784.size a ≤ S20000x784.size a := fun v1866 k0_hw52 => k0_hw52.1
theorem k0_off154_inb : ∀ (v1866 : BitVec 32) (k0_hw52 : k0_chk52 v1866), ∀ a, (k0_off154 v1866) a + S1x784.size a ≤ S20000x784.size a := fun v1866 k0_hw52 => k0_hw52.2

def k0_off155 (v1872 : BitVec 32) : Fin 2 → Nat :=
  let c0_i32_1111 : BitVec 32 := 0#32
  let v1873 : BitVec 32 := Scalar.maxsi v1872 c0_i32_1111
  let c0_i32_1612 : BitVec 32 := 0#32
  ![v1873.toNat, 0]

def k0_chk53 (v1872 : BitVec 32) : Prop :=
  (∀ a, (k0_off55 v1872) a + S1x784.size a ≤ S20000x784.size a) ∧
  (∀ a, (k0_off155 v1872) a + S1x784.size a ≤ S20000x784.size a)
theorem k0_off55_inb : ∀ (v1872 : BitVec 32) (k0_hw53 : k0_chk53 v1872), ∀ a, (k0_off55 v1872) a + S1x784.size a ≤ S20000x784.size a := fun v1872 k0_hw53 => k0_hw53.1
theorem k0_off155_inb : ∀ (v1872 : BitVec 32) (k0_hw53 : k0_chk53 v1872), ∀ a, (k0_off155 v1872) a + S1x784.size a ≤ S20000x784.size a := fun v1872 k0_hw53 => k0_hw53.2

def k0_off156 (v1878 : BitVec 32) : Fin 2 → Nat :=
  let c0_i32_1117 : BitVec 32 := 0#32
  let v1879 : BitVec 32 := Scalar.maxsi v1878 c0_i32_1117
  let c0_i32_1616 : BitVec 32 := 0#32
  ![v1879.toNat, 0]

def k0_chk54 (v1878 : BitVec 32) : Prop :=
  (∀ a, (k0_off56 v1878) a + S1x784.size a ≤ S20000x784.size a) ∧
  (∀ a, (k0_off156 v1878) a + S1x784.size a ≤ S20000x784.size a)
theorem k0_off56_inb : ∀ (v1878 : BitVec 32) (k0_hw54 : k0_chk54 v1878), ∀ a, (k0_off56 v1878) a + S1x784.size a ≤ S20000x784.size a := fun v1878 k0_hw54 => k0_hw54.1
theorem k0_off156_inb : ∀ (v1878 : BitVec 32) (k0_hw54 : k0_chk54 v1878), ∀ a, (k0_off156 v1878) a + S1x784.size a ≤ S20000x784.size a := fun v1878 k0_hw54 => k0_hw54.2

def k0_off157 (v1884 : BitVec 32) : Fin 2 → Nat :=
  let c0_i32_1123 : BitVec 32 := 0#32
  let v1885 : BitVec 32 := Scalar.maxsi v1884 c0_i32_1123
  let c0_i32_1620 : BitVec 32 := 0#32
  ![v1885.toNat, 0]

def k0_chk55 (v1884 : BitVec 32) : Prop :=
  (∀ a, (k0_off57 v1884) a + S1x784.size a ≤ S20000x784.size a) ∧
  (∀ a, (k0_off157 v1884) a + S1x784.size a ≤ S20000x784.size a)
theorem k0_off57_inb : ∀ (v1884 : BitVec 32) (k0_hw55 : k0_chk55 v1884), ∀ a, (k0_off57 v1884) a + S1x784.size a ≤ S20000x784.size a := fun v1884 k0_hw55 => k0_hw55.1
theorem k0_off157_inb : ∀ (v1884 : BitVec 32) (k0_hw55 : k0_chk55 v1884), ∀ a, (k0_off157 v1884) a + S1x784.size a ≤ S20000x784.size a := fun v1884 k0_hw55 => k0_hw55.2

def k0_off158 (v1890 : BitVec 32) : Fin 2 → Nat :=
  let c0_i32_1129 : BitVec 32 := 0#32
  let v1891 : BitVec 32 := Scalar.maxsi v1890 c0_i32_1129
  let c0_i32_1624 : BitVec 32 := 0#32
  ![v1891.toNat, 0]

def k0_chk56 (v1890 : BitVec 32) : Prop :=
  (∀ a, (k0_off58 v1890) a + S1x784.size a ≤ S20000x784.size a) ∧
  (∀ a, (k0_off158 v1890) a + S1x784.size a ≤ S20000x784.size a)
theorem k0_off58_inb : ∀ (v1890 : BitVec 32) (k0_hw56 : k0_chk56 v1890), ∀ a, (k0_off58 v1890) a + S1x784.size a ≤ S20000x784.size a := fun v1890 k0_hw56 => k0_hw56.1
theorem k0_off158_inb : ∀ (v1890 : BitVec 32) (k0_hw56 : k0_chk56 v1890), ∀ a, (k0_off158 v1890) a + S1x784.size a ≤ S20000x784.size a := fun v1890 k0_hw56 => k0_hw56.2

def k0_off159 (v1896 : BitVec 32) : Fin 2 → Nat :=
  let c0_i32_1135 : BitVec 32 := 0#32
  let v1897 : BitVec 32 := Scalar.maxsi v1896 c0_i32_1135
  let c0_i32_1628 : BitVec 32 := 0#32
  ![v1897.toNat, 0]

def k0_chk57 (v1896 : BitVec 32) : Prop :=
  (∀ a, (k0_off59 v1896) a + S1x784.size a ≤ S20000x784.size a) ∧
  (∀ a, (k0_off159 v1896) a + S1x784.size a ≤ S20000x784.size a)
theorem k0_off59_inb : ∀ (v1896 : BitVec 32) (k0_hw57 : k0_chk57 v1896), ∀ a, (k0_off59 v1896) a + S1x784.size a ≤ S20000x784.size a := fun v1896 k0_hw57 => k0_hw57.1
theorem k0_off159_inb : ∀ (v1896 : BitVec 32) (k0_hw57 : k0_chk57 v1896), ∀ a, (k0_off159 v1896) a + S1x784.size a ≤ S20000x784.size a := fun v1896 k0_hw57 => k0_hw57.2

def k0_off160 (v1902 : BitVec 32) : Fin 2 → Nat :=
  let c0_i32_1141 : BitVec 32 := 0#32
  let v1903 : BitVec 32 := Scalar.maxsi v1902 c0_i32_1141
  let c0_i32_1632 : BitVec 32 := 0#32
  ![v1903.toNat, 0]

def k0_chk58 (v1902 : BitVec 32) : Prop :=
  (∀ a, (k0_off60 v1902) a + S1x784.size a ≤ S20000x784.size a) ∧
  (∀ a, (k0_off160 v1902) a + S1x784.size a ≤ S20000x784.size a)
theorem k0_off60_inb : ∀ (v1902 : BitVec 32) (k0_hw58 : k0_chk58 v1902), ∀ a, (k0_off60 v1902) a + S1x784.size a ≤ S20000x784.size a := fun v1902 k0_hw58 => k0_hw58.1
theorem k0_off160_inb : ∀ (v1902 : BitVec 32) (k0_hw58 : k0_chk58 v1902), ∀ a, (k0_off160 v1902) a + S1x784.size a ≤ S20000x784.size a := fun v1902 k0_hw58 => k0_hw58.2

def k0_off161 (v1908 : BitVec 32) : Fin 2 → Nat :=
  let c0_i32_1147 : BitVec 32 := 0#32
  let v1909 : BitVec 32 := Scalar.maxsi v1908 c0_i32_1147
  let c0_i32_1636 : BitVec 32 := 0#32
  ![v1909.toNat, 0]

def k0_chk59 (v1908 : BitVec 32) : Prop :=
  (∀ a, (k0_off61 v1908) a + S1x784.size a ≤ S20000x784.size a) ∧
  (∀ a, (k0_off161 v1908) a + S1x784.size a ≤ S20000x784.size a)
theorem k0_off61_inb : ∀ (v1908 : BitVec 32) (k0_hw59 : k0_chk59 v1908), ∀ a, (k0_off61 v1908) a + S1x784.size a ≤ S20000x784.size a := fun v1908 k0_hw59 => k0_hw59.1
theorem k0_off161_inb : ∀ (v1908 : BitVec 32) (k0_hw59 : k0_chk59 v1908), ∀ a, (k0_off161 v1908) a + S1x784.size a ≤ S20000x784.size a := fun v1908 k0_hw59 => k0_hw59.2

def k0_off162 (v1914 : BitVec 32) : Fin 2 → Nat :=
  let c0_i32_1153 : BitVec 32 := 0#32
  let v1915 : BitVec 32 := Scalar.maxsi v1914 c0_i32_1153
  let c0_i32_1640 : BitVec 32 := 0#32
  ![v1915.toNat, 0]

def k0_chk60 (v1914 : BitVec 32) : Prop :=
  (∀ a, (k0_off62 v1914) a + S1x784.size a ≤ S20000x784.size a) ∧
  (∀ a, (k0_off162 v1914) a + S1x784.size a ≤ S20000x784.size a)
theorem k0_off62_inb : ∀ (v1914 : BitVec 32) (k0_hw60 : k0_chk60 v1914), ∀ a, (k0_off62 v1914) a + S1x784.size a ≤ S20000x784.size a := fun v1914 k0_hw60 => k0_hw60.1
theorem k0_off162_inb : ∀ (v1914 : BitVec 32) (k0_hw60 : k0_chk60 v1914), ∀ a, (k0_off162 v1914) a + S1x784.size a ≤ S20000x784.size a := fun v1914 k0_hw60 => k0_hw60.2

def k0_off163 (v1920 : BitVec 32) : Fin 2 → Nat :=
  let c0_i32_1159 : BitVec 32 := 0#32
  let v1921 : BitVec 32 := Scalar.maxsi v1920 c0_i32_1159
  let c0_i32_1644 : BitVec 32 := 0#32
  ![v1921.toNat, 0]

def k0_chk61 (v1920 : BitVec 32) : Prop :=
  (∀ a, (k0_off63 v1920) a + S1x784.size a ≤ S20000x784.size a) ∧
  (∀ a, (k0_off163 v1920) a + S1x784.size a ≤ S20000x784.size a)
theorem k0_off63_inb : ∀ (v1920 : BitVec 32) (k0_hw61 : k0_chk61 v1920), ∀ a, (k0_off63 v1920) a + S1x784.size a ≤ S20000x784.size a := fun v1920 k0_hw61 => k0_hw61.1
theorem k0_off163_inb : ∀ (v1920 : BitVec 32) (k0_hw61 : k0_chk61 v1920), ∀ a, (k0_off163 v1920) a + S1x784.size a ≤ S20000x784.size a := fun v1920 k0_hw61 => k0_hw61.2

def k0_off164 (v1926 : BitVec 32) : Fin 2 → Nat :=
  let c0_i32_1165 : BitVec 32 := 0#32
  let v1927 : BitVec 32 := Scalar.maxsi v1926 c0_i32_1165
  let c0_i32_1648 : BitVec 32 := 0#32
  ![v1927.toNat, 0]

def k0_chk62 (v1926 : BitVec 32) : Prop :=
  (∀ a, (k0_off64 v1926) a + S1x784.size a ≤ S20000x784.size a) ∧
  (∀ a, (k0_off164 v1926) a + S1x784.size a ≤ S20000x784.size a)
theorem k0_off64_inb : ∀ (v1926 : BitVec 32) (k0_hw62 : k0_chk62 v1926), ∀ a, (k0_off64 v1926) a + S1x784.size a ≤ S20000x784.size a := fun v1926 k0_hw62 => k0_hw62.1
theorem k0_off164_inb : ∀ (v1926 : BitVec 32) (k0_hw62 : k0_chk62 v1926), ∀ a, (k0_off164 v1926) a + S1x784.size a ≤ S20000x784.size a := fun v1926 k0_hw62 => k0_hw62.2

def k0_off165 (v1932 : BitVec 32) : Fin 2 → Nat :=
  let c0_i32_1171 : BitVec 32 := 0#32
  let v1933 : BitVec 32 := Scalar.maxsi v1932 c0_i32_1171
  let c0_i32_1652 : BitVec 32 := 0#32
  ![v1933.toNat, 0]

def k0_chk63 (v1932 : BitVec 32) : Prop :=
  (∀ a, (k0_off65 v1932) a + S1x784.size a ≤ S20000x784.size a) ∧
  (∀ a, (k0_off165 v1932) a + S1x784.size a ≤ S20000x784.size a)
theorem k0_off65_inb : ∀ (v1932 : BitVec 32) (k0_hw63 : k0_chk63 v1932), ∀ a, (k0_off65 v1932) a + S1x784.size a ≤ S20000x784.size a := fun v1932 k0_hw63 => k0_hw63.1
theorem k0_off165_inb : ∀ (v1932 : BitVec 32) (k0_hw63 : k0_chk63 v1932), ∀ a, (k0_off165 v1932) a + S1x784.size a ≤ S20000x784.size a := fun v1932 k0_hw63 => k0_hw63.2

def k0_off166 (v1938 : BitVec 32) : Fin 2 → Nat :=
  let c0_i32_1177 : BitVec 32 := 0#32
  let v1939 : BitVec 32 := Scalar.maxsi v1938 c0_i32_1177
  let c0_i32_1656 : BitVec 32 := 0#32
  ![v1939.toNat, 0]

def k0_chk64 (v1938 : BitVec 32) : Prop :=
  (∀ a, (k0_off66 v1938) a + S1x784.size a ≤ S20000x784.size a) ∧
  (∀ a, (k0_off166 v1938) a + S1x784.size a ≤ S20000x784.size a)
theorem k0_off66_inb : ∀ (v1938 : BitVec 32) (k0_hw64 : k0_chk64 v1938), ∀ a, (k0_off66 v1938) a + S1x784.size a ≤ S20000x784.size a := fun v1938 k0_hw64 => k0_hw64.1
theorem k0_off166_inb : ∀ (v1938 : BitVec 32) (k0_hw64 : k0_chk64 v1938), ∀ a, (k0_off166 v1938) a + S1x784.size a ≤ S20000x784.size a := fun v1938 k0_hw64 => k0_hw64.2

def k0_off167 (v1944 : BitVec 32) : Fin 2 → Nat :=
  let c0_i32_1183 : BitVec 32 := 0#32
  let v1945 : BitVec 32 := Scalar.maxsi v1944 c0_i32_1183
  let c0_i32_1660 : BitVec 32 := 0#32
  ![v1945.toNat, 0]

def k0_chk65 (v1944 : BitVec 32) : Prop :=
  (∀ a, (k0_off67 v1944) a + S1x784.size a ≤ S20000x784.size a) ∧
  (∀ a, (k0_off167 v1944) a + S1x784.size a ≤ S20000x784.size a)
theorem k0_off67_inb : ∀ (v1944 : BitVec 32) (k0_hw65 : k0_chk65 v1944), ∀ a, (k0_off67 v1944) a + S1x784.size a ≤ S20000x784.size a := fun v1944 k0_hw65 => k0_hw65.1
theorem k0_off167_inb : ∀ (v1944 : BitVec 32) (k0_hw65 : k0_chk65 v1944), ∀ a, (k0_off167 v1944) a + S1x784.size a ≤ S20000x784.size a := fun v1944 k0_hw65 => k0_hw65.2

def k0_off168 (v1950 : BitVec 32) : Fin 2 → Nat :=
  let c0_i32_1189 : BitVec 32 := 0#32
  let v1951 : BitVec 32 := Scalar.maxsi v1950 c0_i32_1189
  let c0_i32_1664 : BitVec 32 := 0#32
  ![v1951.toNat, 0]

def k0_chk66 (v1950 : BitVec 32) : Prop :=
  (∀ a, (k0_off68 v1950) a + S1x784.size a ≤ S20000x784.size a) ∧
  (∀ a, (k0_off168 v1950) a + S1x784.size a ≤ S20000x784.size a)
theorem k0_off68_inb : ∀ (v1950 : BitVec 32) (k0_hw66 : k0_chk66 v1950), ∀ a, (k0_off68 v1950) a + S1x784.size a ≤ S20000x784.size a := fun v1950 k0_hw66 => k0_hw66.1
theorem k0_off168_inb : ∀ (v1950 : BitVec 32) (k0_hw66 : k0_chk66 v1950), ∀ a, (k0_off168 v1950) a + S1x784.size a ≤ S20000x784.size a := fun v1950 k0_hw66 => k0_hw66.2

def k0_off169 (v1956 : BitVec 32) : Fin 2 → Nat :=
  let c0_i32_1195 : BitVec 32 := 0#32
  let v1957 : BitVec 32 := Scalar.maxsi v1956 c0_i32_1195
  let c0_i32_1668 : BitVec 32 := 0#32
  ![v1957.toNat, 0]

def k0_chk67 (v1956 : BitVec 32) : Prop :=
  (∀ a, (k0_off69 v1956) a + S1x784.size a ≤ S20000x784.size a) ∧
  (∀ a, (k0_off169 v1956) a + S1x784.size a ≤ S20000x784.size a)
theorem k0_off69_inb : ∀ (v1956 : BitVec 32) (k0_hw67 : k0_chk67 v1956), ∀ a, (k0_off69 v1956) a + S1x784.size a ≤ S20000x784.size a := fun v1956 k0_hw67 => k0_hw67.1
theorem k0_off169_inb : ∀ (v1956 : BitVec 32) (k0_hw67 : k0_chk67 v1956), ∀ a, (k0_off169 v1956) a + S1x784.size a ≤ S20000x784.size a := fun v1956 k0_hw67 => k0_hw67.2

def k0_off170 (v1962 : BitVec 32) : Fin 2 → Nat :=
  let c0_i32_1201 : BitVec 32 := 0#32
  let v1963 : BitVec 32 := Scalar.maxsi v1962 c0_i32_1201
  let c0_i32_1672 : BitVec 32 := 0#32
  ![v1963.toNat, 0]

def k0_chk68 (v1962 : BitVec 32) : Prop :=
  (∀ a, (k0_off70 v1962) a + S1x784.size a ≤ S20000x784.size a) ∧
  (∀ a, (k0_off170 v1962) a + S1x784.size a ≤ S20000x784.size a)
theorem k0_off70_inb : ∀ (v1962 : BitVec 32) (k0_hw68 : k0_chk68 v1962), ∀ a, (k0_off70 v1962) a + S1x784.size a ≤ S20000x784.size a := fun v1962 k0_hw68 => k0_hw68.1
theorem k0_off170_inb : ∀ (v1962 : BitVec 32) (k0_hw68 : k0_chk68 v1962), ∀ a, (k0_off170 v1962) a + S1x784.size a ≤ S20000x784.size a := fun v1962 k0_hw68 => k0_hw68.2

def k0_off171 (v1968 : BitVec 32) : Fin 2 → Nat :=
  let c0_i32_1207 : BitVec 32 := 0#32
  let v1969 : BitVec 32 := Scalar.maxsi v1968 c0_i32_1207
  let c0_i32_1676 : BitVec 32 := 0#32
  ![v1969.toNat, 0]

def k0_chk69 (v1968 : BitVec 32) : Prop :=
  (∀ a, (k0_off71 v1968) a + S1x784.size a ≤ S20000x784.size a) ∧
  (∀ a, (k0_off171 v1968) a + S1x784.size a ≤ S20000x784.size a)
theorem k0_off71_inb : ∀ (v1968 : BitVec 32) (k0_hw69 : k0_chk69 v1968), ∀ a, (k0_off71 v1968) a + S1x784.size a ≤ S20000x784.size a := fun v1968 k0_hw69 => k0_hw69.1
theorem k0_off171_inb : ∀ (v1968 : BitVec 32) (k0_hw69 : k0_chk69 v1968), ∀ a, (k0_off171 v1968) a + S1x784.size a ≤ S20000x784.size a := fun v1968 k0_hw69 => k0_hw69.2

def k0_off172 (v1974 : BitVec 32) : Fin 2 → Nat :=
  let c0_i32_1213 : BitVec 32 := 0#32
  let v1975 : BitVec 32 := Scalar.maxsi v1974 c0_i32_1213
  let c0_i32_1680 : BitVec 32 := 0#32
  ![v1975.toNat, 0]

def k0_chk70 (v1974 : BitVec 32) : Prop :=
  (∀ a, (k0_off72 v1974) a + S1x784.size a ≤ S20000x784.size a) ∧
  (∀ a, (k0_off172 v1974) a + S1x784.size a ≤ S20000x784.size a)
theorem k0_off72_inb : ∀ (v1974 : BitVec 32) (k0_hw70 : k0_chk70 v1974), ∀ a, (k0_off72 v1974) a + S1x784.size a ≤ S20000x784.size a := fun v1974 k0_hw70 => k0_hw70.1
theorem k0_off172_inb : ∀ (v1974 : BitVec 32) (k0_hw70 : k0_chk70 v1974), ∀ a, (k0_off172 v1974) a + S1x784.size a ≤ S20000x784.size a := fun v1974 k0_hw70 => k0_hw70.2

def k0_off173 (v1980 : BitVec 32) : Fin 2 → Nat :=
  let c0_i32_1219 : BitVec 32 := 0#32
  let v1981 : BitVec 32 := Scalar.maxsi v1980 c0_i32_1219
  let c0_i32_1684 : BitVec 32 := 0#32
  ![v1981.toNat, 0]

def k0_chk71 (v1980 : BitVec 32) : Prop :=
  (∀ a, (k0_off73 v1980) a + S1x784.size a ≤ S20000x784.size a) ∧
  (∀ a, (k0_off173 v1980) a + S1x784.size a ≤ S20000x784.size a)
theorem k0_off73_inb : ∀ (v1980 : BitVec 32) (k0_hw71 : k0_chk71 v1980), ∀ a, (k0_off73 v1980) a + S1x784.size a ≤ S20000x784.size a := fun v1980 k0_hw71 => k0_hw71.1
theorem k0_off173_inb : ∀ (v1980 : BitVec 32) (k0_hw71 : k0_chk71 v1980), ∀ a, (k0_off173 v1980) a + S1x784.size a ≤ S20000x784.size a := fun v1980 k0_hw71 => k0_hw71.2

def k0_off174 (v1986 : BitVec 32) : Fin 2 → Nat :=
  let c0_i32_1225 : BitVec 32 := 0#32
  let v1987 : BitVec 32 := Scalar.maxsi v1986 c0_i32_1225
  let c0_i32_1688 : BitVec 32 := 0#32
  ![v1987.toNat, 0]

def k0_chk72 (v1986 : BitVec 32) : Prop :=
  (∀ a, (k0_off74 v1986) a + S1x784.size a ≤ S20000x784.size a) ∧
  (∀ a, (k0_off174 v1986) a + S1x784.size a ≤ S20000x784.size a)
theorem k0_off74_inb : ∀ (v1986 : BitVec 32) (k0_hw72 : k0_chk72 v1986), ∀ a, (k0_off74 v1986) a + S1x784.size a ≤ S20000x784.size a := fun v1986 k0_hw72 => k0_hw72.1
theorem k0_off174_inb : ∀ (v1986 : BitVec 32) (k0_hw72 : k0_chk72 v1986), ∀ a, (k0_off174 v1986) a + S1x784.size a ≤ S20000x784.size a := fun v1986 k0_hw72 => k0_hw72.2

def k0_off175 (v1992 : BitVec 32) : Fin 2 → Nat :=
  let c0_i32_1231 : BitVec 32 := 0#32
  let v1993 : BitVec 32 := Scalar.maxsi v1992 c0_i32_1231
  let c0_i32_1692 : BitVec 32 := 0#32
  ![v1993.toNat, 0]

def k0_chk73 (v1992 : BitVec 32) : Prop :=
  (∀ a, (k0_off75 v1992) a + S1x784.size a ≤ S20000x784.size a) ∧
  (∀ a, (k0_off175 v1992) a + S1x784.size a ≤ S20000x784.size a)
theorem k0_off75_inb : ∀ (v1992 : BitVec 32) (k0_hw73 : k0_chk73 v1992), ∀ a, (k0_off75 v1992) a + S1x784.size a ≤ S20000x784.size a := fun v1992 k0_hw73 => k0_hw73.1
theorem k0_off175_inb : ∀ (v1992 : BitVec 32) (k0_hw73 : k0_chk73 v1992), ∀ a, (k0_off175 v1992) a + S1x784.size a ≤ S20000x784.size a := fun v1992 k0_hw73 => k0_hw73.2

def k0_off176 (v1998 : BitVec 32) : Fin 2 → Nat :=
  let c0_i32_1237 : BitVec 32 := 0#32
  let v1999 : BitVec 32 := Scalar.maxsi v1998 c0_i32_1237
  let c0_i32_1696 : BitVec 32 := 0#32
  ![v1999.toNat, 0]

def k0_chk74 (v1998 : BitVec 32) : Prop :=
  (∀ a, (k0_off76 v1998) a + S1x784.size a ≤ S20000x784.size a) ∧
  (∀ a, (k0_off176 v1998) a + S1x784.size a ≤ S20000x784.size a)
theorem k0_off76_inb : ∀ (v1998 : BitVec 32) (k0_hw74 : k0_chk74 v1998), ∀ a, (k0_off76 v1998) a + S1x784.size a ≤ S20000x784.size a := fun v1998 k0_hw74 => k0_hw74.1
theorem k0_off176_inb : ∀ (v1998 : BitVec 32) (k0_hw74 : k0_chk74 v1998), ∀ a, (k0_off176 v1998) a + S1x784.size a ≤ S20000x784.size a := fun v1998 k0_hw74 => k0_hw74.2

def k0_off177 (v2004 : BitVec 32) : Fin 2 → Nat :=
  let c0_i32_1243 : BitVec 32 := 0#32
  let v2005 : BitVec 32 := Scalar.maxsi v2004 c0_i32_1243
  let c0_i32_1700 : BitVec 32 := 0#32
  ![v2005.toNat, 0]

def k0_chk75 (v2004 : BitVec 32) : Prop :=
  (∀ a, (k0_off77 v2004) a + S1x784.size a ≤ S20000x784.size a) ∧
  (∀ a, (k0_off177 v2004) a + S1x784.size a ≤ S20000x784.size a)
theorem k0_off77_inb : ∀ (v2004 : BitVec 32) (k0_hw75 : k0_chk75 v2004), ∀ a, (k0_off77 v2004) a + S1x784.size a ≤ S20000x784.size a := fun v2004 k0_hw75 => k0_hw75.1
theorem k0_off177_inb : ∀ (v2004 : BitVec 32) (k0_hw75 : k0_chk75 v2004), ∀ a, (k0_off177 v2004) a + S1x784.size a ≤ S20000x784.size a := fun v2004 k0_hw75 => k0_hw75.2

def k0_off178 (v2010 : BitVec 32) : Fin 2 → Nat :=
  let c0_i32_1249 : BitVec 32 := 0#32
  let v2011 : BitVec 32 := Scalar.maxsi v2010 c0_i32_1249
  let c0_i32_1704 : BitVec 32 := 0#32
  ![v2011.toNat, 0]

def k0_chk76 (v2010 : BitVec 32) : Prop :=
  (∀ a, (k0_off78 v2010) a + S1x784.size a ≤ S20000x784.size a) ∧
  (∀ a, (k0_off178 v2010) a + S1x784.size a ≤ S20000x784.size a)
theorem k0_off78_inb : ∀ (v2010 : BitVec 32) (k0_hw76 : k0_chk76 v2010), ∀ a, (k0_off78 v2010) a + S1x784.size a ≤ S20000x784.size a := fun v2010 k0_hw76 => k0_hw76.1
theorem k0_off178_inb : ∀ (v2010 : BitVec 32) (k0_hw76 : k0_chk76 v2010), ∀ a, (k0_off178 v2010) a + S1x784.size a ≤ S20000x784.size a := fun v2010 k0_hw76 => k0_hw76.2

def k0_off179 (v2016 : BitVec 32) : Fin 2 → Nat :=
  let c0_i32_1255 : BitVec 32 := 0#32
  let v2017 : BitVec 32 := Scalar.maxsi v2016 c0_i32_1255
  let c0_i32_1708 : BitVec 32 := 0#32
  ![v2017.toNat, 0]

def k0_chk77 (v2016 : BitVec 32) : Prop :=
  (∀ a, (k0_off79 v2016) a + S1x784.size a ≤ S20000x784.size a) ∧
  (∀ a, (k0_off179 v2016) a + S1x784.size a ≤ S20000x784.size a)
theorem k0_off79_inb : ∀ (v2016 : BitVec 32) (k0_hw77 : k0_chk77 v2016), ∀ a, (k0_off79 v2016) a + S1x784.size a ≤ S20000x784.size a := fun v2016 k0_hw77 => k0_hw77.1
theorem k0_off179_inb : ∀ (v2016 : BitVec 32) (k0_hw77 : k0_chk77 v2016), ∀ a, (k0_off179 v2016) a + S1x784.size a ≤ S20000x784.size a := fun v2016 k0_hw77 => k0_hw77.2

def k0_off180 (v2022 : BitVec 32) : Fin 2 → Nat :=
  let c0_i32_1261 : BitVec 32 := 0#32
  let v2023 : BitVec 32 := Scalar.maxsi v2022 c0_i32_1261
  let c0_i32_1712 : BitVec 32 := 0#32
  ![v2023.toNat, 0]

def k0_chk78 (v2022 : BitVec 32) : Prop :=
  (∀ a, (k0_off80 v2022) a + S1x784.size a ≤ S20000x784.size a) ∧
  (∀ a, (k0_off180 v2022) a + S1x784.size a ≤ S20000x784.size a)
theorem k0_off80_inb : ∀ (v2022 : BitVec 32) (k0_hw78 : k0_chk78 v2022), ∀ a, (k0_off80 v2022) a + S1x784.size a ≤ S20000x784.size a := fun v2022 k0_hw78 => k0_hw78.1
theorem k0_off180_inb : ∀ (v2022 : BitVec 32) (k0_hw78 : k0_chk78 v2022), ∀ a, (k0_off180 v2022) a + S1x784.size a ≤ S20000x784.size a := fun v2022 k0_hw78 => k0_hw78.2

def k0_off181 (v2028 : BitVec 32) : Fin 2 → Nat :=
  let c0_i32_1267 : BitVec 32 := 0#32
  let v2029 : BitVec 32 := Scalar.maxsi v2028 c0_i32_1267
  let c0_i32_1716 : BitVec 32 := 0#32
  ![v2029.toNat, 0]

def k0_chk79 (v2028 : BitVec 32) : Prop :=
  (∀ a, (k0_off81 v2028) a + S1x784.size a ≤ S20000x784.size a) ∧
  (∀ a, (k0_off181 v2028) a + S1x784.size a ≤ S20000x784.size a)
theorem k0_off81_inb : ∀ (v2028 : BitVec 32) (k0_hw79 : k0_chk79 v2028), ∀ a, (k0_off81 v2028) a + S1x784.size a ≤ S20000x784.size a := fun v2028 k0_hw79 => k0_hw79.1
theorem k0_off181_inb : ∀ (v2028 : BitVec 32) (k0_hw79 : k0_chk79 v2028), ∀ a, (k0_off181 v2028) a + S1x784.size a ≤ S20000x784.size a := fun v2028 k0_hw79 => k0_hw79.2

def k0_off182 (v2034 : BitVec 32) : Fin 2 → Nat :=
  let c0_i32_1273 : BitVec 32 := 0#32
  let v2035 : BitVec 32 := Scalar.maxsi v2034 c0_i32_1273
  let c0_i32_1720 : BitVec 32 := 0#32
  ![v2035.toNat, 0]

def k0_chk80 (v2034 : BitVec 32) : Prop :=
  (∀ a, (k0_off82 v2034) a + S1x784.size a ≤ S20000x784.size a) ∧
  (∀ a, (k0_off182 v2034) a + S1x784.size a ≤ S20000x784.size a)
theorem k0_off82_inb : ∀ (v2034 : BitVec 32) (k0_hw80 : k0_chk80 v2034), ∀ a, (k0_off82 v2034) a + S1x784.size a ≤ S20000x784.size a := fun v2034 k0_hw80 => k0_hw80.1
theorem k0_off182_inb : ∀ (v2034 : BitVec 32) (k0_hw80 : k0_chk80 v2034), ∀ a, (k0_off182 v2034) a + S1x784.size a ≤ S20000x784.size a := fun v2034 k0_hw80 => k0_hw80.2

def k0_off183 (v2040 : BitVec 32) : Fin 2 → Nat :=
  let c0_i32_1279 : BitVec 32 := 0#32
  let v2041 : BitVec 32 := Scalar.maxsi v2040 c0_i32_1279
  let c0_i32_1724 : BitVec 32 := 0#32
  ![v2041.toNat, 0]

def k0_chk81 (v2040 : BitVec 32) : Prop :=
  (∀ a, (k0_off83 v2040) a + S1x784.size a ≤ S20000x784.size a) ∧
  (∀ a, (k0_off183 v2040) a + S1x784.size a ≤ S20000x784.size a)
theorem k0_off83_inb : ∀ (v2040 : BitVec 32) (k0_hw81 : k0_chk81 v2040), ∀ a, (k0_off83 v2040) a + S1x784.size a ≤ S20000x784.size a := fun v2040 k0_hw81 => k0_hw81.1
theorem k0_off183_inb : ∀ (v2040 : BitVec 32) (k0_hw81 : k0_chk81 v2040), ∀ a, (k0_off183 v2040) a + S1x784.size a ≤ S20000x784.size a := fun v2040 k0_hw81 => k0_hw81.2

def k0_off184 (v2046 : BitVec 32) : Fin 2 → Nat :=
  let c0_i32_1285 : BitVec 32 := 0#32
  let v2047 : BitVec 32 := Scalar.maxsi v2046 c0_i32_1285
  let c0_i32_1728 : BitVec 32 := 0#32
  ![v2047.toNat, 0]

def k0_chk82 (v2046 : BitVec 32) : Prop :=
  (∀ a, (k0_off84 v2046) a + S1x784.size a ≤ S20000x784.size a) ∧
  (∀ a, (k0_off184 v2046) a + S1x784.size a ≤ S20000x784.size a)
theorem k0_off84_inb : ∀ (v2046 : BitVec 32) (k0_hw82 : k0_chk82 v2046), ∀ a, (k0_off84 v2046) a + S1x784.size a ≤ S20000x784.size a := fun v2046 k0_hw82 => k0_hw82.1
theorem k0_off184_inb : ∀ (v2046 : BitVec 32) (k0_hw82 : k0_chk82 v2046), ∀ a, (k0_off184 v2046) a + S1x784.size a ≤ S20000x784.size a := fun v2046 k0_hw82 => k0_hw82.2

def k0_off185 (v2052 : BitVec 32) : Fin 2 → Nat :=
  let c0_i32_1291 : BitVec 32 := 0#32
  let v2053 : BitVec 32 := Scalar.maxsi v2052 c0_i32_1291
  let c0_i32_1732 : BitVec 32 := 0#32
  ![v2053.toNat, 0]

def k0_chk83 (v2052 : BitVec 32) : Prop :=
  (∀ a, (k0_off85 v2052) a + S1x784.size a ≤ S20000x784.size a) ∧
  (∀ a, (k0_off185 v2052) a + S1x784.size a ≤ S20000x784.size a)
theorem k0_off85_inb : ∀ (v2052 : BitVec 32) (k0_hw83 : k0_chk83 v2052), ∀ a, (k0_off85 v2052) a + S1x784.size a ≤ S20000x784.size a := fun v2052 k0_hw83 => k0_hw83.1
theorem k0_off185_inb : ∀ (v2052 : BitVec 32) (k0_hw83 : k0_chk83 v2052), ∀ a, (k0_off185 v2052) a + S1x784.size a ≤ S20000x784.size a := fun v2052 k0_hw83 => k0_hw83.2

def k0_off186 (v2058 : BitVec 32) : Fin 2 → Nat :=
  let c0_i32_1297 : BitVec 32 := 0#32
  let v2059 : BitVec 32 := Scalar.maxsi v2058 c0_i32_1297
  let c0_i32_1736 : BitVec 32 := 0#32
  ![v2059.toNat, 0]

def k0_chk84 (v2058 : BitVec 32) : Prop :=
  (∀ a, (k0_off86 v2058) a + S1x784.size a ≤ S20000x784.size a) ∧
  (∀ a, (k0_off186 v2058) a + S1x784.size a ≤ S20000x784.size a)
theorem k0_off86_inb : ∀ (v2058 : BitVec 32) (k0_hw84 : k0_chk84 v2058), ∀ a, (k0_off86 v2058) a + S1x784.size a ≤ S20000x784.size a := fun v2058 k0_hw84 => k0_hw84.1
theorem k0_off186_inb : ∀ (v2058 : BitVec 32) (k0_hw84 : k0_chk84 v2058), ∀ a, (k0_off186 v2058) a + S1x784.size a ≤ S20000x784.size a := fun v2058 k0_hw84 => k0_hw84.2

def k0_off187 (v2064 : BitVec 32) : Fin 2 → Nat :=
  let c0_i32_1303 : BitVec 32 := 0#32
  let v2065 : BitVec 32 := Scalar.maxsi v2064 c0_i32_1303
  let c0_i32_1740 : BitVec 32 := 0#32
  ![v2065.toNat, 0]

def k0_chk85 (v2064 : BitVec 32) : Prop :=
  (∀ a, (k0_off87 v2064) a + S1x784.size a ≤ S20000x784.size a) ∧
  (∀ a, (k0_off187 v2064) a + S1x784.size a ≤ S20000x784.size a)
theorem k0_off87_inb : ∀ (v2064 : BitVec 32) (k0_hw85 : k0_chk85 v2064), ∀ a, (k0_off87 v2064) a + S1x784.size a ≤ S20000x784.size a := fun v2064 k0_hw85 => k0_hw85.1
theorem k0_off187_inb : ∀ (v2064 : BitVec 32) (k0_hw85 : k0_chk85 v2064), ∀ a, (k0_off187 v2064) a + S1x784.size a ≤ S20000x784.size a := fun v2064 k0_hw85 => k0_hw85.2

def k0_off188 (v2070 : BitVec 32) : Fin 2 → Nat :=
  let c0_i32_1309 : BitVec 32 := 0#32
  let v2071 : BitVec 32 := Scalar.maxsi v2070 c0_i32_1309
  let c0_i32_1744 : BitVec 32 := 0#32
  ![v2071.toNat, 0]

def k0_chk86 (v2070 : BitVec 32) : Prop :=
  (∀ a, (k0_off88 v2070) a + S1x784.size a ≤ S20000x784.size a) ∧
  (∀ a, (k0_off188 v2070) a + S1x784.size a ≤ S20000x784.size a)
theorem k0_off88_inb : ∀ (v2070 : BitVec 32) (k0_hw86 : k0_chk86 v2070), ∀ a, (k0_off88 v2070) a + S1x784.size a ≤ S20000x784.size a := fun v2070 k0_hw86 => k0_hw86.1
theorem k0_off188_inb : ∀ (v2070 : BitVec 32) (k0_hw86 : k0_chk86 v2070), ∀ a, (k0_off188 v2070) a + S1x784.size a ≤ S20000x784.size a := fun v2070 k0_hw86 => k0_hw86.2

def k0_off189 (v2076 : BitVec 32) : Fin 2 → Nat :=
  let c0_i32_1315 : BitVec 32 := 0#32
  let v2077 : BitVec 32 := Scalar.maxsi v2076 c0_i32_1315
  let c0_i32_1748 : BitVec 32 := 0#32
  ![v2077.toNat, 0]

def k0_chk87 (v2076 : BitVec 32) : Prop :=
  (∀ a, (k0_off89 v2076) a + S1x784.size a ≤ S20000x784.size a) ∧
  (∀ a, (k0_off189 v2076) a + S1x784.size a ≤ S20000x784.size a)
theorem k0_off89_inb : ∀ (v2076 : BitVec 32) (k0_hw87 : k0_chk87 v2076), ∀ a, (k0_off89 v2076) a + S1x784.size a ≤ S20000x784.size a := fun v2076 k0_hw87 => k0_hw87.1
theorem k0_off189_inb : ∀ (v2076 : BitVec 32) (k0_hw87 : k0_chk87 v2076), ∀ a, (k0_off189 v2076) a + S1x784.size a ≤ S20000x784.size a := fun v2076 k0_hw87 => k0_hw87.2

def k0_off190 (v2082 : BitVec 32) : Fin 2 → Nat :=
  let c0_i32_1321 : BitVec 32 := 0#32
  let v2083 : BitVec 32 := Scalar.maxsi v2082 c0_i32_1321
  let c0_i32_1752 : BitVec 32 := 0#32
  ![v2083.toNat, 0]

def k0_chk88 (v2082 : BitVec 32) : Prop :=
  (∀ a, (k0_off90 v2082) a + S1x784.size a ≤ S20000x784.size a) ∧
  (∀ a, (k0_off190 v2082) a + S1x784.size a ≤ S20000x784.size a)
theorem k0_off90_inb : ∀ (v2082 : BitVec 32) (k0_hw88 : k0_chk88 v2082), ∀ a, (k0_off90 v2082) a + S1x784.size a ≤ S20000x784.size a := fun v2082 k0_hw88 => k0_hw88.1
theorem k0_off190_inb : ∀ (v2082 : BitVec 32) (k0_hw88 : k0_chk88 v2082), ∀ a, (k0_off190 v2082) a + S1x784.size a ≤ S20000x784.size a := fun v2082 k0_hw88 => k0_hw88.2

def k0_off191 (v2088 : BitVec 32) : Fin 2 → Nat :=
  let c0_i32_1327 : BitVec 32 := 0#32
  let v2089 : BitVec 32 := Scalar.maxsi v2088 c0_i32_1327
  let c0_i32_1756 : BitVec 32 := 0#32
  ![v2089.toNat, 0]

def k0_chk89 (v2088 : BitVec 32) : Prop :=
  (∀ a, (k0_off91 v2088) a + S1x784.size a ≤ S20000x784.size a) ∧
  (∀ a, (k0_off191 v2088) a + S1x784.size a ≤ S20000x784.size a)
theorem k0_off91_inb : ∀ (v2088 : BitVec 32) (k0_hw89 : k0_chk89 v2088), ∀ a, (k0_off91 v2088) a + S1x784.size a ≤ S20000x784.size a := fun v2088 k0_hw89 => k0_hw89.1
theorem k0_off191_inb : ∀ (v2088 : BitVec 32) (k0_hw89 : k0_chk89 v2088), ∀ a, (k0_off191 v2088) a + S1x784.size a ≤ S20000x784.size a := fun v2088 k0_hw89 => k0_hw89.2

def k0_off192 (v2094 : BitVec 32) : Fin 2 → Nat :=
  let c0_i32_1333 : BitVec 32 := 0#32
  let v2095 : BitVec 32 := Scalar.maxsi v2094 c0_i32_1333
  let c0_i32_1760 : BitVec 32 := 0#32
  ![v2095.toNat, 0]

def k0_chk90 (v2094 : BitVec 32) : Prop :=
  (∀ a, (k0_off92 v2094) a + S1x784.size a ≤ S20000x784.size a) ∧
  (∀ a, (k0_off192 v2094) a + S1x784.size a ≤ S20000x784.size a)
theorem k0_off92_inb : ∀ (v2094 : BitVec 32) (k0_hw90 : k0_chk90 v2094), ∀ a, (k0_off92 v2094) a + S1x784.size a ≤ S20000x784.size a := fun v2094 k0_hw90 => k0_hw90.1
theorem k0_off192_inb : ∀ (v2094 : BitVec 32) (k0_hw90 : k0_chk90 v2094), ∀ a, (k0_off192 v2094) a + S1x784.size a ≤ S20000x784.size a := fun v2094 k0_hw90 => k0_hw90.2

def k0_off193 (v2100 : BitVec 32) : Fin 2 → Nat :=
  let c0_i32_1339 : BitVec 32 := 0#32
  let v2101 : BitVec 32 := Scalar.maxsi v2100 c0_i32_1339
  let c0_i32_1764 : BitVec 32 := 0#32
  ![v2101.toNat, 0]

def k0_chk91 (v2100 : BitVec 32) : Prop :=
  (∀ a, (k0_off93 v2100) a + S1x784.size a ≤ S20000x784.size a) ∧
  (∀ a, (k0_off193 v2100) a + S1x784.size a ≤ S20000x784.size a)
theorem k0_off93_inb : ∀ (v2100 : BitVec 32) (k0_hw91 : k0_chk91 v2100), ∀ a, (k0_off93 v2100) a + S1x784.size a ≤ S20000x784.size a := fun v2100 k0_hw91 => k0_hw91.1
theorem k0_off193_inb : ∀ (v2100 : BitVec 32) (k0_hw91 : k0_chk91 v2100), ∀ a, (k0_off193 v2100) a + S1x784.size a ≤ S20000x784.size a := fun v2100 k0_hw91 => k0_hw91.2

def k0_off194 (v2106 : BitVec 32) : Fin 2 → Nat :=
  let c0_i32_1345 : BitVec 32 := 0#32
  let v2107 : BitVec 32 := Scalar.maxsi v2106 c0_i32_1345
  let c0_i32_1768 : BitVec 32 := 0#32
  ![v2107.toNat, 0]

def k0_chk92 (v2106 : BitVec 32) : Prop :=
  (∀ a, (k0_off94 v2106) a + S1x784.size a ≤ S20000x784.size a) ∧
  (∀ a, (k0_off194 v2106) a + S1x784.size a ≤ S20000x784.size a)
theorem k0_off94_inb : ∀ (v2106 : BitVec 32) (k0_hw92 : k0_chk92 v2106), ∀ a, (k0_off94 v2106) a + S1x784.size a ≤ S20000x784.size a := fun v2106 k0_hw92 => k0_hw92.1
theorem k0_off194_inb : ∀ (v2106 : BitVec 32) (k0_hw92 : k0_chk92 v2106), ∀ a, (k0_off194 v2106) a + S1x784.size a ≤ S20000x784.size a := fun v2106 k0_hw92 => k0_hw92.2

def k0_off195 (v2112 : BitVec 32) : Fin 2 → Nat :=
  let c0_i32_1351 : BitVec 32 := 0#32
  let v2113 : BitVec 32 := Scalar.maxsi v2112 c0_i32_1351
  let c0_i32_1772 : BitVec 32 := 0#32
  ![v2113.toNat, 0]

def k0_chk93 (v2112 : BitVec 32) : Prop :=
  (∀ a, (k0_off95 v2112) a + S1x784.size a ≤ S20000x784.size a) ∧
  (∀ a, (k0_off195 v2112) a + S1x784.size a ≤ S20000x784.size a)
theorem k0_off95_inb : ∀ (v2112 : BitVec 32) (k0_hw93 : k0_chk93 v2112), ∀ a, (k0_off95 v2112) a + S1x784.size a ≤ S20000x784.size a := fun v2112 k0_hw93 => k0_hw93.1
theorem k0_off195_inb : ∀ (v2112 : BitVec 32) (k0_hw93 : k0_chk93 v2112), ∀ a, (k0_off195 v2112) a + S1x784.size a ≤ S20000x784.size a := fun v2112 k0_hw93 => k0_hw93.2

def k0_off196 (v2118 : BitVec 32) : Fin 2 → Nat :=
  let c0_i32_1357 : BitVec 32 := 0#32
  let v2119 : BitVec 32 := Scalar.maxsi v2118 c0_i32_1357
  let c0_i32_1776 : BitVec 32 := 0#32
  ![v2119.toNat, 0]

def k0_chk94 (v2118 : BitVec 32) : Prop :=
  (∀ a, (k0_off96 v2118) a + S1x784.size a ≤ S20000x784.size a) ∧
  (∀ a, (k0_off196 v2118) a + S1x784.size a ≤ S20000x784.size a)
theorem k0_off96_inb : ∀ (v2118 : BitVec 32) (k0_hw94 : k0_chk94 v2118), ∀ a, (k0_off96 v2118) a + S1x784.size a ≤ S20000x784.size a := fun v2118 k0_hw94 => k0_hw94.1
theorem k0_off196_inb : ∀ (v2118 : BitVec 32) (k0_hw94 : k0_chk94 v2118), ∀ a, (k0_off196 v2118) a + S1x784.size a ≤ S20000x784.size a := fun v2118 k0_hw94 => k0_hw94.2

def k0_off197 (v2124 : BitVec 32) : Fin 2 → Nat :=
  let c0_i32_1363 : BitVec 32 := 0#32
  let v2125 : BitVec 32 := Scalar.maxsi v2124 c0_i32_1363
  let c0_i32_1780 : BitVec 32 := 0#32
  ![v2125.toNat, 0]

def k0_chk95 (v2124 : BitVec 32) : Prop :=
  (∀ a, (k0_off97 v2124) a + S1x784.size a ≤ S20000x784.size a) ∧
  (∀ a, (k0_off197 v2124) a + S1x784.size a ≤ S20000x784.size a)
theorem k0_off97_inb : ∀ (v2124 : BitVec 32) (k0_hw95 : k0_chk95 v2124), ∀ a, (k0_off97 v2124) a + S1x784.size a ≤ S20000x784.size a := fun v2124 k0_hw95 => k0_hw95.1
theorem k0_off197_inb : ∀ (v2124 : BitVec 32) (k0_hw95 : k0_chk95 v2124), ∀ a, (k0_off197 v2124) a + S1x784.size a ≤ S20000x784.size a := fun v2124 k0_hw95 => k0_hw95.2

def k0_off198 (v2130 : BitVec 32) : Fin 2 → Nat :=
  let c0_i32_1369 : BitVec 32 := 0#32
  let v2131 : BitVec 32 := Scalar.maxsi v2130 c0_i32_1369
  let c0_i32_1784 : BitVec 32 := 0#32
  ![v2131.toNat, 0]

def k0_chk96 (v2130 : BitVec 32) : Prop :=
  (∀ a, (k0_off98 v2130) a + S1x784.size a ≤ S20000x784.size a) ∧
  (∀ a, (k0_off198 v2130) a + S1x784.size a ≤ S20000x784.size a)
theorem k0_off98_inb : ∀ (v2130 : BitVec 32) (k0_hw96 : k0_chk96 v2130), ∀ a, (k0_off98 v2130) a + S1x784.size a ≤ S20000x784.size a := fun v2130 k0_hw96 => k0_hw96.1
theorem k0_off198_inb : ∀ (v2130 : BitVec 32) (k0_hw96 : k0_chk96 v2130), ∀ a, (k0_off198 v2130) a + S1x784.size a ≤ S20000x784.size a := fun v2130 k0_hw96 => k0_hw96.2

def k0_off199 (v2136 : BitVec 32) : Fin 2 → Nat :=
  let c0_i32_1375 : BitVec 32 := 0#32
  let v2137 : BitVec 32 := Scalar.maxsi v2136 c0_i32_1375
  let c0_i32_1788 : BitVec 32 := 0#32
  ![v2137.toNat, 0]

def k0_chk97 (v2136 : BitVec 32) : Prop :=
  (∀ a, (k0_off99 v2136) a + S1x784.size a ≤ S20000x784.size a) ∧
  (∀ a, (k0_off199 v2136) a + S1x784.size a ≤ S20000x784.size a)
theorem k0_off99_inb : ∀ (v2136 : BitVec 32) (k0_hw97 : k0_chk97 v2136), ∀ a, (k0_off99 v2136) a + S1x784.size a ≤ S20000x784.size a := fun v2136 k0_hw97 => k0_hw97.1
theorem k0_off199_inb : ∀ (v2136 : BitVec 32) (k0_hw97 : k0_chk97 v2136), ∀ a, (k0_off199 v2136) a + S1x784.size a ≤ S20000x784.size a := fun v2136 k0_hw97 => k0_hw97.2

def k0_off200 (v2142 : BitVec 32) : Fin 2 → Nat :=
  let c0_i32_1381 : BitVec 32 := 0#32
  let v2143 : BitVec 32 := Scalar.maxsi v2142 c0_i32_1381
  let c0_i32_1792 : BitVec 32 := 0#32
  ![v2143.toNat, 0]

def k0_chk98 (v2142 : BitVec 32) : Prop :=
  (∀ a, (k0_off100 v2142) a + S1x784.size a ≤ S20000x784.size a) ∧
  (∀ a, (k0_off200 v2142) a + S1x784.size a ≤ S20000x784.size a)
theorem k0_off100_inb : ∀ (v2142 : BitVec 32) (k0_hw98 : k0_chk98 v2142), ∀ a, (k0_off100 v2142) a + S1x784.size a ≤ S20000x784.size a := fun v2142 k0_hw98 => k0_hw98.1
theorem k0_off200_inb : ∀ (v2142 : BitVec 32) (k0_hw98 : k0_chk98 v2142), ∀ a, (k0_off200 v2142) a + S1x784.size a ≤ S20000x784.size a := fun v2142 k0_hw98 => k0_hw98.2

def k0_off201 (v2148 : BitVec 32) : Fin 2 → Nat :=
  let c0_i32_1387 : BitVec 32 := 0#32
  let v2149 : BitVec 32 := Scalar.maxsi v2148 c0_i32_1387
  let c0_i32_1796 : BitVec 32 := 0#32
  ![v2149.toNat, 0]

def k0_chk99 (v2148 : BitVec 32) : Prop :=
  (∀ a, (k0_off101 v2148) a + S1x784.size a ≤ S20000x784.size a) ∧
  (∀ a, (k0_off201 v2148) a + S1x784.size a ≤ S20000x784.size a)
theorem k0_off101_inb : ∀ (v2148 : BitVec 32) (k0_hw99 : k0_chk99 v2148), ∀ a, (k0_off101 v2148) a + S1x784.size a ≤ S20000x784.size a := fun v2148 k0_hw99 => k0_hw99.1
theorem k0_off201_inb : ∀ (v2148 : BitVec 32) (k0_hw99 : k0_chk99 v2148), ∀ a, (k0_off201 v2148) a + S1x784.size a ≤ S20000x784.size a := fun v2148 k0_hw99 => k0_hw99.2

def k0_off202 (v2154 : BitVec 32) : Fin 2 → Nat :=
  let c0_i32_1393 : BitVec 32 := 0#32
  let v2155 : BitVec 32 := Scalar.maxsi v2154 c0_i32_1393
  let c0_i32_1800 : BitVec 32 := 0#32
  ![v2155.toNat, 0]

def k0_chk100 (v2154 : BitVec 32) : Prop :=
  (∀ a, (k0_off102 v2154) a + S1x784.size a ≤ S20000x784.size a) ∧
  (∀ a, (k0_off202 v2154) a + S1x784.size a ≤ S20000x784.size a)
theorem k0_off102_inb : ∀ (v2154 : BitVec 32) (k0_hw100 : k0_chk100 v2154), ∀ a, (k0_off102 v2154) a + S1x784.size a ≤ S20000x784.size a := fun v2154 k0_hw100 => k0_hw100.1
theorem k0_off202_inb : ∀ (v2154 : BitVec 32) (k0_hw100 : k0_chk100 v2154), ∀ a, (k0_off202 v2154) a + S1x784.size a ≤ S20000x784.size a := fun v2154 k0_hw100 => k0_hw100.2

def k0_off203 (v2160 : BitVec 32) : Fin 2 → Nat :=
  let c0_i32_1399 : BitVec 32 := 0#32
  let v2161 : BitVec 32 := Scalar.maxsi v2160 c0_i32_1399
  let c0_i32_1804 : BitVec 32 := 0#32
  ![v2161.toNat, 0]

def k0_chk101 (v2160 : BitVec 32) : Prop :=
  (∀ a, (k0_off103 v2160) a + S1x784.size a ≤ S20000x784.size a) ∧
  (∀ a, (k0_off203 v2160) a + S1x784.size a ≤ S20000x784.size a)
theorem k0_off103_inb : ∀ (v2160 : BitVec 32) (k0_hw101 : k0_chk101 v2160), ∀ a, (k0_off103 v2160) a + S1x784.size a ≤ S20000x784.size a := fun v2160 k0_hw101 => k0_hw101.1
theorem k0_off203_inb : ∀ (v2160 : BitVec 32) (k0_hw101 : k0_chk101 v2160), ∀ a, (k0_off203 v2160) a + S1x784.size a ≤ S20000x784.size a := fun v2160 k0_hw101 => k0_hw101.2

abbrev stage0_0 : Fin 1 → Memref sig .tc .vmem S4x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x20480 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x28x28 : Shape := ⟨3, ![20000, 28, 28]⟩
abbrev S100x4 : Shape := ⟨2, ![100, 4]⟩
abbrev S20000x1 : Shape := ⟨2, ![20000, 1]⟩
abbrev S100x1 : Shape := ⟨2, ![100, 1]⟩
abbrev S100 : Shape := ⟨1, ![100]⟩
abbrev S20000x2 : Shape := ⟨2, ![20000, 2]⟩
abbrev S20000x1x2 : Shape := ⟨3, ![20000, 1, 2]⟩
abbrev S100x2 : Shape := ⟨2, ![100, 2]⟩
abbrev S1x100x2 : Shape := ⟨3, ![1, 100, 2]⟩
abbrev S20000x100x2 : Shape := ⟨3, ![20000, 100, 2]⟩
abbrev S_ : Shape := ⟨0, ![]⟩
abbrev S20000x100x1 : Shape := ⟨3, ![20000, 100, 1]⟩
abbrev S20000x100 : Shape := ⟨2, ![20000, 100]⟩
abbrev S1x100 : Shape := ⟨2, ![1, 100]⟩
abbrev S1 : Shape := ⟨1, ![1]⟩
abbrev S100x1x1 : Shape := ⟨3, ![100, 1, 1]⟩
abbrev S1x1 : Shape := ⟨2, ![1, 1]⟩
abbrev S100x28x28 : Shape := ⟨3, ![100, 28, 28]⟩

abbrev nBuf : Space → Nat
  | .hbm => 271
  | .vmem => 0
  | .smem => 0
  | _ => 0

abbrev hbmTy0_0 (i : Nat) : BufTy := match i % 128 with
  | 0 => ⟨S20000x4, .f32⟩
  | 1 => ⟨S20000, .f32⟩
  | 2 => ⟨S20000, .f32⟩
  | 3 => ⟨S20000x28x28, .f32⟩
  | 4 => ⟨S100x4, .f32⟩
  | 5 => ⟨S20000x1, .f32⟩
  | 6 => ⟨S20000, .f32⟩
  | 7 => ⟨S20000x1, .f32⟩
  | 8 => ⟨S20000, .f32⟩
  | 9 => ⟨S20000, .f32⟩
  | 10 => ⟨S20000x1, .f32⟩
  | 11 => ⟨S20000, .f32⟩
  | 12 => ⟨S20000x1, .f32⟩
  | 13 => ⟨S20000, .f32⟩
  | 14 => ⟨S20000, .f32⟩
  | 15 => ⟨S20000, .f32⟩
  | 16 => ⟨S100x1, .f32⟩
  | 17 => ⟨S100, .f32⟩
  | 18 => ⟨S100x1, .f32⟩
  | 19 => ⟨S100, .f32⟩
  | 20 => ⟨S100, .f32⟩
  | 21 => ⟨S100x1, .f32⟩
  | 22 => ⟨S100, .f32⟩
  | 23 => ⟨S100x1, .f32⟩
  | 24 => ⟨S100, .f32⟩
  | 25 => ⟨S100, .f32⟩
  | 26 => ⟨S100, .f32⟩
  | 27 => ⟨S20000x2, .f32⟩
  | 28 => ⟨S20000x1x2, .f32⟩
  | 29 => ⟨S100x2, .f32⟩
  | 30 => ⟨S1x100x2, .f32⟩
  | 31 => ⟨S20000x100x2, .f32⟩
  | 32 => ⟨S20000x100x2, .f32⟩
  | 33 => ⟨S20000x100x2, .f32⟩
  | 34 => ⟨S20000x2, .f32⟩
  | 35 => ⟨S20000x1x2, .f32⟩
  | 36 => ⟨S100x2, .f32⟩
  | 37 => ⟨S1x100x2, .f32⟩
  | 38 => ⟨S20000x100x2, .f32⟩
  | 39 => ⟨S20000x100x2, .f32⟩
  | 40 => ⟨S20000x100x2, .f32⟩
  | 41 => ⟨S20000x100x2, .f32⟩
  | 42 => ⟨S_, .f32⟩
  | 43 => ⟨S_, .f32⟩
  | 44 => ⟨S20000x100x2, .f32⟩
  | 45 => ⟨S20000x100x2, .f32⟩
  | 46 => ⟨S20000x100x1, .f32⟩
  | 47 => ⟨S20000x100, .f32⟩
  | 48 => ⟨S20000x100x1, .f32⟩
  | 49 => ⟨S20000x100, .f32⟩
  | 50 => ⟨S20000x100, .f32⟩
  | 51 => ⟨S20000x1, .f32⟩
  | 52 => ⟨S1x100, .f32⟩
  | 53 => ⟨S20000x100, .f32⟩
  | 54 => ⟨S20000x100, .f32⟩
  | 55 => ⟨S20000x100, .f32⟩
  | 56 => ⟨S20000x100, .f32⟩
  | 57 => ⟨S_, .f32⟩
  | 58 => ⟨S_, .f32⟩
  | 59 => ⟨S20000x100, .f32⟩
  | 60 => ⟨S20000x100, .f32⟩
  | 61 => ⟨S20000x100, .f32⟩
  | 62 => ⟨S20000, .f32⟩
  | 63 => ⟨S20000, .i32⟩
  | 64 => ⟨S20000, .f32⟩
  | 65 => ⟨S20000, .i32⟩
  | 66 => ⟨S_, .i32⟩
  | 67 => ⟨S20000, .i32⟩
  | 68 => ⟨S_, .i32⟩
  | 69 => ⟨S100, .i32⟩
  | 70 => ⟨S_, .f32⟩
  | 71 => ⟨S100, .f32⟩
  | 72 => ⟨S_, .i32⟩
  | 73 => ⟨S_, .i32⟩
  | 74 => ⟨S20000, .i32⟩
  | 75 => ⟨S20000x100, .f32⟩
  | 76 => ⟨S20000, .f32⟩
  | 77 => ⟨S_, .i32⟩
  | 78 => ⟨S_, .i32⟩
  | 79 => ⟨S20000, .i32⟩
  | 80 => ⟨S100, .i32⟩
  | 81 => ⟨S100, .f32⟩
  | 82 => ⟨S_, .i32⟩
  | 83 => ⟨S_, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x100, .f32⟩
  | 108 => ⟨S100, .f32⟩
  | 109 => ⟨S_, .i32⟩
  | 110 => ⟨S100, .i32⟩
  | 111 => ⟨S100, .i1⟩
  | 112 => ⟨S_, .f32⟩
  | 113 => ⟨S100, .f32⟩
  | 114 => ⟨S100, .i1⟩
  | 115 => ⟨S100, .i1⟩
  | 116 => ⟨S_, .f32⟩
  | 117 => ⟨S_, .f32⟩
  | 118 => ⟨S100, .f32⟩
  | 119 => ⟨S100, .f32⟩
  | 120 => ⟨S_, .f32⟩
  | 121 => ⟨S_, .f32⟩
  | 122 => ⟨S100, .f32⟩
  | 123 => ⟨S100, .i1⟩
  | 124 => ⟨S100, .i32⟩
  | 125 => ⟨S_, .i32⟩
  | 126 => ⟨S_, .i32⟩
  | 127 => ⟨S100, .i32⟩
  | _ => ⟨S20000x4, .f32⟩

abbrev hbmTy0_1 (i : Nat) : BufTy := match i % 128 with
  | 0 => ⟨S100, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S1, .f32⟩
  | 9 => ⟨S_, .f32⟩
  | 10 => ⟨S_, .f32⟩
  | 11 => ⟨S_, .i1⟩
  | 12 => ⟨S_, .i32⟩
  | 13 => ⟨S_, .i1⟩
  | 14 => ⟨S_, .i32⟩
  | 15 => ⟨S_, .i32⟩
  | 16 => ⟨S_, .i32⟩
  | 17 => ⟨S1, .f32⟩
  | 18 => ⟨S_, .f32⟩
  | 19 => ⟨S_, .f32⟩
  | 20 => ⟨S_, .i1⟩
  | 21 => ⟨S_, .i1⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S20000, .i32⟩
  | 29 => ⟨S20000, .i32⟩
  | 30 => ⟨S_, .i32⟩
  | 31 => ⟨S_, .i1⟩
  | 32 => ⟨S_, .i32⟩
  | 33 => ⟨S_, .i32⟩
  | 34 => ⟨S_, .i32⟩
  | 35 => ⟨S1, .i32⟩
  | 36 => ⟨S100, .i32⟩
  | 37 => ⟨S100, .i32⟩
  | 38 => ⟨S_, .i32⟩
  | 39 => ⟨S_, .i1⟩
  | 40 => ⟨S_, .i32⟩
  | 41 => ⟨S_, .i32⟩
  | 42 => ⟨S_, .i32⟩
  | 43 => ⟨S1, .f32⟩
  | 44 => ⟨S_, .f32⟩
  | 45 => ⟨S_, .i32⟩
  | 46 => ⟨S_, .i1⟩
  | 47 => ⟨S_, .i32⟩
  | 48 => ⟨S_, .i32⟩
  | 49 => ⟨S_, .i32⟩
  | 50 => ⟨S1, .i32⟩
  | 51 => ⟨S100, .f32⟩
  | 52 => ⟨S100, .f32⟩
  | 53 => ⟨S_, .i32⟩
  | 54 => ⟨S_, .i32⟩
  | 55 => ⟨S_, .i32⟩
  | 56 => ⟨S100, .i32⟩
  | 57 => ⟨S100, .i1⟩
  | 58 => ⟨S_, .i32⟩
  | 59 => ⟨S_, .i32⟩
  | 60 => ⟨S100, .i32⟩
  | 61 => ⟨S100, .i32⟩
  | 62 => ⟨S100x1x1, .i1⟩
  | 63 => ⟨S_, .i32⟩
  | 64 => ⟨S100, .i32⟩
  | 65 => ⟨S100, .i1⟩
  | 66 => ⟨S_, .i32⟩
  | 67 => ⟨S100, .i32⟩
  | 68 => ⟨S100, .i32⟩
  | 69 => ⟨S100, .i32⟩
  | 70 => ⟨S100x1, .i32⟩
  | 71 => ⟨S1, .i32⟩
  | 72 => ⟨S_, .i32⟩
  | 73 => ⟨S100x1, .i32⟩
  | 74 => ⟨S100x1, .i1⟩
  | 75 => ⟨S1x1, .i32⟩
  | 76 => ⟨S100x1, .i32⟩
  | 77 => ⟨S100x1, .i1⟩
  | 78 => ⟨S100x1, .i1⟩
  | 79 => ⟨S_, .i1⟩
  | 80 => ⟨S100, .i1⟩
  | 81 => ⟨S100x28x28, .f32⟩
  | 82 => ⟨S100x28x28, .i1⟩
  | 83 => ⟨S_, .f32⟩
  | 84 => ⟨S100x28x28, .f32⟩
  | 85 => ⟨S100x28x28, .f32⟩
  | 86 => ⟨S_, .f32⟩
  | 87 => ⟨S_, .f32⟩
  | 88 => ⟨S100x28x28, .i1⟩
  | 89 => ⟨S100x28x28, .f32⟩
  | 90 => ⟨S100x28x28, .f32⟩
  | 91 => ⟨S_, .i32⟩
  | 92 => ⟨S100, .i32⟩
  | 93 => ⟨S100, .i1⟩
  | 94 => ⟨S_, .i32⟩
  | 95 => ⟨S100, .i32⟩
  | 96 => ⟨S100, .i32⟩
  | 97 => ⟨S100, .i32⟩
  | 98 => ⟨S100x1, .i32⟩
  | 99 => ⟨S1, .i32⟩
  | 100 => ⟨S_, .i32⟩
  | 101 => ⟨S100x1, .i32⟩
  | 102 => ⟨S100x1, .i1⟩
  | 103 => ⟨S1x1, .i32⟩
  | 104 => ⟨S100x1, .i32⟩
  | 105 => ⟨S100x1, .i1⟩
  | 106 => ⟨S100x1, .i1⟩
  | 107 => ⟨S_, .i1⟩
  | 108 => ⟨S100, .i1⟩
  | 109 => ⟨S100, .f32⟩
  | 110 => ⟨S_, .f32⟩
  | 111 => ⟨S100, .f32⟩
  | 112 => ⟨S100, .f32⟩
  | 113 => ⟨S_, .f32⟩
  | 114 => ⟨S_, .f32⟩
  | 115 => ⟨S100, .f32⟩
  | 116 => ⟨S100, .f32⟩
  | 117 => ⟨S_, .i32⟩
  | 118 => ⟨S100, .i32⟩
  | 119 => ⟨S100, .i1⟩
  | 120 => ⟨S_, .i32⟩
  | 121 => ⟨S100, .i32⟩
  | 122 => ⟨S100, .i32⟩
  | 123 => ⟨S100, .i32⟩
  | 124 => ⟨S100x1, .i32⟩
  | 125 => ⟨S1, .i32⟩
  | 126 => ⟨S_, .i32⟩
  | 127 => ⟨S100x1, .i32⟩
  | _ => ⟨S20000x4, .f32⟩

abbrev hbmTy0_2 (i : Nat) : BufTy := match i % 128 with
  | 0 => ⟨S100x1, .i1⟩
  | 1 => ⟨S1x1, .i32⟩
  | 2 => ⟨S100x1, .i32⟩
  | 3 => ⟨S100x1, .i1⟩
  | 4 => ⟨S100x1, .i1⟩
  | 5 => ⟨S_, .i1⟩
  | 6 => ⟨S100, .i1⟩
  | 7 => ⟨S100, .f32⟩
  | 8 => ⟨S_, .f32⟩
  | 9 => ⟨S100, .f32⟩
  | 10 => ⟨S100, .f32⟩
  | 11 => ⟨S_, .f32⟩
  | 12 => ⟨S_, .f32⟩
  | 13 => ⟨S100, .f32⟩
  | 14 => ⟨S100, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_call1_v0 : Ref sig .tc := ⟨.hbm, 58, rfl⟩
abbrev main_call1_v1 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call2_v0 : Ref sig .tc := ⟨.hbm, 63, rfl⟩
abbrev main_call2_v1_0 : Ref sig .tc := ⟨.hbm, 64, rfl⟩
abbrev main_v52 : Ref sig .tc := ⟨.hbm, 65, rfl⟩
abbrev main_c : Ref sig .tc := ⟨.hbm, 66, rfl⟩
abbrev main_v53 : Ref sig .tc := ⟨.hbm, 67, rfl⟩
abbrev main_c_1 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_c_3 : Ref sig .tc := ⟨.hbm, 72, rfl⟩
abbrev main_c_4 : Ref sig .tc := ⟨.hbm, 73, rfl⟩
abbrev main_v56_0 : Ref sig .tc := ⟨.hbm, 74, rfl⟩
abbrev main_v56_1 : Ref sig .tc := ⟨.hbm, 75, rfl⟩
abbrev main_v56_2 : Ref sig .tc := ⟨.hbm, 76, rfl⟩
abbrev main_v56_3 : Ref sig .tc := ⟨.hbm, 77, rfl⟩
abbrev main_v56_4 : Ref sig .tc := ⟨.hbm, 78, rfl⟩
abbrev main_v56_5 : Ref sig .tc := ⟨.hbm, 79, rfl⟩
abbrev main_v56_6 : Ref sig .tc := ⟨.hbm, 80, rfl⟩
abbrev main_v56_7 : Ref sig .tc := ⟨.hbm, 81, rfl⟩
abbrev main_while0c_c_17 : Ref sig .tc := ⟨.hbm, 82, rfl⟩
abbrev main_while0c_v67 : Ref sig .tc := ⟨.hbm, 83, rfl⟩
abbrev main_while0b_c_17 : Ref sig .tc := ⟨.hbm, 84, rfl⟩
abbrev main_while0b_v67 : Ref sig .tc := ⟨.hbm, 85, rfl⟩
abbrev main_while0b_c_18 : Ref sig .tc := ⟨.hbm, 86, rfl⟩
abbrev main_while0b_v68 : Ref sig .tc := ⟨.hbm, 87, rfl⟩
abbrev main_while0b_v69 : Ref sig .tc := ⟨.hbm, 88, rfl⟩
abbrev main_while0b_c_19 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_c_20 : Ref sig .tc := ⟨.hbm, 94, rfl⟩
abbrev main_while0b_v74 : Ref sig .tc := ⟨.hbm, 95, rfl⟩
abbrev main_while0b_c_21 : Ref sig .tc := ⟨.hbm, 96, rfl⟩
abbrev main_while0b_v75 : Ref sig .tc := ⟨.hbm, 97, rfl⟩
abbrev main_while0b_v76 : Ref sig .tc := ⟨.hbm, 98, rfl⟩
abbrev main_while0b_c_22 : Ref sig .tc := ⟨.hbm, 99, rfl⟩
abbrev main_while0b_c_23 : Ref sig .tc := ⟨.hbm, 100, rfl⟩
abbrev main_while0b_v77 : Ref sig .tc := ⟨.hbm, 101, rfl⟩
abbrev main_while0b_c_24 : Ref sig .tc := ⟨.hbm, 102, rfl⟩
abbrev main_while0b_c_25 : Ref sig .tc := ⟨.hbm, 103, rfl⟩
abbrev main_while0b_v78 : Ref sig .tc := ⟨.hbm, 104, rfl⟩
abbrev main_while0b_c_26 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_c_27 : Ref sig .tc := ⟨.hbm, 109, rfl⟩
abbrev main_while0b_v82 : Ref sig .tc := ⟨.hbm, 110, rfl⟩
abbrev main_while0b_v83 : Ref sig .tc := ⟨.hbm, 111, rfl⟩
abbrev main_while0b_cst_28 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_cst_29 : Ref sig .tc := ⟨.hbm, 116, rfl⟩
abbrev main_while0b_call3_v0 : Ref sig .tc := ⟨.hbm, 117, rfl⟩
abbrev main_while0b_call3_v1 : Ref sig .tc := ⟨.hbm, 118, rfl⟩
abbrev main_while0b_v87 : Ref sig .tc := ⟨.hbm, 119, rfl⟩
abbrev main_while0b_cst_30 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_c_31 : Ref sig .tc := ⟨.hbm, 125, rfl⟩
abbrev main_while0b_call4_v0 : Ref sig .tc := ⟨.hbm, 126, rfl⟩
abbrev main_while0b_call4_v1 : Ref sig .tc := ⟨.hbm, 127, rfl⟩
abbrev main_while0b_v92 : Ref sig .tc := ⟨.hbm, 128, rfl⟩
abbrev main_while0b_c_32 : Ref sig .tc := ⟨.hbm, 129, rfl⟩
abbrev main_while0b_v93 : Ref sig .tc := ⟨.hbm, 130, rfl⟩
abbrev main_while0b_c_33 : Ref sig .tc := ⟨.hbm, 131, rfl⟩
abbrev main_while0b_v94 : Ref sig .tc := ⟨.hbm, 132, rfl⟩
abbrev main_while0b_c_34 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_cst_35 : Ref sig .tc := ⟨.hbm, 138, rfl⟩
abbrev main_while0b_v99 : Ref sig .tc := ⟨.hbm, 139, rfl⟩
abbrev main_while0b_c_36 : Ref sig .tc := ⟨.hbm, 140, rfl⟩
abbrev main_while0b_v100 : Ref sig .tc := ⟨.hbm, 141, rfl⟩
abbrev main_while0b_c_37 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_cst_38 : Ref sig .tc := ⟨.hbm, 147, rfl⟩
abbrev main_while0b_v105 : Ref sig .tc := ⟨.hbm, 148, rfl⟩
abbrev main_while0b_v106 : Ref sig .tc := ⟨.hbm, 149, rfl⟩
abbrev main_while0b_c_39 : Ref sig .tc := ⟨.hbm, 150, rfl⟩
abbrev main_while0b_v107 : Ref sig .tc := ⟨.hbm, 151, rfl⟩
abbrev main_while0b_c_40 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_c_41 : Ref sig .tc := ⟨.hbm, 158, rfl⟩
abbrev main_while0b_v113 : Ref sig .tc := ⟨.hbm, 159, rfl⟩
abbrev main_while0b_c_42 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_c_43 : Ref sig .tc := ⟨.hbm, 166, rfl⟩
abbrev main_while0b_v119 : Ref sig .tc := ⟨.hbm, 167, rfl⟩
abbrev main_while0b_c_44 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_v123 : Ref sig .tc := ⟨.hbm, 172, rfl⟩
abbrev main_while0b_c_45 : Ref sig .tc := ⟨.hbm, 173, rfl⟩
abbrev main_while0b_v124 : Ref sig .tc := ⟨.hbm, 174, rfl⟩
abbrev main_while0b_c_46 : Ref sig .tc := ⟨.hbm, 175, rfl⟩
abbrev main_while0b_v125 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_v129 : Ref sig .tc := ⟨.hbm, 180, rfl⟩
abbrev main_while0b_c_47 : Ref sig .tc := ⟨.hbm, 181, rfl⟩
abbrev main_while0b_v130 : Ref sig .tc := ⟨.hbm, 182, rfl⟩
abbrev main_c_5 : Ref sig .tc := ⟨.hbm, 183, rfl⟩
abbrev main_v57 : Ref sig .tc := ⟨.hbm, 184, rfl⟩
abbrev main_v58 : Ref sig .tc := ⟨.hbm, 185, rfl⟩
abbrev main_c_6 : Ref sig .tc := ⟨.hbm, 186, rfl⟩
abbrev main_call8_v0 : Ref sig .tc := ⟨.hbm, 187, rfl⟩
abbrev main_call8_v1 : Ref sig .tc := ⟨.hbm, 188, rfl⟩
abbrev main_v59 : Ref sig .tc := ⟨.hbm, 189, rfl⟩
abbrev main_v60 : Ref sig .tc := ⟨.hbm, 190, rfl⟩
abbrev main_call9_c : Ref sig .tc := ⟨.hbm, 191, rfl⟩
abbrev main_call9_v0 : Ref sig .tc := ⟨.hbm, 192, rfl⟩
abbrev main_call9_v1 : Ref sig .tc := ⟨.hbm, 193, rfl⟩
abbrev main_call9_c_0 : Ref sig .tc := ⟨.hbm, 194, rfl⟩
abbrev main_call9_v2 : Ref sig .tc := ⟨.hbm, 195, rfl⟩
abbrev main_call9_v3 : Ref sig .tc := ⟨.hbm, 196, rfl⟩
abbrev main_call9_v4 : Ref sig .tc := ⟨.hbm, 197, rfl⟩
abbrev main_call9_v5 : Ref sig .tc := ⟨.hbm, 198, rfl⟩
abbrev main_call9_c_1 : Ref sig .tc := ⟨.hbm, 199, rfl⟩
abbrev main_call9_c_2 : Ref sig .tc := ⟨.hbm, 200, rfl⟩
abbrev main_call9_v6 : Ref sig .tc := ⟨.hbm, 201, rfl⟩
abbrev main_call9_v7 : Ref sig .tc := ⟨.hbm, 202, rfl⟩
abbrev main_call9_v8 : Ref sig .tc := ⟨.hbm, 203, rfl⟩
abbrev main_call9_v9 : Ref sig .tc := ⟨.hbm, 204, rfl⟩
abbrev main_call9_v10 : Ref sig .tc := ⟨.hbm, 205, rfl⟩
abbrev main_call9_v11 : Ref sig .tc := ⟨.hbm, 206, rfl⟩
abbrev main_call9_c_3 : Ref sig .tc := ⟨.hbm, 207, rfl⟩
abbrev main_call9_v12 : Ref sig .tc := ⟨.hbm, 208, rfl⟩
abbrev main_call9_v13 : Ref sig .tc := ⟨.hbm, 209, rfl⟩
abbrev main_call9_v14 : Ref sig .tc := ⟨.hbm, 210, rfl⟩
abbrev main_call9_cst : Ref sig .tc := ⟨.hbm, 211, rfl⟩
abbrev main_call9_v15 : Ref sig .tc := ⟨.hbm, 212, rfl⟩
abbrev main_v61 : Ref sig .tc := ⟨.hbm, 213, rfl⟩
abbrev main_cst_7 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_v62 : Ref sig .tc := ⟨.hbm, 218, rfl⟩
abbrev main_call11_c : Ref sig .tc := ⟨.hbm, 219, rfl⟩
abbrev main_call11_v0 : Ref sig .tc := ⟨.hbm, 220, rfl⟩
abbrev main_call11_v1 : Ref sig .tc := ⟨.hbm, 221, rfl⟩
abbrev main_call11_c_0 : Ref sig .tc := ⟨.hbm, 222, rfl⟩
abbrev main_call11_v2 : Ref sig .tc := ⟨.hbm, 223, rfl⟩
abbrev main_call11_v3 : Ref sig .tc := ⟨.hbm, 224, rfl⟩
abbrev main_call11_v4 : Ref sig .tc := ⟨.hbm, 225, rfl⟩
abbrev main_call11_v5 : Ref sig .tc := ⟨.hbm, 226, rfl⟩
abbrev main_call11_c_1 : Ref sig .tc := ⟨.hbm, 227, rfl⟩
abbrev main_call11_c_2 : Ref sig .tc := ⟨.hbm, 228, rfl⟩
abbrev main_call11_v6 : Ref sig .tc := ⟨.hbm, 229, rfl⟩
abbrev main_call11_v7 : Ref sig .tc := ⟨.hbm, 230, rfl⟩
abbrev main_call11_v8 : Ref sig .tc := ⟨.hbm, 231, rfl⟩
abbrev main_call11_v9 : Ref sig .tc := ⟨.hbm, 232, rfl⟩
abbrev main_call11_v10 : Ref sig .tc := ⟨.hbm, 233, rfl⟩
abbrev main_call11_v11 : Ref sig .tc := ⟨.hbm, 234, rfl⟩
abbrev main_call11_c_3 : Ref sig .tc := ⟨.hbm, 235, rfl⟩
abbrev main_call11_v12 : Ref sig .tc := ⟨.hbm, 236, rfl⟩
abbrev main_call11_v13 : Ref sig .tc := ⟨.hbm, 237, rfl⟩
abbrev main_call11_cst : Ref sig .tc := ⟨.hbm, 238, rfl⟩
abbrev main_call11_v14 : Ref sig .tc := ⟨.hbm, 239, rfl⟩
abbrev main_v63 : Ref sig .tc := ⟨.hbm, 240, rfl⟩
abbrev main_cst_8 : Ref sig .tc := ⟨.hbm, 241, rfl⟩
abbrev main_call12_v0 : Ref sig .tc := ⟨.hbm, 242, rfl⟩
abbrev main_call12_v1 : Ref sig .tc := ⟨.hbm, 243, rfl⟩
abbrev main_v64 : Ref sig .tc := ⟨.hbm, 244, rfl⟩
abbrev main_call13_c : Ref sig .tc := ⟨.hbm, 245, rfl⟩
abbrev main_call13_v0 : Ref sig .tc := ⟨.hbm, 246, rfl⟩
abbrev main_call13_v1 : Ref sig .tc := ⟨.hbm, 247, rfl⟩
abbrev main_call13_c_0 : Ref sig .tc := ⟨.hbm, 248, rfl⟩
abbrev main_call13_v2 : Ref sig .tc := ⟨.hbm, 249, rfl⟩
abbrev main_call13_v3 : Ref sig .tc := ⟨.hbm, 250, rfl⟩
abbrev main_call13_v4 : Ref sig .tc := ⟨.hbm, 251, rfl⟩
abbrev main_call13_v5 : Ref sig .tc := ⟨.hbm, 252, rfl⟩
abbrev main_call13_c_1 : Ref sig .tc := ⟨.hbm, 253, rfl⟩
abbrev main_call13_c_2 : Ref sig .tc := ⟨.hbm, 254, rfl⟩
abbrev main_call13_v6 : Ref sig .tc := ⟨.hbm, 255, rfl⟩
abbrev main_call13_v7 : Ref sig .tc := ⟨.hbm, 256, rfl⟩
abbrev main_call13_v8 : Ref sig .tc := ⟨.hbm, 257, rfl⟩
abbrev main_call13_v9 : Ref sig .tc := ⟨.hbm, 258, rfl⟩
abbrev main_call13_v10 : Ref sig .tc := ⟨.hbm, 259, rfl⟩
abbrev main_call13_v11 : Ref sig .tc := ⟨.hbm, 260, rfl⟩
abbrev main_call13_c_3 : Ref sig .tc := ⟨.hbm, 261, rfl⟩
abbrev main_call13_v12 : Ref sig .tc := ⟨.hbm, 262, rfl⟩
abbrev main_call13_v13 : Ref sig .tc := ⟨.hbm, 263, rfl⟩
abbrev main_call13_cst : Ref sig .tc := ⟨.hbm, 264, rfl⟩
abbrev main_call13_v14 : Ref sig .tc := ⟨.hbm, 265, rfl⟩
abbrev main_v65 : Ref sig .tc := ⟨.hbm, 266, rfl⟩
abbrev main_cst_9 : Ref sig .tc := ⟨.hbm, 267, rfl⟩
abbrev main_call14_v0 : Ref sig .tc := ⟨.hbm, 268, rfl⟩
abbrev main_call14_v1 : Ref sig .tc := ⟨.hbm, 269, rfl⟩
abbrev main_v66 : Ref sig .tc := ⟨.hbm, 270, rfl⟩

abbrev nD : Nat := 1
abbrev τ : Topo := Topo.v7x

variable {F : FTy → Type} [FloatOps F]

abbrev main_while0_count : Scf.Loop 32 := ⟨0#32, 20000#32, 1#32⟩
-- ==== Proof.RefFrame.lean ====
/-
  The reference leaves its arguments alone: no operation before its loop, in it or after it writes one.
-/
module

public import proofs.«01_k».proof.Proof.Gen.ReferenceIdeal.Run
public import proofs.«01_k».proof.Defs
public import Idealize.ShloMosaic.Lib.Quiescent

@[expose] public section

set_option maxRecDepth 4096

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable {F : FTy → Type} [FloatOps F]

theorem post7_writes : (hostOps0_7 : List (HloOp τ sig (Elt F))).Forall fun op => op.writes ⊆
    (([main_c_5, main_v57, main_v58, main_c_6] : List (Ref sig .tc)).map (Proc.devRef (τ := τ) .tc)).toFinset :=
  StableHlo.forall_writes_sub_of_map rfl
theorem post8_writes : (hostOps0_8 : List (HloOp τ sig (Elt F))).Forall fun op => op.writes ⊆
    (([main_call8_v0, main_call8_v1, main_v59] : List (Ref sig .tc)).map (Proc.devRef (τ := τ) .tc)).toFinset :=
  StableHlo.forall_writes_sub_of_map rfl
theorem post9_writes : (hostOps0_9 : List (HloOp τ sig (Elt F))).Forall fun op => op.writes ⊆
    (([main_v60] : List (Ref sig .tc)).map (Proc.devRef (τ := τ) .tc)).toFinset :=
  StableHlo.forall_writes_sub_of_map rfl
theorem post10_writes : (hostOps0_10 : List (HloOp τ sig (Elt F))).Forall fun op => op.writes ⊆
    (([main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v61] : List (Ref sig .tc)).map (Proc.devRef (τ := τ) .tc)).toFinset :=
  StableHlo.forall_writes_sub_of_map rfl
theorem post11_writes : (hostOps0_11 : List (HloOp τ sig (Elt F))).Forall fun op => op.writes ⊆
    (([main_cst_7] : List (Ref sig .tc)).map (Proc.devRef (τ := τ) .tc)).toFinset :=
  StableHlo.forall_writes_sub_of_map rfl
theorem post12_writes : (hostOps0_12 : List (HloOp τ sig (Elt F))).Forall fun op => op.writes ⊆
    (([main_call10_v0, main_call10_v1, main_call10_v2, main_v62] : List (Ref sig .tc)).map (Proc.devRef (τ := τ) .tc)).toFinset :=
  StableHlo.forall_writes_sub_of_map rfl
theorem post13_writes : (hostOps0_13 : List (HloOp τ sig (Elt F))).Forall fun op => op.writes ⊆
    (([main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v63] : List (Ref sig .tc)).map (Proc.devRef (τ := τ) .tc)).toFinset :=
  StableHlo.forall_writes_sub_of_map rfl
theorem post14_writes : (hostOps0_14 : List (HloOp τ sig (Elt F))).Forall fun op => op.writes ⊆
    (([main_cst_8] : List (Ref sig .tc)).map (Proc.devRef (τ := τ) .tc)).toFinset :=
  StableHlo.forall_writes_sub_of_map rfl
theorem post15_writes : (hostOps0_15 : List (HloOp τ sig (Elt F))).Forall fun op => op.writes ⊆
    (([main_call12_v0, main_call12_v1, main_v64] : List (Ref sig .tc)).map (Proc.devRef (τ := τ) .tc)).toFinset :=
  StableHlo.forall_writes_sub_of_map rfl
theorem post16_writes : (hostOps0_16 : List (HloOp τ sig (Elt F))).Forall fun op => op.writes ⊆
    (([main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_cst, main_call13_v14, main_v65] : List (Ref sig .tc)).map (Proc.devRef (τ := τ) .tc)).toFinset :=
  StableHlo.forall_writes_sub_of_map rfl
theorem post17_writes : (hostOps0_17 : List (HloOp τ sig (Elt F))).Forall fun op => op.writes ⊆
    (([main_cst_9] : List (Ref sig .tc)).map (Proc.devRef (τ := τ) .tc)).toFinset :=
  StableHlo.forall_writes_sub_of_map rfl
theorem post18_writes : (hostOps0_18 : List (HloOp τ sig (Elt F))).Forall fun op => op.writes ⊆
    (([main_call14_v0, main_call14_v1, main_v66] : List (Ref sig .tc)).map (Proc.devRef (τ := τ) .tc)).toFinset :=
  StableHlo.forall_writes_sub_of_map rfl

/-- The arguments. -/
abbrev argRefs : List (Ref sig .tc) := [main_arg0, main_arg1, main_arg2, main_arg3, main_arg4]

/-- The stretches before the loop leave the arguments. -/
theorem pre_keeps (V : Valuation τ sig (Elt F)) : ∀ r ∈ argRefs, afterL preI V (Proc.devRef .tc r) = V (Proc.devRef .tc r) := by
  intro r hr
  simp only [afterL_cons, afterL_nil]
  rw [after_of_writes_sub hostOps0_6 _ hostOps0_6_writes (by revert r; decide)]
  rw [after_of_writes_sub hostOps0_5 _ hostOps0_5_writes (by revert r; decide)]
  rw [after_of_writes_sub hostOps0_4 _ hostOps0_4_writes (by revert r; decide)]
  rw [after_of_writes_sub hostOps0_3 _ hostOps0_3_writes (by revert r; decide)]
  rw [after_of_writes_sub hostOps0_2 _ hostOps0_2_writes (by revert r; decide)]
  rw [after_of_writes_sub hostOps0_1 _ hostOps0_1_writes (by revert r; decide)]
  rw [after_of_writes_sub hostOps0 _ hostOps0_writes (by revert r; decide)]

/-- A trip leaves the arguments. -/
theorem trip_keeps (V : Valuation τ sig (Elt F)) :
    ∀ r ∈ argRefs, afterL bodyI (after condOps V) (Proc.devRef .tc r) = V (Proc.devRef .tc r) := by
  intro r hr
  simp only [afterL_cons, afterL_nil]
  rw [after_of_writes_sub while0Ops0_10 _ while0Ops0_10_writes (by revert r; decide)]
  rw [after_of_writes_sub while0Ops0_9 _ while0Ops0_9_writes (by revert r; decide)]
  rw [after_of_writes_sub while0Ops0_8 _ while0Ops0_8_writes (by revert r; decide)]
  rw [after_of_writes_sub while0Ops0_7 _ while0Ops0_7_writes (by revert r; decide)]
  rw [after_of_writes_sub while0Ops0_6 _ while0Ops0_6_writes (by revert r; decide)]
  rw [after_of_writes_sub while0Ops0_5 _ while0Ops0_5_writes (by revert r; decide)]
  rw [after_of_writes_sub while0Ops0_4 _ while0Ops0_4_writes (by revert r; decide)]
  rw [after_of_writes_sub while0Ops0_3 _ while0Ops0_3_writes (by revert r; decide)]
  rw [after_of_writes_sub while0Ops0_2 _ while0Ops0_2_writes (by revert r; decide)]
  rw [after_of_writes_sub while0Ops0_1 _ while0Ops0_1_writes (by revert r; decide)]
  rw [after_of_writes_sub while0Ops0 _ while0Ops0_writes (by revert r; decide)]
  rw [after_of_writes_sub condOps _ condOps_writes (by revert r; decide)]

/-- The stretches after the loop leave the arguments. -/
theorem post_keeps (V : Valuation τ sig (Elt F)) : ∀ r ∈ argRefs, afterL postI V (Proc.devRef .tc r) = V (Proc.devRef .tc r) := by
  intro r hr
  simp only [afterL_cons, afterL_nil]
  rw [after_of_writes_sub hostOps0_18 _ post18_writes (by revert r; decide)]
  rw [after_of_writes_sub hostOps0_17 _ post17_writes (by revert r; decide)]
  rw [after_of_writes_sub hostOps0_16 _ post16_writes (by revert r; decide)]
  rw [after_of_writes_sub hostOps0_15 _ post15_writes (by revert r; decide)]
  rw [after_of_writes_sub hostOps0_14 _ post14_writes (by revert r; decide)]
  rw [after_of_writes_sub hostOps0_13 _ post13_writes (by revert r; decide)]
  rw [after_of_writes_sub hostOps0_12 _ post12_writes (by revert r; decide)]
  rw [after_of_writes_sub hostOps0_11 _ post11_writes (by revert r; decide)]
  rw [after_of_writes_sub hostOps0_10 _ post10_writes (by revert r; decide)]
  rw [after_of_writes_sub hostOps0_9 _ post9_writes (by revert r; decide)]
  rw [after_of_writes_sub hostOps0_8 _ post8_writes (by revert r; decide)]
  rw [after_of_writes_sub hostOps0_7 _ post7_writes (by revert r; decide)]

/-- Nothing writes an argument. -/
theorem final_keeps (m : (ℓ : Loc nD τ sig) → Buf (Elt F) ℓ) (c : Dev nD) (r : Ref sig .tc) (hr : r ∈ argRefs) :
    finalContents condOps preI bodyI postI 20000 m c (Proc.devRef .tc r) = m ((c.tc : Thread nD τ).loc r) := by
  have trips : ∀ n, atTrip condOps bodyI (entryContents preI m) n c (Proc.devRef .tc r) = m ((c.tc : Thread nD τ).loc r) := by
    intro n
    induction n with
    | zero => exact (pre_keeps _ r hr)
    | succ n ih => rw [atTrip_succ, trip_keeps _ r hr]; exact ih
  show afterL postI (after condOps _) _ = _
  rw [post_keeps _ r hr, after_of_writes_sub condOps _ condOps_writes (by clear trips; revert r; decide)]
  exact trips _

/-- The reference runs, leaves its arguments, and ends every counter at zero. -/
theorem frame : Cert.quiescent_ReferenceIdeal (hReferenceIdeal := Cert.ReferenceIdeal.Gen.facts) := by
  intro m ρ _
  refine (θ_run (defs (F := Ideal)) _ _).mono (fun r h => ⟨fun c => ?_, Idealize.ShloMosaic.sem_eq_zero_of_no_sems (by decide) r.2⟩) (run_fold m ρ)
  exact ⟨(h c main_arg0 rfl).trans (final_keeps m c _ (by decide)), (h c main_arg1 rfl).trans (final_keeps m c _ (by decide)),
    (h c main_arg2 rfl).trans (final_keeps m c _ (by decide)), (h c main_arg3 rfl).trans (final_keeps m c _ (by decide)),
    (h c main_arg4 rfl).trans (final_keeps m c _ (by decide))⟩

end Cert.ReferenceIdeal.Hand

end
-- ==== Proof.Model.lean ====
/-
  One event of the kernel's selection loop, as a function on the contents of its buffers.

  The loop keeps eight buffers: the three score outputs, the matched-box row, the remaining scores, the matched-box
  column, the matched rows' indices and the four words of free boxes (`St`). It reads three more that it never writes:
  the mask scores, the overlaps and the words of the boxes each prediction overlaps (`Cst`). `step` is what one event
  leaves in the eight, written with the kernel's own payload functions, when the two bounds the event relies on hold.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The buffers an event reads and never writes. -/
structure Cst (F : FTy → Type) where
  ms : Vec F S1x20480 .f32
  iou : Vec F S100x20480 .f32
  wb : Vec F S4x20480 .i32

/-- The buffers an event may change. -/
structure St (F : FTy → Type) where
  fl : Vec F S100x1 .f32
  os : Vec F S100x1 .f32
  dt : Vec F S1x20480 .i32
  bi : Vec F S100x1 .f32
  ws : Vec F S1x20480 .f32
  gt : Vec F S100x1 .i32
  gs : Vec F S1x100 .i32
  aw : Vec F S1x4 .i32

/-- The elements of `d` under a rectangle. -/
def ldv {s : Shape} {e : EltTy} (d : Vec F s e) (r : Rect s) : Vec F r.shape e := fun x => d (r.toLoadRect.idx x)

/-- The one element of `d` under a rectangle of one element. -/
def wd {s : Shape} {e : EltTy} (d : Vec F s e) (r : Rect s) (h : r.shape.numel = 1) : Elt F e :=
  ldv d r (Shape.Idx.first (h.symm ▸ Nat.one_pos))

open Classical in
/-- `d` with the elements under a rectangle replaced by `w`. -/
def ovr {s : Shape} {e : EltTy} (d : Vec F s e) (r : Rect s) (w : Vec F r.shape e) : Vec F s e :=
  fun y => if h : ∃ x, r.emb x = y then w h.choose else d y

theorem ovr_emb {s : Shape} {e : EltTy} (d : Vec F s e) (r : Rect s) (w : Vec F r.shape e) (x : r.shape.Idx) :
    ovr d r w (r.emb x) = w x := by
  unfold ovr
  have h : ∃ x', r.emb x' = r.emb x := ⟨x, rfl⟩
  rw [dif_pos h, r.emb.injective h.choose_spec]

theorem ovr_miss {s : Shape} {e : EltTy} (d : Vec F s e) (r : Rect s) (w : Vec F r.shape e) (y : s.Idx)
    (h : ∀ x, r.emb x ≠ y) : ovr d r w y = d y := by
  unfold ovr
  rw [dif_neg (fun ⟨x, hx⟩ => h x hx)]

/-- Reading a buffer after one more write is reading it before, overlaid with the write. -/
theorem read_writes_cons_ovr {sig : RefSig} {κ : Kind} {sp : Space} {s : Shape} {e : EltTy} (v : View sig κ sp s e)
    (f : v.ty.Contents (Elt F)) (r : Rect s) (w : Vec F r.shape e) (L : List (View.Piece (Elt F) s e)) :
    v.read (Elt F) (v.writes (Elt F) f (⟨r, w⟩ :: L)) = ovr (v.read (Elt F) (v.writes (Elt F) f L)) r w := by
  funext y
  by_cases h : ∃ x, r.emb x = y
  · obtain ⟨x, rfl⟩ := h
    rw [ovr_emb]; exact View.read_slice_write_emb r _ w (Finset.mem_univ x)
  · rw [ovr_miss _ _ _ _ (fun x hx => h ⟨x, hx⟩)]
    refine View.read_slice_write_of_not_mem r _ w _ fun hm => h ?_
    obtain ⟨x, -, hx⟩ := Finset.mem_map.mp hm
    exact ⟨x, hx⟩

namespace Ev

variable (C : Cst F) (s : St F)

/-- The four words of free boxes. -/
def a0 : Elt F .i32 := wd s.aw (Rect.unit (s := S1x4) ![0, 0] S1x1.size inb_S1x4_S1x1_0_0) numel1_S1x1
def a1 : Elt F .i32 := wd s.aw (Rect.unit (s := S1x4) ![0, 1] S1x1.size inb_S1x4_S1x1_0_1) numel1_S1x1
def a2 : Elt F .i32 := wd s.aw (Rect.unit (s := S1x4) ![0, 2] S1x1.size inb_S1x4_S1x1_0_2) numel1_S1x1
def a3 : Elt F .i32 := wd s.aw (Rect.unit (s := S1x4) ![0, 3] S1x1.size inb_S1x4_S1x1_0_3) numel1_S1x1

/-- The four rows of overlap words. -/
def b0 : Vec F S1x20480 .i32 := ldv C.wb (Rect.unit (s := S4x20480) ![0, 0] S1x20480.size inb_S4x20480_S1x20480_0_0)
def b1 : Vec F S1x20480 .i32 := ldv C.wb (Rect.unit (s := S4x20480) ![1, 0] S1x20480.size inb_S4x20480_S1x20480_1_0)
def b2 : Vec F S1x20480 .i32 := ldv C.wb (Rect.unit (s := S4x20480) ![2, 0] S1x20480.size inb_S4x20480_S1x20480_2_0)
def b3 : Vec F S1x20480 .i32 := ldv C.wb (Rect.unit (s := S4x20480) ![3, 0] S1x20480.size inb_S4x20480_S1x20480_3_0)

/-- The remaining scores. -/
def w0 : Vec F S1x20480 .f32 := ldv s.ws (Rect.unit (s := S1x20480) ![0, 0] S1x20480.size inb_S1x20480_S1x20480_0_0)

/-- The scores of the predictions that overlap a free box, the others at the low stand-in. -/
def cand : FVec F S1x20480 .f32 := k0_pay235 (a0 s) (a1 s) (a2 s) (a3 s) (b0 C) (b1 C) (b2 C) (b3 C) (w0 s)
/-- Their largest. -/
def top : F .f32 := k0_pay236 (a0 s) (a1 s) (a2 s) (a3 s) (b0 C) (b1 C) (b2 C) (b3 C) (w0 s)
/-- Whether the largest reaches the threshold. -/
def hit : BitVec 1 := Scalar.cmpf .oge (top C s) (Scalar.ofBits .f32 0x3D4CCCCD#32)
/-- The first prediction that attains the largest. -/
def pick : BitVec 32 := extractAt ![0, 0, 0] (k0_pay3 (cand C s) (top C s)) inpos_S1x1x1_p0_0_0
/-- The lane of the picked prediction in its block of 128. -/
def lane : IVec S1x128 1 := k0_pay4 (cand C s) (top C s)

/-- The picked prediction's column of overlaps. -/
def col (h1 : k0_cond1 (hit C s) = 1#1) (hc : k0_chk1 (hit C s) (pick C s)) : FVec F S100x1 .f32 :=
  k0_pay5 (cand C s) (top C s)
    (ldv C.iou (Rect.unit (s := S100x20480) (k0_off1 (pick C s)) S100x128.size (k0_off1_inb (hit C s) (pick C s) hc h1)))
/-- The picked prediction's mask score, as a block of 128. -/
def msblk (h1 : k0_cond1 (hit C s) = 1#1) (hc : k0_chk1 (hit C s) (pick C s)) : FVec F S1x128 .f32 :=
  k0_pay6 (ldv C.ms (Rect.unit (s := S1x20480) (k0_off2 (pick C s)) S1x128.size (k0_off2_inb (hit C s) (pick C s) hc h1)))
/-- The matched-box column as loaded. -/
def g0 : Vec F S100x1 .i32 := ldv s.gt (Rect.unit (s := S100x1) ![0, 0] S100x1.size inb_S100x1_S100x1_0_0)
/-- The box the picked prediction is matched to. -/
def box (h1 : k0_cond1 (hit C s) = 1#1) (hc : k0_chk1 (hit C s) (pick C s)) : BitVec 32 :=
  extractAt ![0, 0, 0] (k0_pay11 (col C s h1 hc) (g0 s)) inpos_S1x1x1_p0_0_0

/-- The bit of the matched box within its word of free boxes. -/
def bit (m : BitVec 32) : BitVec 32 :=
  let v3630 : BitVec 1 := Scalar.cmpi .eq 32#32 0#32
  let v3631 : BitVec 32 := Scalar.select v3630 1#32 32#32
  let v3632 : BitVec 32 := Scalar.remsi m v3631
  let v3633 : BitVec 1 := Scalar.cmpi .ne v3632 0#32
  let v3634 : BitVec 1 := Scalar.cmpi .slt v3632 0#32
  let v3635 : BitVec 1 := Scalar.cmpi .slt v3631 0#32
  let v3636 : BitVec 1 := Scalar.xori v3634 v3635
  let v3637 : BitVec 1 := Scalar.andi v3636 v3633
  let v3638 : BitVec 32 := Scalar.addi v3632 v3631
  Scalar.select v3637 v3638 v3632

/-- The two bounds an event that matches relies on: the picked prediction's block and the matched box. -/
def Ok : Prop := k0_cond1 (hit C s) = 1#1 →
  ∃ hc : k0_chk1 (hit C s) (pick C s), ∀ h1 : k0_cond1 (hit C s) = 1#1, k0_chk2 (hit C s) (pick C s) (box C s h1 hc)

/-- The word of free boxes with the matched box's bit cleared. -/
def word (h1 : k0_cond1 (hit C s) = 1#1) (hc : k0_chk1 (hit C s) (pick C s))
    (hd : k0_chk2 (hit C s) (pick C s) (box C s h1 hc)) (h2 : k0_cond2 (pick C s) = 1#1) : BitVec 32 :=
  Scalar.andi (wd s.aw (Rect.unit (s := S1x4) (k0_off4 (box C s h1 hc)) S1x1.size
      (k0_off4_inb (hit C s) (pick C s) (box C s h1 hc) hd h1 h2)) numel1_S1x1)
    (Scalar.xori (Scalar.shli 1#32 (bit (box C s h1 hc))) 4294967295#32)

/-- The words of free boxes after an event that matches: a prediction of index above zero takes its box. -/
def free (h1 : k0_cond1 (hit C s) = 1#1) (hc : k0_chk1 (hit C s) (pick C s))
    (hd : k0_chk2 (hit C s) (pick C s) (box C s h1 hc)) : Vec F S1x4 .i32 :=
  if h2 : k0_cond2 (pick C s) = 1#1 then
    ovr s.aw (Rect.unit (s := S1x4) (k0_off4 (box C s h1 hc)) S1x1.size
      (k0_off4_inb (hit C s) (pick C s) (box C s h1 hc) hd h1 h2)) (fun _ => word C s h1 hc hd h2)
  else s.aw

theorem free_pos (h1 : k0_cond1 (hit C s) = 1#1) (hc : k0_chk1 (hit C s) (pick C s))
    (hd : k0_chk2 (hit C s) (pick C s) (box C s h1 hc)) (h2 : k0_cond2 (pick C s) = 1#1) :
    free C s h1 hc hd = ovr s.aw (Rect.unit (s := S1x4) (k0_off4 (box C s h1 hc)) S1x1.size
        (k0_off4_inb (hit C s) (pick C s) (box C s h1 hc) hd h1 h2)) (fun _ => word C s h1 hc hd h2) := by
  unfold free; rw [dif_pos h2]

theorem free_neg (h1 : k0_cond1 (hit C s) = 1#1) (hc : k0_chk1 (hit C s) (pick C s))
    (hd : k0_chk2 (hit C s) (pick C s) (box C s h1 hc)) (h2 : ¬ k0_cond2 (pick C s) = 1#1) :
    free C s h1 hc hd = s.aw := by
  unfold free; rw [dif_neg h2]

/-- What an event that matches leaves. -/
def took (h1 : k0_cond1 (hit C s) = 1#1) (hc : k0_chk1 (hit C s) (pick C s))
    (hd : k0_chk2 (hit C s) (pick C s) (box C s h1 hc)) : St F where
  fl := ovr s.fl (Rect.unit (s := S100x1) ![0, 0] S100x1.size inb_S100x1_S100x1_0_0)
    (k0_pay240 (k0_pay8 (lane C s) (msblk C s h1 hc) k0_pay7) (k0_pay14 (col C s h1 hc) (g0 s))
      (ldv s.fl (Rect.unit (s := S100x1) ![0, 0] S100x1.size inb_S100x1_S100x1_0_0)))
  os := ovr s.os (Rect.unit (s := S100x1) ![0, 0] S100x1.size inb_S100x1_S100x1_0_0)
    (k0_pay239 (a0 s) (a1 s) (a2 s) (a3 s) (b0 C) (b1 C) (b2 C) (b3 C) (w0 s) (k0_pay14 (col C s h1 hc) (g0 s))
      (ldv s.os (Rect.unit (s := S100x1) ![0, 0] S100x1.size inb_S100x1_S100x1_0_0)))
  dt := ovr s.dt (Rect.unit (s := S1x20480) (k0_off2 (pick C s)) S1x128.size (k0_off2_inb (hit C s) (pick C s) hc h1))
    (k0_pay12 (lane C s) (col C s h1 hc) (g0 s)
      (ldv s.dt (Rect.unit (s := S1x20480) (k0_off2 (pick C s)) S1x128.size (k0_off2_inb (hit C s) (pick C s) hc h1))))
  bi := ovr s.bi (Rect.unit (s := S100x1) ![0, 0] S100x1.size inb_S100x1_S100x1_0_0)
    (k0_pay238 (k0_pay10 (col C s h1 hc) (g0 s)) (k0_pay14 (col C s h1 hc) (g0 s))
      (ldv s.bi (Rect.unit (s := S100x1) ![0, 0] S100x1.size inb_S100x1_S100x1_0_0)))
  ws := ovr s.ws (Rect.unit (s := S1x20480) (k0_off2 (pick C s)) S1x128.size (k0_off2_inb (hit C s) (pick C s) hc h1))
    (k0_pay13 (lane C s)
      (ldv s.ws (Rect.unit (s := S1x20480) (k0_off2 (pick C s)) S1x128.size (k0_off2_inb (hit C s) (pick C s) hc h1))))
  gt := ovr s.gt (Rect.unit (s := S100x1) ![0, 0] S100x1.size inb_S100x1_S100x1_0_0)
    (k0_pay237 (k0_pay14 (col C s h1 hc) (g0 s)) (g0 s) (k0_pay15 (pick C s)))
  gs := ovr s.gs (Rect.unit (s := S1x100) (k0_off3 (box C s h1 hc)) S1x1.size
      (k0_off3_inb (hit C s) (pick C s) (box C s h1 hc) hd h1)) (fun _ => pick C s)
  aw := free C s h1 hc hd

theorem took_aw (h1 : k0_cond1 (hit C s) = 1#1) (hc : k0_chk1 (hit C s) (pick C s))
    (hd : k0_chk2 (hit C s) (pick C s) (box C s h1 hc)) : (took C s h1 hc hd).aw = free C s h1 hc hd := by
  dsimp only [took]

end Ev

open Classical in
/-- What one event leaves: what `Ev.took` says when a score reaches the threshold, else nothing changed. -/
def step (C : Cst F) (s : St F) : St F :=
  if h1 : k0_cond1 (Ev.hit C s) = 1#1 then
    if hc : k0_chk1 (Ev.hit C s) (Ev.pick C s) then
      if hd : k0_chk2 (Ev.hit C s) (Ev.pick C s) (Ev.box C s h1 hc) then Ev.took C s h1 hc hd else s
    else s
  else s

theorem step_hit (C : Cst F) (s : St F) (h1 : k0_cond1 (Ev.hit C s) = 1#1) (hc : k0_chk1 (Ev.hit C s) (Ev.pick C s))
    (hd : k0_chk2 (Ev.hit C s) (Ev.pick C s) (Ev.box C s h1 hc)) : step C s = Ev.took C s h1 hc hd := by
  unfold step; rw [dif_pos h1, dif_pos hc, dif_pos hd]

theorem step_miss (C : Cst F) (s : St F) (h1 : ¬ k0_cond1 (Ev.hit C s) = 1#1) : step C s = s := by
  unfold step; rw [dif_neg h1]

end Cert.KernelIdeal.Hand

end
-- ==== Proof.Words.lean ====
/-
  The integer scalars of one event, on small words: the block a prediction lies in, its lane there, the word and the bit
  of a box, and the two conditions.
-/
module

public import proofs.«01_k».proof.Proof.Model
public import Idealize.ShloMosaic.Lib.Routing.Words

@[expose] public section

set_option maxRecDepth 16384

noncomputable section

namespace Cert.KernelIdeal.Hand

open Cert.KernelIdeal.Gen
open Idealize.ShloMosaic

/-- Floor division as the kernel spells it: the truncated quotient, less one when the signs differ and there is a
    remainder. -/
def fdiv (v d : BitVec 32) : BitVec 32 :=
  Scalar.select
    (Scalar.andi
      (Scalar.cmpi .ne
        (Scalar.subi (Scalar.extui (Scalar.cmpi .sgt v 0#32) : BitVec 32) (Scalar.extui (Scalar.cmpi .slt v 0#32)))
        (Scalar.subi (Scalar.extui (Scalar.cmpi .sgt d 0#32) : BitVec 32) (Scalar.extui (Scalar.cmpi .slt d 0#32))))
      (Scalar.cmpi .ne (Scalar.remsi v d) 0#32))
    (Scalar.subi (Scalar.divsi v d) 1#32) (Scalar.divsi v d)

theorem sgt_zero {y : ℕ} (hy : y < 2 ^ 31) : Scalar.cmpi .sgt (BitVec.ofNat 32 y) 0#32 = BitVec.ofBool (decide (0 < y)) := by
  show BitVec.ofBool (BitVec.slt 0#32 (BitVec.ofNat 32 y)) = _
  rw [BitVec.slt, BitVec.toInt_eq_toNat_of_lt (x := BitVec.ofNat 32 y) (by rw [BitVec.toNat_ofNat]; omega), BitVec.toNat_ofNat]
  congr 2; simp; omega

theorem slt_zero {y : ℕ} (hy : y < 2 ^ 31) : Scalar.cmpi .slt (BitVec.ofNat 32 y) 0#32 = 0#1 := by
  show BitVec.ofBool (BitVec.slt (BitVec.ofNat 32 y) 0#32) = _
  rw [BitVec.slt, BitVec.toInt_eq_toNat_of_lt (x := BitVec.ofNat 32 y) (by rw [BitVec.toNat_ofNat]; omega), BitVec.toNat_ofNat]
  rw [decide_eq_false (by simp; omega)]; rfl

theorem fdiv_word {y d : ℕ} (hy : y < 2 ^ 31) (h0 : 0 < d) (hd : d < 2 ^ 31) :
    fdiv (BitVec.ofNat 32 y) (BitVec.ofNat 32 d) = BitVec.ofNat 32 (y / d) := by
  unfold fdiv
  rw [sgt_zero hy, slt_zero hy, sgt_zero hd, slt_zero hd, decide_eq_true h0]
  have e1 : Scalar.divsi (BitVec.ofNat 32 y) (BitVec.ofNat 32 d) = BitVec.ofNat 32 (y / d) := Routing.divsi_word .scalar hy h0 hd
  have e2 : Scalar.remsi (BitVec.ofNat 32 y) (BitVec.ofNat 32 d) = BitVec.ofNat 32 (y % d) := Routing.remsi_word .scalar hy h0 hd
  rw [e1, e2]
  rcases Nat.eq_zero_or_pos y with rfl | h
  · simp only [Nat.zero_mod, Nat.zero_div]; rfl
  · rw [decide_eq_true h]
    rw [show Scalar.andi _ _ = 0#1 from by
      rw [show (Scalar.cmpi .ne (Scalar.subi (Scalar.extui (BitVec.ofBool true) : BitVec 32) (Scalar.extui 0#1)) (Scalar.subi (Scalar.extui (BitVec.ofBool true)) (Scalar.extui 0#1))) = 0#1 from by decide]
      exact BitVec.zero_and]
    rfl

theorem off2_eq {y : ℕ} (hy : y < 20480) : k0_off2 (BitVec.ofNat 32 y) = ![0, y / 128 * 128] := by
  show ![0, (Scalar.muli (fdiv (BitVec.ofNat 32 y) (BitVec.ofNat 32 128)) 128#32).toNat] = _
  rw [fdiv_word (by omega) (by omega) (by omega)]
  congr 2
  show (BitVec.ofNat 32 (y / 128) * BitVec.ofNat 32 128).toNat = _
  rw [← BitVec.ofNat_mul, BitVec.toNat_ofNat]; omega

theorem off1_eq {y : ℕ} (hy : y < 20480) : k0_off1 (BitVec.ofNat 32 y) = ![0, y / 128 * 128] := off2_eq hy

theorem mult1_eq {y : ℕ} (hy : y < 20480) : (k0_mult1 (BitVec.ofNat 32 y)).toNat = y / 128 * 128 := congrFun (off2_eq hy) 1

theorem off3_eq (m : Fin 100) : k0_off3 (BitVec.ofNat 32 m) = ![0, m.val] := by
  show ![0, (BitVec.ofNat 32 m.val).toNat] = _
  rw [BitVec.toNat_ofNat]; congr 2; omega

theorem off4_eq (m : Fin 100) : k0_off4 (BitVec.ofNat 32 m) = ![0, m.val / 32] := by
  show ![0, (fdiv (BitVec.ofNat 32 m.val) (BitVec.ofNat 32 32)).toNat] = _
  rw [fdiv_word (by omega) (by omega) (by omega), BitVec.toNat_ofNat]; congr 2; omega

theorem bit_eq : ∀ m : Fin 100, Ev.bit (BitVec.ofNat 32 m) = BitVec.ofNat 32 (m.val % 32) := by decide

theorem cond1_eq (v : BitVec 1) : k0_cond1 v = v := by revert v; decide

theorem cond2_iff {y : ℕ} (hy : y < 20480) : k0_cond2 (BitVec.ofNat 32 y) = 1#1 ↔ 0 < y := by
  show Scalar.cmpi .ne (Scalar.extui (Scalar.cmpi .sgt (BitVec.ofNat 32 y) 0#32) : BitVec 32) 0#32 = 1#1 ↔ _
  rw [sgt_zero (by omega)]
  by_cases h : 0 < y
  · simp only [h, decide_true, iff_true]; decide
  · simp only [h, decide_false, iff_false]; decide

theorem chk1_of {y : ℕ} (hy : y < 20480) (v : BitVec 1) : k0_chk1 v (BitVec.ofNat 32 y) := by
  refine ⟨fun _ => ?_, fun _ => ?_, fun _ => ?_⟩
  · rw [mult1_eq hy]; exact Dvd.intro_left _ rfl
  · rw [off1_eq hy]; intro a; fin_cases a
    · show 0 + 100 ≤ 100; omega
    · show y / 128 * 128 + 128 ≤ 20480; omega
  · rw [off2_eq hy]; intro a; fin_cases a
    · show 0 + 1 ≤ 1; omega
    · show y / 128 * 128 + 128 ≤ 20480; omega

theorem chk2_of (m : Fin 100) (v : BitVec 1) (w : BitVec 32) : k0_chk2 v w (BitVec.ofNat 32 m) := by
  refine ⟨fun _ => ?_, fun _ _ => ?_⟩
  · rw [off3_eq]; intro a; fin_cases a
    · show 0 + 1 ≤ 1; omega
    · show m.val + 1 ≤ 100; omega
  · rw [off4_eq]; intro a; fin_cases a
    · show 0 + 1 ≤ 1; omega
    · show m.val / 32 + 1 ≤ 4; omega

/-- The row a word names: itself, or row zero when it is the word for none. -/
theorem maxsi_eq {y : ℕ} (hy : y < 20000) : (Scalar.maxsi (BitVec.ofNat 32 y) 0#32).toNat = y := by
  show (if BitVec.slt 0#32 (BitVec.ofNat 32 y) = true then BitVec.ofNat 32 y else 0#32).toNat = y
  rw [BitVec.slt, BitVec.toInt_eq_toNat_of_lt (x := BitVec.ofNat 32 y) (by rw [BitVec.toNat_ofNat]; omega), BitVec.toNat_ofNat]
  split_ifs with h
  · rw [BitVec.toNat_ofNat]; omega
  · simp at h ⊢; omega

theorem chk3_of {w : BitVec 32} (h : w = 4294967295#32 ∨ ∃ y : ℕ, y < 20000 ∧ w = BitVec.ofNat 32 y) : k0_chk3 w := by
  have hn : (Scalar.maxsi w 0#32).toNat < 20000 := by
    rcases h with rfl | ⟨y, hy, rfl⟩
    · decide
    · rw [maxsi_eq hy]; exact hy
  have e : ∀ a, (![(Scalar.maxsi w 0#32).toNat, 0] : Fin 2 → ℕ) a + S1x784.size a ≤ S20000x784.size a := by
    intro a; fin_cases a
    · show (Scalar.maxsi w 0#32).toNat + 1 ≤ 20000; omega
    · show 0 + 784 ≤ 784; omega
  exact ⟨e, e⟩

end Cert.KernelIdeal.Hand

end
-- ==== Proof.Reduce.lean ====
/-
  Largest and smallest of a vector, as the kernel and the reference take them: by a reduction to one element, then the
  first place that attains it by a smallest-index reduction.
-/
module

public import proofs.«01_k».proof.Proof.Model
public import Idealize.ShloMosaic.Lib.Pointwise

@[expose] public section

noncomputable section

namespace Cert.KernelIdeal.Hand

open Idealize.ShloMosaic

/-! ## Folds over a finite set -/

theorem fold_max_spec {α : Type} (S : Finset α) (hS : S.Nonempty) (f : α → EReal) :
    (∀ i ∈ S, f i ≤ S.fold max ⊥ f) ∧ ∃ i ∈ S, f i = S.fold max ⊥ f := by
  have hle : ∀ i ∈ S, f i ≤ S.fold max ⊥ f := fun i hi => (Finset.le_fold_max (b := ⊥) (f := f) (s := S) (f i)).2 (Or.inr ⟨i, hi, le_rfl⟩)
  refine ⟨hle, ?_⟩
  obtain ⟨m, hm, h⟩ := S.exists_max_image f hS
  exact ⟨m, hm, le_antisymm (hle m hm) (Finset.fold_max_le _ |>.2 ⟨bot_le, fun x hx => h x hx⟩)⟩

theorem minsi_toInt (a b : BitVec 32) : (IKind.minsi.op a b).toInt = min a.toInt b.toInt := by
  show (if a.slt b = true then a else b).toInt = _
  simp only [BitVec.slt, decide_eq_true_eq]
  split_ifs with h
  · exact (min_eq_left h.le).symm
  · exact (min_eq_right (not_lt.1 h)).symm

theorem fold_minsi_toInt {α : Type} (S : Finset α) (f : α → BitVec 32) (b : BitVec 32) :
    (S.fold IKind.minsi.op b f).toInt = S.fold min b.toInt (fun i => (f i).toInt) := by
  classical
  induction S using Finset.induction_on with
  | empty => rfl
  | insert a s ha ih => rw [Finset.fold_insert ha, Finset.fold_insert ha, minsi_toInt, ih]

theorem toInt_small (n : ℕ) (h : n < 2 ^ 31) : (BitVec.ofNat 32 n).toInt = n := by
  rw [BitVec.toInt_eq_toNat_of_lt (by rw [BitVec.toNat_ofNat]; omega), BitVec.toNat_ofNat]
  omega

/-- Among numbers below `2 ^ 30`, those of the places where `p` holds and `2 ^ 30` for the others: the smallest is the
    first place where `p` holds. -/
theorem fold_first {α : Type} (S : Finset α) (p : α → Prop) [DecidablePred p] (num : α → ℕ) (hnum : ∀ a ∈ S, num a < 2 ^ 30)
    (hp : ∃ a ∈ S, p a) (f : α → BitVec 32)
    (hf : ∀ a ∈ S, f a = if p a then BitVec.ofNat 32 (num a) else 1073741824#32) (b : BitVec 32) (hb : 2 ^ 30 ≤ b.toInt) :
    ∃ a ∈ S, p a ∧ S.fold IKind.minsi.op b f = BitVec.ofNat 32 (num a) ∧ ∀ a' ∈ S, p a' → num a ≤ num a' := by
  classical
  obtain ⟨m, hm, hmin⟩ := (S.filter p).exists_min_image num (hp.imp fun a h => Finset.mem_filter.2 h)
  rw [Finset.mem_filter] at hm
  refine ⟨m, hm.1, hm.2, ?_, fun a' ha' hpa' => hmin a' (Finset.mem_filter.2 ⟨ha', hpa'⟩)⟩
  have hlt := hnum m hm.1
  apply BitVec.eq_of_toInt_eq
  rw [fold_minsi_toInt, toInt_small _ (by omega)]
  apply le_antisymm
  · refine (Finset.fold_min_le _).2 (Or.inr ⟨m, hm.1, ?_⟩)
    rw [hf m hm.1, if_pos hm.2, toInt_small _ (by omega)]
  · refine (Finset.le_fold_min _).2 ⟨by omega, fun x hx => ?_⟩
    rw [hf x hx]
    have hx' := hnum x hx
    split_ifs with h
    · rw [toInt_small _ (by omega)]
      exact_mod_cast hmin x (Finset.mem_filter.2 ⟨hx, h⟩)
    · show (num m : Int) ≤ (1073741824#32 : BitVec 32).toInt
      rw [show (1073741824#32 : BitVec 32).toInt = 1073741824 from by decide]
      omega

/-! ## Reductions to one element -/

/-- All indices of the source meet in a result of one element. -/
theorem filter_total {s t : Shape} {axes : List (Fin s.rank)} (h : s.Reduces axes t) (ht : ∀ b, t.size b = 1) (j : t.Idx) :
    (Finset.univ.filter fun i => h.drop i = j) = Finset.univ :=
  Finset.filter_true_of_mem fun i _ => funext fun b => Fin.ext (by
    have h1 := (h.drop i b).isLt; have h2 := (j b).isLt; have h3 := ht b; omega)

theorem ofBits_negInf : (FloatOps.ofBits .f32 0xFF800000#32 : Ideal .f32) = (⊥ : EReal) := by
  show Ideal.ofBits .f32 _ = _
  simp [Ideal.ofBits, Ideal.ieee]

theorem ofBits_negOne : (FloatOps.ofBits .f32 0xBF800000#32 : Ideal .f32) = (-1 : EReal) := by
  show Ideal.ofBits .f32 _ = _
  simp [Ideal.ofBits, Ideal.ieee, -EReal.coe_mul]
  norm_num

theorem neg_one_lt : (-1 : EReal) < 0 := by
  have h : ((-1 : ℝ) : EReal) < ((0 : ℝ) : EReal) := EReal.coe_lt_coe_iff.mpr (by norm_num)
  simpa using h

/-- The score threshold and the overlap threshold, as extended reals. -/
def thr : EReal := Ideal.ofBits .f32 0x3D4CCCCD#32
def half : EReal := Ideal.ofBits .f32 0x3F000000#32

theorem thr_gt : (-1 : EReal) < thr := by
  unfold thr
  have h : (0 : EReal) ≤ Ideal.ofBits .f32 0x3D4CCCCD#32 := by
    simp [Ideal.ofBits, Ideal.ieee, -EReal.coe_mul]
  exact lt_of_lt_of_le neg_one_lt h

theorem half_gt : (-1 : EReal) < half := by
  unfold half
  have h : (0 : EReal) ≤ Ideal.ofBits .f32 0x3F000000#32 := by
    simp [Ideal.ofBits, Ideal.ieee, -EReal.coe_mul]
  exact lt_of_lt_of_le neg_one_lt h

/-- A vector's largest element by a reduction to one element: it bounds every element and is one of them. -/
theorem max_total {s t u : Shape} {axes : List (Fin t.rank)} (v : s.Idx → Ideal .f32) (h : s.ShapeCasts t)
    (hr : t.Reduces axes u) (hu : ∀ b, u.size b = 1) (i0 : s.Idx) (hφ : FKind.Formats .f32)
    (hacc : (0xFF800000#32 : BitVec (FTy.bits .f32)) = FKind.maximumf.neutral .f32 hφ) (j : u.Idx) :
    (∀ i, v i ≤ (multiReduction .maximumf axes u (shapeCast t v h) 0xFF800000#32 hr hφ hacc j : Ideal .f32))
      ∧ ∃ i, v i = (multiReduction .maximumf axes u (shapeCast t v h) 0xFF800000#32 hr hφ hacc j : Ideal .f32) := by
  have e : (multiReduction .maximumf axes u (shapeCast t v h) 0xFF800000#32 hr hφ hacc j : Ideal .f32)
      = (Finset.univ : Finset t.Idx).fold max ⊥ (fun k => v (Shape.reshapeEquiv h k)) := by
    rw [multiReduction_maximumf_eq_fold, filter_total hr hu, ofBits_negInf]
    rfl
  rw [e]
  obtain ⟨h1, k, -, h2⟩ := fold_max_spec (Finset.univ : Finset t.Idx) ⟨(Shape.reshapeEquiv h).symm i0, Finset.mem_univ _⟩
    (fun k => v (Shape.reshapeEquiv h k))
  refine ⟨fun i => ?_, _, h2⟩
  have := h1 ((Shape.reshapeEquiv h).symm i) (Finset.mem_univ _)
  simpa using this

/-- The first place where `p` holds, by a smallest-number reduction to one element. -/
theorem first_total {s t u : Shape} {axes : List (Fin t.rank)} (f : s.Idx → BitVec 32) (h : s.ShapeCasts t)
    (hr : t.Reduces axes u) (hu : ∀ b, u.size b = 1) (p : s.Idx → Prop) [DecidablePred p] (num : s.Idx → ℕ)
    (hnum : ∀ a, num a < 2 ^ 30) (hp : ∃ a, p a) (hf : ∀ a, f a = if p a then BitVec.ofNat 32 (num a) else 1073741824#32)
    (hacc : (2147483647#32 : BitVec 32) = IKind.minsi.neutral) (j : u.Idx) :
    ∃ a, p a ∧ multiReductionI .minsi axes u (shapeCast t f h) 2147483647#32 hr hacc j = BitVec.ofNat 32 (num a)
      ∧ ∀ a', p a' → num a ≤ num a' := by
  obtain ⟨a0, ha0⟩ := hp
  obtain ⟨k, -, hk, e, hmin⟩ := fold_first (Finset.univ : Finset t.Idx) (fun k => p (Shape.reshapeEquiv h k))
    (fun k => num (Shape.reshapeEquiv h k)) (fun _ _ => hnum _)
    ⟨(Shape.reshapeEquiv h).symm a0, Finset.mem_univ _, by simpa using ha0⟩
    (fun k => f (Shape.reshapeEquiv h k)) (fun k _ => hf _) 2147483647#32 (by decide)
  refine ⟨_, hk, ?_, fun a' ha' => ?_⟩
  · rw [multiReductionI_eq_fold, filter_total hr hu]; exact e
  · simpa using hmin ((Shape.reshapeEquiv h).symm a') (Finset.mem_univ _) (by simpa using ha')

end Cert.KernelIdeal.Hand

end
-- ==== Proof.Greedy.lean ====
/-
  The two selections, on plain functions.

  The reference visits every prediction in order of falling score and gives each, if its score and an overlap reach the
  thresholds, the free box it overlaps most. The kernel keeps the remaining scores and, event by event, takes the
  largest of those whose prediction overlaps a free box enough. This file states one trip of the first (`Trip`) and one
  event of the second (`Event`) as relations, and shows that after all trips and after 101 events the two hold the same
  matches (`same_matches`): boxes only ever stop being free, so a prediction passed over once is passed over for good;
  and every event but one, that of prediction number zero, uses up a free box.
-/
module

public import Idealize.ShloMosaic.PureOps.Ideal
public import Mathlib.Data.Fintype.Card
public import Mathlib.Data.Fintype.BigOperators

@[expose] public section

noncomputable section

namespace Cert.Greedy

/-- A box is free while its match is none (`-1`) or prediction number zero. -/
def av (g : Fin 100 → BitVec 32) (j : Fin 100) : Prop := (g j).toInt ≤ 0

/-- What both selections keep: the box of each prediction, the prediction of each box, the overlap of each match. -/
structure Match where
  dt : Fin 20480 → BitVec 32
  g : Fin 100 → BitVec 32
  bi : Fin 100 → EReal

/-- What the kernel's selection keeps beside that. -/
structure Ker where
  W : Fin 20480 → EReal
  m : Match
  os : Fin 100 → EReal
  fl : Fin 100 → EReal

variable (half thr : EReal) (iou : Fin 100 → Fin 20480 → EReal) (ms : Fin 20480 → EReal)

/-- The prediction overlaps some free box enough. -/
def live (g : Fin 100 → BitVec 32) (y : Fin 20480) : Prop := ∃ j, av g j ∧ half ≤ iou j y

/-- The first of the free boxes that the prediction overlaps most, and enough. -/
def Best (g : Fin 100 → BitVec 32) (y : Fin 20480) (m : Fin 100) : Prop :=
  av g m ∧ half ≤ iou m y ∧ ∀ j, av g j → iou j y ≤ iou m y ∧ (iou j y = iou m y → m ≤ j)

/-- The matches with prediction `y` given box `m`. -/
def Match.put (r : Match) (y : Fin 20480) (m : Fin 100) : Match where
  dt := Function.update r.dt y (BitVec.ofNat 32 m)
  g := Function.update r.g m (BitVec.ofNat 32 y)
  bi := Function.update r.bi m (iou m y)

/-- What the kernel keeps with prediction `y` given box `m`. -/
def Ker.put (k : Ker) (y : Fin 20480) (m : Fin 100) : Ker where
  W := Function.update k.W y (-1)
  m := k.m.put iou y m
  os := Function.update k.os m (k.W y)
  fl := Function.update k.fl m (ms y)

/-- Among the predictions that overlap a free box enough, `y` is the first of the largest remaining score. -/
def Top (k : Ker) (y : Fin 20480) : Prop :=
  live half iou k.m.g y ∧ thr ≤ k.W y ∧
    ∀ z, live half iou k.m.g z → k.W z ≤ k.W y ∧ (k.W z = k.W y → y ≤ z)

/-- One event of the kernel's selection. -/
def Event (k k' : Ker) : Prop :=
  ((∀ y, live half iou k.m.g y → k.W y < thr) ∧ k' = k)
    ∨ ∃ y m, Top half thr iou k y ∧ Best half iou k.m.g y m ∧ k' = k.put iou ms y m

/-- One trip of the reference, at prediction `y` of score `x`. -/
def Trip (y : Fin 20480) (x : EReal) (r r' : Match) : Prop :=
  (¬ (thr ≤ x ∧ live half iou r.g y) ∧ r' = r)
    ∨ (thr ≤ x ∧ ∃ m, Best half iou r.g y m ∧ r' = r.put iou y m)

variable {half thr iou ms}

theorem Best.live {g : Fin 100 → BitVec 32} {y : Fin 20480} {m : Fin 100} (h : Best half iou g y m) : live half iou g y :=
  ⟨m, h.1, h.2.1⟩

theorem Best.unique {g : Fin 100 → BitVec 32} {y : Fin 20480} {m m' : Fin 100} (h : Best half iou g y m)
    (h' : Best half iou g y m') : m = m' := by
  have e : iou m y = iou m' y := le_antisymm (h'.2.2 m h.1).1 (h.2.2 m' h'.1).1
  exact le_antisymm ((h.2.2 m' h'.1).2 e.symm) ((h'.2.2 m h.1).2 e)

theorem Top.unique {k : Ker} {y y' : Fin 20480} (h : Top half thr iou k y) (h' : Top half thr iou k y') : y = y' := by
  have e : k.W y = k.W y' := le_antisymm (h'.2.2 y h.1).1 (h.2.2 y' h'.1).1
  exact le_antisymm ((h.2.2 y' h'.1).2 e.symm) ((h'.2.2 y h.1).2 e)

theorem toInt_ofNat (y : Fin 20480) : (BitVec.ofNat 32 y.val).toInt = y.val := by
  have := y.isLt
  rw [BitVec.toInt_eq_toNat_of_lt (by rw [BitVec.toNat_ofNat]; omega), BitVec.toNat_ofNat]
  omega

/-- A box free after a match was free before it, if the box matched was. -/
theorem av_of_put {g : Fin 100 → BitVec 32} {y : Fin 20480} {m j : Fin 100} (hm : av g m)
    (h : av (Function.update g m (BitVec.ofNat 32 y)) j) : av g j := by
  by_cases e : j = m
  · exact e ▸ hm
  · unfold av at h; rwa [Function.update_of_ne e] at h

theorem live_of_put {r : Match} {y z : Fin 20480} {m : Fin 100} (hm : av r.g m)
    (h : live half iou (r.put iou y m).g z) : live half iou r.g z :=
  let ⟨j, hj, hz⟩ := h
  ⟨j, av_of_put hm hj, hz⟩

open Classical in
/-- How many boxes are free. -/
def free (g : Fin 100 → BitVec 32) : ℕ := (Finset.univ.filter fun j => av g j).card

open Classical in
theorem free_le (g : Fin 100 → BitVec 32) : free g ≤ 100 := by
  unfold free
  exact (Finset.card_filter_le _ _).trans (by simp)

open Classical in
theorem free_put_le {r : Match} {y : Fin 20480} {m : Fin 100} (hm : av r.g m) : free (r.put iou y m).g ≤ free r.g := by
  unfold free
  refine Finset.card_le_card fun j hj => ?_
  simp only [Finset.mem_filter, Finset.mem_univ, true_and] at hj ⊢
  exact av_of_put hm hj

open Classical in
theorem free_put_lt {r : Match} {y : Fin 20480} {m : Fin 100} (hm : av r.g m) (hy : y.val ≠ 0) :
    free (r.put iou y m).g + 1 ≤ free r.g := by
  unfold free
  refine Finset.card_lt_card (Finset.ssubset_iff_of_subset (fun j hj => ?_) |>.mpr ⟨m, ?_, ?_⟩)
  · simp only [Finset.mem_filter, Finset.mem_univ, true_and] at hj ⊢
    exact av_of_put hm hj
  · simp only [Finset.mem_filter, Finset.mem_univ, true_and]; exact hm
  · simp only [Finset.mem_filter, Finset.mem_univ, true_and]
    show ¬ (Function.update r.g m (BitVec.ofNat 32 y) m).toInt ≤ 0
    rw [Function.update_self, toInt_ofNat]; omega

/-- Prediction number `i` among the padded ones. -/
def up (i : Fin 20000) : Fin 20480 := ⟨i.val, by have := i.isLt; omega⟩

section Same

variable (sc : Fin 20000 → EReal) (ord : Fin 20000 → Fin 20000)

/-- What holds before trip `t` of the reference and after `n` events of the kernel. -/
structure Sim (t n : ℕ) (k : Ker) (r : Match) : Prop where
  same : k.m = r
  rest : ∀ t' : Fin 20000, t ≤ t'.val → k.W (up (ord t')) = if thr ≤ sc (ord t') then sc (ord t') else -1
  late : ∀ y, live half iou k.m.g y → thr ≤ k.W y → ∃ t' : Fin 20000, t ≤ t'.val ∧ y = up (ord t')
  room : n + free k.m.g + (if ∃ t' : Fin 20000, t ≤ t'.val ∧ (ord t').val = 0 then 1 else 0) ≤ 101

variable {sc ord}

/-- One trip is matched by no event or by one. -/
theorem Sim.trip (hthr : -1 < thr) (hinj : Function.Injective ord)
    (hord : ∀ a b : Fin 20000, a < b → sc (ord b) < sc (ord a) ∨ (sc (ord b) = sc (ord a) ∧ ord a < ord b))
    {K : ℕ → Ker} (hK : ∀ n, Event half thr iou ms (K n) (K (n + 1))) {r r' : Match} (t : Fin 20000) {n : ℕ}
    (h : Sim (half := half) (thr := thr) (iou := iou) sc ord t.val n (K n) r)
    (ht : Trip half thr iou (up (ord t)) (sc (ord t)) r r') :
    ∃ n', n ≤ n' ∧ Sim (half := half) (thr := thr) (iou := iou) sc ord (t.val + 1) n' (K n') r' := by
  have hroom : (if ∃ t' : Fin 20000, t.val + 1 ≤ t'.val ∧ (ord t').val = 0 then 1 else 0)
      ≤ (if ∃ t' : Fin 20000, t.val ≤ t'.val ∧ (ord t').val = 0 then 1 else 0) := by
    split_ifs with h1 h2 <;> first | omega | (obtain ⟨t', e, e'⟩ := h1; exact absurd ⟨t', by omega, e'⟩ h2)
  rcases ht with ⟨hno, rfl⟩ | ⟨hx, m, hm, rfl⟩
  · refine ⟨n, le_rfl, h.same, fun t' e => h.rest t' (by omega), fun y hl hw => ?_, by have := h.room; omega⟩
    obtain ⟨t', e, rfl⟩ := h.late y hl hw
    rcases Nat.lt_or_ge t.val t'.val with e' | e'
    · exact ⟨t', e', rfl⟩
    · have : t' = t := Fin.ext (by omega)
      subst this
      refine absurd ⟨?_, h.same ▸ hl⟩ hno
      by_contra hc
      rw [h.rest t' le_rfl, if_neg hc] at hw
      exact absurd hthr (not_lt.2 hw)
  · have hg : (K n).m.g = r.g := by rw [h.same]
    have hW : (K n).W (up (ord t)) = sc (ord t) := by rw [h.rest t le_rfl, if_pos hx]
    have hlive : live half iou (K n).m.g (up (ord t)) := by rw [hg]; exact hm.live
    have htop : Top half thr iou (K n) (up (ord t)) := by
      refine ⟨hlive, hW ▸ hx, fun z hz => ?_⟩
      by_cases hzt : thr ≤ (K n).W z
      · obtain ⟨t', e, rfl⟩ := h.late z hz hzt
        have hs : (K n).W (up (ord t')) = sc (ord t') := by
          rw [h.rest t' e] at hzt ⊢
          split_ifs at hzt ⊢ with hc
          · rfl
          · exact absurd hthr (not_lt.2 hzt)
        rw [hs, hW]
        rcases Nat.lt_or_ge t.val t'.val with e' | e'
        · rcases hord t t' e' with hlt | ⟨heq, hlt⟩
          · exact ⟨hlt.le, fun e => absurd e hlt.ne⟩
          · exact ⟨heq.le, fun _ => Nat.le_of_lt hlt⟩
        · have : t' = t := Fin.ext (by omega)
          subst this
          exact ⟨le_rfl, fun _ => le_rfl⟩
      · have hlt : (K n).W z < (K n).W (up (ord t)) := (not_le.1 hzt).trans_le (hW ▸ hx)
        exact ⟨hlt.le, fun e => absurd e hlt.ne⟩
    rcases hK n with ⟨hno, -⟩ | ⟨y, m', hy, hm', hk⟩
    · exact absurd htop.2.1 (not_le.2 (hno _ hlive))
    · have ey : y = up (ord t) := hy.unique htop
      subst ey
      have em : m' = m := hm'.unique (hg ▸ hm)
      subst em
      have hav : av (K n).m.g m' := hg ▸ hm.1
      refine ⟨n + 1, by omega, ?_, ?_, ?_, ?_⟩
      · rw [hk]; show (K n).m.put iou _ _ = _; rw [h.same]
      · intro t' e
        rw [hk]
        show Function.update (K n).W (up (ord t)) (-1) (up (ord t')) = _
        rw [Function.update_of_ne, h.rest t' (by omega)]
        intro e'
        have h1 : ord t' = ord t := Fin.ext (show (up (ord t')).val = (up (ord t)).val by rw [e'])
        have := hinj h1
        subst this; omega
      · intro z hz hw
        rw [hk] at hz hw
        have hz' := live_of_put hav hz
        by_cases ez : z = up (ord t)
        · subst ez
          change thr ≤ Function.update (K n).W (up (ord t)) (-1) (up (ord t)) at hw
          rw [Function.update_self] at hw
          exact absurd hthr (not_lt.2 hw)
        · change thr ≤ Function.update (K n).W (up (ord t)) (-1) z at hw
          rw [Function.update_of_ne ez] at hw
          obtain ⟨t', e, rfl⟩ := h.late z hz' hw
          refine ⟨t', ?_, rfl⟩
          rcases Nat.lt_or_ge t.val t'.val with e' | e'
          · exact e'
          · have : t' = t := Fin.ext (by omega)
            exact absurd (this ▸ rfl) ez
      · rw [hk]
        have hr := h.room
        show n + 1 + free ((K n).m.put iou (up (ord t)) m').g + _ ≤ 101
        by_cases h0 : (ord t).val = 0
        · have hf := free_put_le (iou := iou) (y := up (ord t)) hav
          rw [if_pos ⟨t, le_rfl, h0⟩] at hr
          rw [if_neg]
          · omega
          · rintro ⟨t', e, e'⟩
            have := hinj (Fin.ext (e'.trans h0.symm))
            subst this; omega
        · have hf := free_put_lt (iou := iou) (y := up (ord t)) hav h0
          omega

/-- After all trips and 101 events the matches are the same. -/
theorem same_matches (hthr : -1 < thr) (hinj : Function.Injective ord)
    (hord : ∀ a b : Fin 20000, a < b → sc (ord b) < sc (ord a) ∨ (sc (ord b) = sc (ord a) ∧ ord a < ord b))
    {K : ℕ → Ker} (hK : ∀ n, Event half thr iou ms (K n) (K (n + 1))) {R : ℕ → Match}
    (hR : ∀ t : Fin 20000, Trip half thr iou (up (ord t)) (sc (ord t)) (R t.val) (R (t.val + 1)))
    (h0 : (K 0).m = R 0)
    (hW : ∀ i, (K 0).W (up i) = if thr ≤ sc i then sc i else -1)
    (hsur : Function.Surjective ord)
    (hpad : ∀ y, thr ≤ (K 0).W y → ∃ i, y = up i) :
    (K 101).m = R 20000 := by
  have main : ∀ t, t ≤ 20000 → ∃ n, Sim (half := half) (thr := thr) (iou := iou) sc ord t n (K n) (R t) := by
    intro t
    induction t with
    | zero =>
      intro _
      refine ⟨0, h0, fun t' _ => hW _, fun y _ hw => ?_, ?_⟩
      · obtain ⟨i, rfl⟩ := hpad y hw
        obtain ⟨t', rfl⟩ := hsur i
        exact ⟨t', Nat.zero_le _, rfl⟩
      · have := free_le (K 0).m.g
        split_ifs <;> omega
    | succ t ih =>
      intro ht
      obtain ⟨n, hn⟩ := ih (by omega)
      obtain ⟨n', -, h'⟩ := hn.trip hthr hinj hord hK ⟨t, by omega⟩ (hR ⟨t, by omega⟩)
      exact ⟨n', h'⟩
  obtain ⟨n, h⟩ := main 20000 le_rfl
  have hn : n ≤ 101 := by have := h.room; omega
  have stay : ∀ d, K (n + d) = K n := by
    intro d
    induction d with
    | zero => rfl
    | succ d ih =>
      rcases hK (n + d) with ⟨-, e⟩ | ⟨y, m, hy, -, -⟩
      · rw [← Nat.add_assoc, e, ih]
      · rw [ih] at hy
        obtain ⟨t', e, -⟩ := h.late y hy.1 hy.2.1
        have := t'.isLt; omega
  have e := stay (101 - n)
  rw [Nat.add_sub_cancel' hn] at e
  rw [e, h.same]

end Same

end Cert.Greedy

end
-- ==== Proof.Event.lean ====
/-
  One event of the kernel's selection at the ideal values is one `Greedy.Event` of what its buffers hold.

  `Inv` is what the event relies on: the bits of the overlap words say which boxes a prediction overlaps enough, the bits
  of the free words say which boxes are free, and the index each box keeps beside its column is the column's.
-/
module

public import proofs.«01_k».proof.Proof.Words
public import proofs.«01_k».proof.Proof.Reduce
public import proofs.«01_k».proof.Proof.Greedy

@[expose] public section

set_option maxRecDepth 16384

noncomputable section

namespace Cert.KernelIdeal.Hand

open Cert.KernelIdeal.Gen
open Idealize.ShloMosaic
open Cert.Greedy

/-! ## Elements under a rectangle -/

theorem ldv_at {F : FTy → Type} [FloatOps F] {s : Shape} {e : EltTy} (d : Vec F s e) (off size : Fin s.rank → ℕ) (inb) (x) (y : s.Idx)
    (h : ∀ a, (y a).val = off a + (x a : ℕ)) : ldv d (Rect.unit (s := s) off size inb) x = d y := by
  unfold ldv
  congr 1
  funext a
  apply Fin.ext
  rw [h a]
  show off a + 1 * (x a : ℕ) = _
  rw [one_mul]

theorem ovr_in {F : FTy → Type} [FloatOps F] {s : Shape} {e : EltTy} (d : Vec F s e) (off size : Fin s.rank → ℕ) (inb) (w) (x) (y : s.Idx)
    (h : ∀ a, (y a).val = off a + (x a : ℕ)) : ovr d (Rect.unit (s := s) off size inb) w y = w x := by
  have e : y = (Rect.unit (s := s) off size inb).emb x := by
    funext a; apply Fin.ext
    rw [h a]; show _ = off a + 1 * (x a : ℕ); rw [one_mul]
  rw [e, ovr_emb]

theorem ovr_out {F : FTy → Type} [FloatOps F] {s : Shape} {e : EltTy} (d : Vec F s e) (off size : Fin s.rank → ℕ) (inb) (w) (y : s.Idx)
    (a : Fin s.rank) (h : (y a).val < off a ∨ off a + size a ≤ (y a).val) : ovr d (Rect.unit (s := s) off size inb) w y = d y := by
  refine ovr_miss _ _ _ _ fun x hx => ?_
  have h1 : (y a).val = off a + 1 * (x a : ℕ) := by rw [← hx]; rfl
  have h2 : (x a : ℕ) < size a := (x a).isLt
  omega

/-- What the kernel's buffers hold, as the plain functions of the abstract selection. -/
def rd (s : St Ideal) : Ker where
  W y := s.ws (ix2 0 y)
  m := ⟨fun y => s.dt (ix2 0 y), fun j => s.gt (ix2 j 0), fun j => s.bi (ix2 j 0)⟩
  os j := s.os (ix2 j 0)
  fl j := s.fl (ix2 j 0)

/-- The overlaps and the mask scores as plain functions. -/
def iouOf (C : Cst Ideal) (j : Fin 100) (y : Fin 20480) : EReal := C.iou (ix2 j y)
def msOf (C : Cst Ideal) (y : Fin 20480) : EReal := C.ms (ix2 0 y)

structure Inv (C : Cst Ideal) (s : St Ideal) : Prop where
  over : ∀ (j : Fin 100) (y : Fin 20480),
    (C.wb (ix2 ⟨j.val / 32, by omega⟩ y) : BitVec 32).getLsbD (j.val % 32) = true ↔ half ≤ iouOf C j y
  free : ∀ j : Fin 100, (s.aw (ix2 0 ⟨j.val / 32, by omega⟩) : BitVec 32).getLsbD (j.val % 32) = true ↔ av (rd s).m.g j
  none : ∀ (q : Fin 4) (b : ℕ), 100 ≤ 32 * q.val + b → (s.aw (ix2 0 q) : BitVec 32).getLsbD b = false
  same : ∀ j : Fin 100, s.gs (ix2 0 j) = (rd s).m.g j

variable {C : Cst Ideal} {s : St Ideal}

/-! ## The predictions that overlap a free box -/

/-- The word whose bits are the free boxes a prediction overlaps enough, the four words combined. -/
def both (C : Cst Ideal) (s : St Ideal) (y : Fin 20480) : BitVec 32 :=
  (((C.wb (ix2 0 y) : BitVec 32) &&& (s.aw (ix2 0 0) : BitVec 32) ||| (C.wb (ix2 1 y) : BitVec 32) &&& (s.aw (ix2 0 1) : BitVec 32))
    ||| (C.wb (ix2 2 y) : BitVec 32) &&& (s.aw (ix2 0 2) : BitVec 32)) ||| (C.wb (ix2 3 y) : BitVec 32) &&& (s.aw (ix2 0 3) : BitVec 32)

theorem both_bit (y : Fin 20480) (b : ℕ) :
    (both C s y).getLsbD b = true ↔ ∃ q : Fin 4, (C.wb (ix2 q y) : BitVec 32).getLsbD b = true ∧ (s.aw (ix2 0 q) : BitVec 32).getLsbD b = true := by
  unfold both
  simp only [BitVec.getLsbD_or, BitVec.getLsbD_and, Bool.or_eq_true, Bool.and_eq_true]
  constructor
  · rintro (((h | h) | h) | h)
    exacts [⟨0, h⟩, ⟨1, h⟩, ⟨2, h⟩, ⟨3, h⟩]
  · rintro ⟨q, h⟩
    fin_cases q
    exacts [.inl (.inl (.inl h)), .inl (.inl (.inr h)), .inl (.inr h), .inr h]

theorem both_iff (hI : Inv C s) (y : Fin 20480) : both C s y ≠ 0#32 ↔ live half (iouOf C) (rd s).m.g y := by
  constructor
  · intro h
    by_contra hn
    apply h
    apply BitVec.eq_of_getLsbD_eq
    intro b hb
    rw [BitVec.getLsbD_zero]
    by_contra hb'
    rw [Bool.not_eq_false, both_bit] at hb'
    obtain ⟨q, h1, h2⟩ := hb'
    by_cases hq : 100 ≤ 32 * q.val + b
    · rw [hI.none q b hq] at h2; cases h2
    · have hd : (32 * q.val + b) / 32 = q.val := by omega
      have hm : (32 * q.val + b) % 32 = b := by omega
      refine hn ⟨⟨32 * q.val + b, by omega⟩, (hI.free _).1 ?_, (hI.over _ _).1 ?_⟩
      · simp only [hd, hm]; exact h2
      · simp only [hd, hm]; exact h1
  · rintro ⟨j, h1, h2⟩ h0
    have := (both_bit (C := C) (s := s) y (j.val % 32)).2 ⟨⟨j.val / 32, by omega⟩, (hI.over j y).2 h2, (hI.free j).2 h1⟩
    rw [h0, BitVec.getLsbD_zero] at this
    cases this

theorem a_at (q : Fin 4) (off inb) (h : off = ![0, q.val]) :
    wd s.aw (Rect.unit (s := S1x4) off S1x1.size inb) numel1_S1x1 = s.aw (ix2 0 q) := by
  subst h
  unfold wd
  refine ldv_at _ _ _ _ _ _ fun a => ?_
  have hz : ∀ a : Fin 2, ((Shape.Idx.first (s := S1x1) (numel1_S1x1.symm ▸ Nat.one_pos)) a).val = 0 := by
    intro a; have := ((Shape.Idx.first (s := S1x1) (numel1_S1x1.symm ▸ Nat.one_pos)) a).isLt; fin_cases a <;> (simp at this ⊢; exact this)
  fin_cases a
  · exact (hz 0).symm
  · show q.val = q.val + _; exact (congrArg (q.val + ·) (hz 1)).symm

theorem b_at (q : Fin 4) (off inb) (h : off = ![q.val, 0]) (y : Fin 20480) :
    ldv C.wb (Rect.unit (s := S4x20480) off S1x20480.size inb) (ix2 0 y) = C.wb (ix2 q y) := by
  subst h
  refine ldv_at _ _ _ _ _ _ fun a => ?_
  fin_cases a
  · rfl
  · show y.val = 0 + y.val; omega

theorem w_at (y : Fin 20480) : Ev.w0 s (ix2 0 y) = s.ws (ix2 0 y) := by
  refine ldv_at _ _ _ _ _ _ fun a => ?_
  fin_cases a
  · rfl
  · show y.val = 0 + y.val; omega

theorem g0_at (j : Fin 100) : Ev.g0 s (ix2 j 0) = s.gt (ix2 j 0) := by
  refine ldv_at _ _ _ _ _ _ fun a => ?_
  fin_cases a
  · show j.val = 0 + j.val; omega
  · rfl

theorem cand_at (y : Fin 20480) :
    Ev.cand C s (ix2 0 y) = Scalar.select (IntOp.cmpi .ne (both C s y) 0#32) (s.ws (ix2 0 y)) (-1 : EReal) := by
  have e : Ev.cand C s (ix2 0 y) = Scalar.select (IntOp.cmpi .ne
      (((Ev.b0 C (ix2 0 y) &&& Ev.a0 s ||| Ev.b1 C (ix2 0 y) &&& Ev.a1 s) ||| Ev.b2 C (ix2 0 y) &&& Ev.a2 s) ||| Ev.b3 C (ix2 0 y) &&& Ev.a3 s) 0#32)
      (Ev.w0 s (ix2 0 y)) (FloatOps.ofBits .f32 0xBF800000#32 : Ideal .f32) := rfl
  have a0 : Ev.a0 s = s.aw (ix2 0 0) := a_at 0 _ _ rfl
  have a1 : Ev.a1 s = s.aw (ix2 0 1) := a_at 1 _ _ rfl
  have a2 : Ev.a2 s = s.aw (ix2 0 2) := a_at 2 _ _ rfl
  have a3 : Ev.a3 s = s.aw (ix2 0 3) := a_at 3 _ _ rfl
  have b0 : Ev.b0 C (ix2 0 y) = C.wb (ix2 0 y) := b_at 0 _ _ rfl y
  have b1 : Ev.b1 C (ix2 0 y) = C.wb (ix2 1 y) := b_at 1 _ _ rfl y
  have b2 : Ev.b2 C (ix2 0 y) = C.wb (ix2 2 y) := b_at 2 _ _ rfl y
  have b3 : Ev.b3 C (ix2 0 y) = C.wb (ix2 3 y) := b_at 3 _ _ rfl y
  rw [e, ofBits_negOne, w_at, a0, a1, a2, a3, b0, b1, b2, b3]
  rfl

theorem cand_live (hI : Inv C s) {y : Fin 20480} (h : live half (iouOf C) (rd s).m.g y) : Ev.cand C s (ix2 0 y) = (rd s).W y := by
  rw [cand_at]
  have : IntOp.cmpi .ne (both C s y) 0#32 = 1#1 := by
    show BitVec.ofBool (both C s y != 0#32) = 1#1
    rw [bne_iff_ne.2 ((both_iff hI y).2 h)]; rfl
  rw [this]; rfl

theorem cand_dead (hI : Inv C s) {y : Fin 20480} (h : ¬ live half (iouOf C) (rd s).m.g y) : Ev.cand C s (ix2 0 y) = (-1 : EReal) := by
  rw [cand_at]
  have : IntOp.cmpi .ne (both C s y) 0#32 = 0#1 := by
    show BitVec.ofBool (both C s y != 0#32) = 0#1
    have : both C s y = 0#32 := by by_contra h'; exact h ((both_iff hI y).1 h')
    rw [this]; rfl
  rw [this]; rfl

/-! ## The pick -/

open Classical in
theorem cmp_oeq (a b : EReal) : Scalar.cmpf (F := Ideal) (φ := .f32) .oeq a b = if a = b then 1#1 else 0#1 := by
  rw [Ideal.scalar_cmpf_def]
  change BitVec.ofBool (decide (a = b)) = _
  by_cases h : a = b
  · rw [decide_eq_true h, if_pos h]; rfl
  · rw [decide_eq_false h, if_neg h]; rfl

theorem idx1 (i : S1x20480.Idx) : i = ix2 0 (i 1) := by
  rw [eq_ix2 i]; congr 1; exact Subsingleton.elim _ _

theorem top_spec : (∀ y : Fin 20480, (Ev.cand C s (ix2 0 y) : EReal) ≤ Ev.top C s) ∧ ∃ y : Fin 20480, Ev.cand C s (ix2 0 y) = Ev.top C s := by
  have h := max_total (Ev.cand C s) shapeCasts_S1x20480_S1x1x20480 reduces_S1x1x20480_S1 (by decide) (ix2 0 0) (.inl rfl) rfl
    (Shape.reshapeEquiv shapeCasts_S1_S1x1x1 (fun a => ⟨(![0, 0, 0] : Fin 3 → ℕ) a, inpos_S1x1x1_p0_0_0 a⟩))
  refine ⟨fun y => h.1 _, ?_⟩
  obtain ⟨i, hi⟩ := h.2
  refine ⟨i 1, ?_⟩
  exact (congrArg (Ev.cand C s) (idx1 i)).symm.trans hi

theorem hit_iff : k0_cond1 (Ev.hit C s) = 1#1 ↔ thr ≤ (Ev.top C s : EReal) := by
  rw [cond1_eq]
  unfold Ev.hit
  rw [Ideal.scalar_cmpf_def]
  change BitVec.ofBool (decide (thr ≤ (Ev.top C s : EReal))) = 1#1 ↔ _
  by_cases h : thr ≤ (Ev.top C s : EReal)
  · rw [decide_eq_true h]; exact ⟨fun _ => h, fun _ => rfl⟩
  · rw [decide_eq_false h]; exact ⟨fun h' => absurd h' (by decide), fun h' => absurd h' h⟩

open Classical in
theorem cmpf_oeq (a b : Ideal .f32) : FloatOps.cmpf .oeq a b = if a = b then 1#1 else 0#1 := cmp_oeq a b

/-- The largest of the candidates reaches the threshold only at a prediction that overlaps a free box, whose remaining
    score it is. -/
theorem top_live (hI : Inv C s) (ht : thr ≤ (Ev.top C s : EReal)) {y : Fin 20480} (hy : Ev.cand C s (ix2 0 y) = Ev.top C s) :
    live half (iouOf C) (rd s).m.g y ∧ (rd s).W y = Ev.top C s := by
  by_cases h : live half (iouOf C) (rd s).m.g y
  · exact ⟨h, (cand_live hI h).symm.trans hy⟩
  · have e := cand_dead hI h
    rw [hy] at e
    rw [e] at ht
    exact absurd ht (not_le.2 thr_gt)

theorem pick_spec (hI : Inv C s) (ht : thr ≤ (Ev.top C s : EReal)) :
    ∃ y : Fin 20480, Ev.pick C s = BitVec.ofNat 32 y.val ∧ Top half thr (iouOf C) (rd s) y ∧ (rd s).W y = Ev.top C s := by
  classical
  obtain ⟨hle, y0, hy0⟩ := top_spec (C := C) (s := s)
  obtain ⟨i, hi, e, hmin⟩ := first_total
    (select (cmpf .oeq (Ev.cand C s) (broadcast S1x20480 (Ev.top C s))) (iota .tc S1x20480 32 [1] iota_S1x20480_d1_w32)
      (broadcast S1x20480 1073741824#32))
    shapeCasts_S1x20480_S1x1x20480 reduces_S1x1x20480_S1 (by decide)
    (fun i => Ev.cand C s i = Ev.top C s) (fun i => (i 1).val) (fun i => lt_trans (i 1).isLt (by show 20480 < 2 ^ 30; norm_num))
    ⟨ix2 0 y0, hy0⟩ (fun i => by
      rw [ValueIdx.select_apply, ValueIdx.cmpf_apply, ValueIdx.broadcast_apply, ValueIdx.broadcast_apply, cmpf_oeq,
        iota_single_apply .tc S1x20480 32 1 iota_S1x20480_d1_w32 i]
      by_cases h : Ev.cand C s i = Ev.top C s
      · rw [if_pos h, if_pos h]; rfl
      · rw [if_neg h, if_neg h]; rfl)
    rfl (Shape.reshapeEquiv shapeCasts_S1_S1x1x1 (fun a => ⟨(![0, 0, 0] : Fin 3 → ℕ) a, inpos_S1x1x1_p0_0_0 a⟩))
  have hi' : Ev.cand C s (ix2 0 (i 1)) = Ev.top C s := (congrArg (Ev.cand C s) (idx1 i)).symm.trans hi
  obtain ⟨hl, hW⟩ := top_live hI ht hi'
  refine ⟨i 1, ?_, ⟨hl, hW ▸ ht, fun z hz => ?_⟩, hW⟩
  · exact e
  · have ez := cand_live hI hz
    refine ⟨?_, fun h => ?_⟩
    · rw [hW, ← ez]; exact hle z
    · have := hmin (ix2 0 z) (by show Ev.cand C s (ix2 0 z) = _; rw [ez, h, hW])
      exact this

/-! ## The picked prediction's column and mask score -/

/-- The lane mask is set at the picked prediction's lane only. -/
theorem lane_at {y : Fin 20480} (h : Ev.pick C s = BitVec.ofNat 32 y.val) (l : Fin 128) :
    Ev.lane C s (ix2 0 l) = if l.val = y.val % 128 then 1#1 else 0#1 := by
  have e : Ev.lane C s (ix2 0 l) = Scalar.cmpi .eq (iota .tc S1x128 32 [1] iota_S1x128_d1_w32 (ix2 0 l))
      (Scalar.subi (Ev.pick C s) (k0_mult1 (Ev.pick C s))) := rfl
  have hy := y.isLt
  have hl := l.isLt
  rw [e, iota_single_apply .tc S1x128 32 1 iota_S1x128_d1_w32, h]
  have hm : k0_mult1 (BitVec.ofNat 32 y.val) = BitVec.ofNat 32 (y.val / 128 * 128) := by
    apply BitVec.eq_of_toNat_eq
    rw [mult1_eq hy, BitVec.toNat_ofNat]; omega
  have hs : Scalar.subi (BitVec.ofNat 32 y.val) (BitVec.ofNat 32 (y.val / 128 * 128)) = BitVec.ofNat 32 (y.val % 128) := by
    show BitVec.ofNat 32 y.val - BitVec.ofNat 32 (y.val / 128 * 128) = _
    apply BitVec.eq_of_toNat_eq
    rw [BitVec.toNat_sub, BitVec.toNat_ofNat, BitVec.toNat_ofNat, BitVec.toNat_ofNat]; omega
  rw [hm, hs]
  show BitVec.ofBool (BitVec.ofNat 32 l.val == BitVec.ofNat 32 (y.val % 128)) = _
  by_cases hc : l.val = y.val % 128
  · rw [if_pos hc, hc, beq_self_eq_true]; rfl
  · rw [if_neg hc]
    have : (BitVec.ofNat 32 l.val == BitVec.ofNat 32 (y.val % 128)) = false := by
      rw [beq_eq_false_iff_ne]
      intro h'
      have := congrArg BitVec.toNat h'
      rw [BitVec.toNat_ofNat, BitVec.toNat_ofNat] at this
      omega
    rw [this]; rfl

/-- The lane of a prediction in its block. -/
def laneOf (y : Fin 20480) : Fin 128 := ⟨y.val % 128, Nat.mod_lt _ (by norm_num)⟩

theorem blk_at {n : ℕ} {e : EltTy} (d : Vec Ideal ⟨2, ![n, 20480]⟩ e) {y : Fin 20480} (off size) (inb) (ho : off = ![0, y.val / 128 * 128]) (j : Fin n) (x)
    (h0 : (x 0 : ℕ) = j.val) (h1 : (x 1 : ℕ) = y.val % 128) :
    ldv d (Rect.unit (s := ⟨2, ![n, 20480]⟩) off size inb) x = d (ix2 j y) := by
  subst ho
  refine ldv_at _ _ _ _ _ _ fun a => ?_
  fin_cases a
  · show j.val = 0 + _; exact (by omega : j.val = 0 + (x 0 : ℕ))
  · show y.val = y.val / 128 * 128 + _; exact (by omega : y.val = y.val / 128 * 128 + (x 1 : ℕ))

theorem shapeCast_same {s : Shape} {α : Type} (v : s.Idx → α) (h : s.ShapeCasts s) (j : s.Idx) : shapeCast s v h j = v j := by
  unfold shapeCast; rw [Shape.reshapeEquiv_self]

theorem idx0 (i : S100x1.Idx) : i = ix2 (i 0) 0 := by
  rw [eq_ix2 i]; congr 1; exact Subsingleton.elim _ _

theorem col_fold (h1 : k0_cond1 (Ev.hit C s) = 1#1) (hc : k0_chk1 (Ev.hit C s) (Ev.pick C s)) (j : Fin 100) :
    (Ev.col C s h1 hc (ix2 j 0) : EReal) = (Finset.univ : Finset (Fin 128)).fold max (⊥ : EReal) (fun l =>
      Scalar.select (Ev.lane C s (ix2 0 l)) (ldv C.iou (Rect.unit (s := S100x20480) (k0_off1 (Ev.pick C s)) S100x128.size
        (k0_off1_inb (Ev.hit C s) (Ev.pick C s) hc h1)) (ix2 j l)) (-1 : EReal)) := by
  unfold Ev.col k0_pay5
  refine (shapeCast_apply _ shapeCasts_S100_S100x1 (ix2 j 0) (ix1 j) ?_).trans ?_
  · rw [Shape.rowMajor_val_one, Shape.rowMajor_val_two]; show j.val = j.val * 1 + 0; omega
  · refine (Ideal.multiReduction_maximumf_single _ _ reduces_S100x128_S100 _ _ (ix1 j)).trans ?_
    rw [ofBits_negInf]
    refine Finset.fold_congr fun l _ => ?_
    have hl : reduces_S100x128_S100.lift (ix1 j) l = ix2 j l := by
      funext a; apply Fin.ext; fin_cases a <;> rfl
    refine (congrArg (select (broadcastTo S100x128 (shapeCast S1x128 (k0_pay4 (Ev.cand C s) (Ev.top C s)) shapeCasts_S1x128_S1x128) broadcasts_S1x128_S100x128)
      (ldv C.iou (Rect.unit (s := S100x20480) (k0_off1 (Ev.pick C s)) S100x128.size (k0_off1_inb (Ev.hit C s) (Ev.pick C s) hc h1)))
      (broadcast S100x128 (Scalar.ofBits .f32 0xBF800000#32 : Ideal .f32))) hl).trans ?_
    refine (ValueIdx.select_apply _ _ _ _).trans ?_
    have hb := broadcastTo_apply (shapeCast S1x128 (k0_pay4 (Ev.cand C s) (Ev.top C s)) shapeCasts_S1x128_S1x128) broadcasts_S1x128_S100x128
      (ix2 j l) (ix2 0 l) (fun a => by fin_cases a <;> rfl)
    exact congr (congrArg₂ Scalar.select (hb.trans (shapeCast_same _ _ _)) rfl) ofBits_negOne

theorem select_one {α : Type} (a b : α) : Scalar.select 1#1 a b = a := rfl
theorem select_zero {α : Type} (a b : α) : Scalar.select 0#1 a b = b := rfl

/-- The picked prediction's column of overlaps, none below the low stand-in. -/
theorem col_at (h1 : k0_cond1 (Ev.hit C s) = 1#1) (hc : k0_chk1 (Ev.hit C s) (Ev.pick C s)) {y : Fin 20480}
    (hp : Ev.pick C s = BitVec.ofNat 32 y.val) (j : Fin 100) : (Ev.col C s h1 hc (ix2 j 0) : EReal) = max (iouOf C j y) (-1) := by
  have ho : k0_off1 (Ev.pick C s) = ![0, y.val / 128 * 128] := by rw [hp, off1_eq y.isLt]
  rw [col_fold]
  have hin : ∀ l : Fin 128, l.val = y.val % 128 → (Scalar.select (Ev.lane C s (ix2 0 l)) (ldv C.iou (Rect.unit (s := S100x20480) (k0_off1 (Ev.pick C s)) S100x128.size
        (k0_off1_inb (Ev.hit C s) (Ev.pick C s) hc h1)) (ix2 j l)) (-1 : EReal)) = iouOf C j y := by
    intro l hl
    rw [lane_at hp, if_pos hl, select_one]
    exact blk_at C.iou _ _ _ ho j _ rfl hl
  have hout : ∀ l : Fin 128, l.val ≠ y.val % 128 → (Scalar.select (Ev.lane C s (ix2 0 l)) (ldv C.iou (Rect.unit (s := S100x20480) (k0_off1 (Ev.pick C s)) S100x128.size
        (k0_off1_inb (Ev.hit C s) (Ev.pick C s) hc h1)) (ix2 j l)) (-1 : EReal)) = -1 := by
    intro l hl
    rw [lane_at hp, if_neg hl, select_zero]
  obtain ⟨hle, -⟩ := fold_max_spec (Finset.univ : Finset (Fin 128)) ⟨0, Finset.mem_univ _⟩ (fun l =>
      Scalar.select (Ev.lane C s (ix2 0 l)) (ldv C.iou (Rect.unit (s := S100x20480) (k0_off1 (Ev.pick C s)) S100x128.size
        (k0_off1_inb (Ev.hit C s) (Ev.pick C s) hc h1)) (ix2 j l)) (-1 : EReal))
  refine le_antisymm (Finset.fold_max_le _ |>.2 ⟨bot_le, fun l _ => ?_⟩) (max_le ?_ ?_)
  · by_cases hl : l.val = y.val % 128
    · rw [hin l hl]; exact le_max_left _ _
    · rw [hout l hl]; exact le_max_right _ _
  · rw [← hin (laneOf y) rfl]; exact hle _ (Finset.mem_univ _)
  · obtain ⟨l, hl⟩ : ∃ l : Fin 128, l.val ≠ y.val % 128 := by
      by_cases h0 : y.val % 128 = 0
      · exact ⟨1, by rw [h0]; decide⟩
      · exact ⟨0, fun h => h0 h.symm⟩
    exact (hout l hl).ge.trans (hle l (Finset.mem_univ _))

theorem idx128 (i : S1x128.Idx) : i = ix2 0 (i 1) := by
  rw [eq_ix2 i]; congr 1; exact Subsingleton.elim _ _

/-- The picked prediction's mask score. -/
theorem ms_at (h1 : k0_cond1 (Ev.hit C s) = 1#1) (hc : k0_chk1 (Ev.hit C s) (Ev.pick C s)) {y : Fin 20480}
    (hp : Ev.pick C s = BitVec.ofNat 32 y.val) : (k0_pay8 (Ev.lane C s) (Ev.msblk C s h1 hc) k0_pay7 : EReal) = msOf C y := by
  have ho : k0_off2 (Ev.pick C s) = ![0, y.val / 128 * 128] := by rw [hp, off2_eq y.isLt]
  have e := Ideal.multiReduction_add_total (shapeCast S1x1x128 (select (Ev.lane C s) (Ev.msblk C s h1 hc) (k0_pay7 (F := Ideal))) shapeCasts_S1x128_S1x1x128)
    0x00000000#32 reduces_S1x1x128_S1 (by decide) (.inl rfl) rfl
    (Shape.reshapeEquiv shapeCasts_S1_S1x1x1 (fun a => ⟨(![0, 0, 0] : Fin 3 → ℕ) a, inpos_S1x1x1_p0_0_0 a⟩))
  refine Eq.trans e ?_
  have e2 : (∑ i : S1x1x128.Idx, shapeCast S1x1x128 (select (Ev.lane C s) (Ev.msblk C s h1 hc) (k0_pay7 (F := Ideal))) shapeCasts_S1x128_S1x1x128 i : EReal)
      = ∑ k : S1x128.Idx, (select (Ev.lane C s) (Ev.msblk C s h1 hc) (k0_pay7 (F := Ideal)) k : EReal) :=
    Equiv.sum_comp (Shape.reshapeEquiv shapeCasts_S1x128_S1x1x128) (fun k => (select (Ev.lane C s) (Ev.msblk C s h1 hc) (k0_pay7 (F := Ideal)) k : EReal))
  refine e2.trans ?_
  have hi : ∀ k : S1x128.Idx, ∃ l : Fin 128, k = ix2 0 l := fun k => ⟨k 1, idx128 k⟩
  have hone : ∀ l : Fin 128, (select (Ev.lane C s) (Ev.msblk C s h1 hc) (k0_pay7 (F := Ideal)) (ix2 0 l) : EReal)
      = if l.val = y.val % 128 then msOf C y else 0 := by
    intro l
    rw [ValueIdx.select_apply, lane_at hp]
    by_cases hl : l.val = y.val % 128
    · rw [if_pos hl, if_pos hl, select_one]
      unfold Ev.msblk k0_pay6
      refine (shapeCast_same _ _ _).trans ?_
      exact blk_at C.ms _ _ _ ho 0 _ rfl hl
    · rw [if_neg hl, if_neg hl, select_zero]
      exact Ideal.ofBits_zero_f32
  have hs := Finset.sum_eq_single (s := (Finset.univ : Finset S1x128.Idx))
    (f := fun k => (select (Ev.lane C s) (Ev.msblk C s h1 hc) (k0_pay7 (F := Ideal)) k : EReal)) (ix2 0 (laneOf y))
    (fun k _ hk => by
      obtain ⟨l, rfl⟩ := hi k
      refine (hone l).trans (if_neg fun h => hk ?_)
      exact congrArg (ix2 0) (Fin.ext h))
    (fun h => absurd (Finset.mem_univ (ix2 0 (laneOf y) : S1x128.Idx)) h)
  exact hs.trans ((hone (laneOf y)).trans (if_pos rfl))

/-! ## The box -/

theorem sle_zero (w : BitVec 32) : IntOp.cmpi .sle w 0#32 = if w.toInt ≤ 0 then 1#1 else 0#1 := by
  show BitVec.ofBool (BitVec.sle w 0#32) = _
  rw [BitVec.sle]
  by_cases h : w.toInt ≤ 0
  · rw [if_pos h, decide_eq_true (by simpa using h)]; rfl
  · rw [if_neg h, decide_eq_false (by simpa using h)]; rfl

theorem row_at (h1 : k0_cond1 (Ev.hit C s) = 1#1) (hc : k0_chk1 (Ev.hit C s) (Ev.pick C s)) {y : Fin 20480}
    (hp : Ev.pick C s = BitVec.ofNat 32 y.val) (j : Fin 100) :
    (av (rd s).m.g j → (k0_pay9 (Ev.col C s h1 hc) (Ev.g0 s) (ix2 j 0) : EReal) = max (iouOf C j y) (-1))
      ∧ (¬ av (rd s).m.g j → (k0_pay9 (Ev.col C s h1 hc) (Ev.g0 s) (ix2 j 0) : EReal) = -1) := by
  have e : (k0_pay9 (Ev.col C s h1 hc) (Ev.g0 s) (ix2 j 0) : EReal)
      = Scalar.select (IntOp.cmpi .sle (Ev.g0 s (ix2 j 0)) 0#32) (Ev.col C s h1 hc (ix2 j 0)) (FloatOps.ofBits .f32 0xBF800000#32 : Ideal .f32) := rfl
  rw [e, ofBits_negOne, g0_at, sle_zero, col_at h1 hc hp]
  constructor
  · intro h; rw [if_pos (show (s.gt (ix2 j 0) : BitVec 32).toInt ≤ 0 from h), select_one]
  · intro h; rw [if_neg (show ¬ (s.gt (ix2 j 0) : BitVec 32).toInt ≤ 0 from h), select_zero]

theorem box_spec (h1 : k0_cond1 (Ev.hit C s) = 1#1) (hc : k0_chk1 (Ev.hit C s) (Ev.pick C s)) {y : Fin 20480}
    (hp : Ev.pick C s = BitVec.ofNat 32 y.val) (hl : live half (iouOf C) (rd s).m.g y) :
    ∃ m : Fin 100, Ev.box C s h1 hc = BitVec.ofNat 32 m.val ∧ Best half (iouOf C) (rd s).m.g y m
      ∧ (k0_pay10 (Ev.col C s h1 hc) (Ev.g0 s) : EReal) = iouOf C m y := by
  classical
  have hM := max_total (k0_pay9 (Ev.col C s h1 hc) (Ev.g0 s)) shapeCasts_S100x1_S1x100x1 reduces_S1x100x1_S1 (by decide) (ix2 0 0) (.inl rfl) rfl
    (Shape.reshapeEquiv shapeCasts_S1_S1x1x1 (fun a => ⟨(![0, 0, 0] : Fin 3 → ℕ) a, inpos_S1x1x1_p0_0_0 a⟩))
  change (∀ i, (k0_pay9 (Ev.col C s h1 hc) (Ev.g0 s) i : EReal) ≤ k0_pay10 (Ev.col C s h1 hc) (Ev.g0 s))
    ∧ ∃ i, (k0_pay9 (Ev.col C s h1 hc) (Ev.g0 s) i : EReal) = k0_pay10 (Ev.col C s h1 hc) (Ev.g0 s) at hM
  obtain ⟨hle, i0, hi0⟩ := hM
  obtain ⟨i, hi, e, hmin⟩ := first_total
    (select (cmpf .oeq (k0_pay9 (Ev.col C s h1 hc) (Ev.g0 s)) (broadcast S100x1 (k0_pay10 (Ev.col C s h1 hc) (Ev.g0 s))))
      (iota .tc S100x1 32 [0] iota_S100x1_d0_w32) (broadcast S100x1 1073741824#32))
    shapeCasts_S100x1_S1x100x1 reduces_S1x100x1_S1 (by decide)
    (fun i => k0_pay9 (Ev.col C s h1 hc) (Ev.g0 s) i = k0_pay10 (Ev.col C s h1 hc) (Ev.g0 s)) (fun i => (i 0).val)
    (fun i => lt_trans (i 0).isLt (by show 100 < 2 ^ 30; norm_num))
    ⟨i0, hi0⟩ (fun i => by
      rw [ValueIdx.select_apply, ValueIdx.cmpf_apply, ValueIdx.broadcast_apply, ValueIdx.broadcast_apply, cmpf_oeq,
        iota_single_apply .tc S100x1 32 0 iota_S100x1_d0_w32 i]
      by_cases h : k0_pay9 (Ev.col C s h1 hc) (Ev.g0 s) i = k0_pay10 (Ev.col C s h1 hc) (Ev.g0 s)
      · rw [if_pos h, if_pos h]; rfl
      · rw [if_neg h, if_neg h]; rfl)
    rfl (Shape.reshapeEquiv shapeCasts_S1_S1x1x1 (fun a => ⟨(![0, 0, 0] : Fin 3 → ℕ) a, inpos_S1x1x1_p0_0_0 a⟩))
  have hi' : (k0_pay9 (Ev.col C s h1 hc) (Ev.g0 s) (ix2 (i 0) 0) : EReal) = k0_pay10 (Ev.col C s h1 hc) (Ev.g0 s) :=
    (congrArg (k0_pay9 (Ev.col C s h1 hc) (Ev.g0 s)) (idx0 i)).symm.trans hi
  obtain ⟨j, hj, hjy⟩ := hl
  have hv : half ≤ (k0_pay10 (Ev.col C s h1 hc) (Ev.g0 s) : EReal) :=
    (hjy.trans (le_max_left _ _)).trans (((row_at h1 hc hp j).1 hj).ge.trans (hle (ix2 j 0)))
  have hav : av (rd s).m.g (i 0) := by
    by_contra hn
    rw [← hi', (row_at h1 hc hp (i 0)).2 hn] at hv
    exact absurd hv (not_le.2 half_gt)
  have hval : (k0_pay10 (Ev.col C s h1 hc) (Ev.g0 s) : EReal) = iouOf C (i 0) y := by
    have e := (row_at h1 hc hp (i 0)).1 hav
    rw [hi'] at e
    rcases le_total (iouOf C (i 0) y) (-1) with h | h
    · rw [max_eq_right h] at e
      rw [e] at hv
      exact absurd hv (not_le.2 half_gt)
    · rw [e, max_eq_left h]
  refine ⟨i 0, e, ⟨hav, hval ▸ hv, fun k hk => ⟨?_, fun hke => ?_⟩⟩, hval⟩
  · rw [← hval]
    exact (le_max_left _ _).trans (((row_at h1 hc hp k).1 hk).ge.trans (hle (ix2 k 0)))
  · have := hmin (ix2 k 0) (by
      show k0_pay9 (Ev.col C s h1 hc) (Ev.g0 s) (ix2 k 0) = _
      refine ((row_at h1 hc hp k).1 hk).trans ?_
      rw [hke, hval]
      exact max_eq_left (hval ▸ (half_gt.le.trans hv)))
    exact this

end Cert.KernelIdeal.Hand

end
-- ==== Proof.Step.lean ====
/-
  What an event that matches leaves, element by element, and that it keeps `Inv`: one run of the kernel's event is one
  `Greedy.Event`.
-/
module

public import proofs.«01_k».proof.Proof.Event

@[expose] public section

set_option maxRecDepth 16384

noncomputable section

namespace Cert.KernelIdeal.Hand

open Cert.KernelIdeal.Gen
open Idealize.ShloMosaic
open Cert.Greedy

variable {C : Cst Ideal} {s : St Ideal}

theorem ofNat_inj {n a b : ℕ} (ha : a < n) (hb : b < n) (hn : n ≤ 2 ^ 32) : BitVec.ofNat 32 a = BitVec.ofNat 32 b ↔ a = b := by
  refine ⟨fun h => ?_, fun h => h ▸ rfl⟩
  have := congrArg BitVec.toNat h
  rw [BitVec.toNat_ofNat, BitVec.toNat_ofNat] at this
  omega

/-! ## The payloads, element by element -/

theorem pay14_at (v : FVec Ideal S100x1 .f32) (g : Vec Ideal S100x1 .i32) (i) : k0_pay14 v g i
    = Scalar.cmpi .eq (iota .tc S100x1 32 [0] iota_S100x1_d0_w32 i) (extractAt ![0, 0, 0] (k0_pay11 v g) inpos_S1x1x1_p0_0_0) := by
  unfold k0_pay14
  dsimp only
  generalize extractAt ![0, 0, 0] (k0_pay11 v g) inpos_S1x1x1_p0_0_0 = b
  rfl

theorem pay12_at (l : IVec S1x128 1) (v : FVec Ideal S100x1 .f32) (g : Vec Ideal S100x1 .i32) (d : Vec Ideal S1x128 .i32) (i) :
    k0_pay12 l v g d i = Scalar.select (l i) (extractAt ![0, 0, 0] (k0_pay11 v g) inpos_S1x1x1_p0_0_0) (d i) := by
  unfold k0_pay12
  generalize extractAt ![0, 0, 0] (k0_pay11 v g) inpos_S1x1x1_p0_0_0 = b
  exact congrArg (Scalar.select (l i) _) (shapeCast_same d shapeCasts_S1x128_S1x128 i)

theorem pay13_at (l : IVec S1x128 1) (d : Vec Ideal S1x128 .f32) (i) : k0_pay13 l d i = Scalar.select (l i) (-1 : EReal) (d i) := by
  unfold k0_pay13
  exact (shapeCast_same _ _ _).trans (congrArg (fun t => Scalar.select (l i) t (d i)) ofBits_negOne)

theorem pay237_at (k : IVec S100x1 1) (d : Vec Ideal S100x1 .i32) (w : BitVec 32) (i) :
    k0_pay237 (F := Ideal) k d (k0_pay15 w) i = Scalar.select (k i) w (d i) := by
  unfold k0_pay237 k0_pay15
  exact shapeCast_same _ _ _

theorem pay238_at (t : Ideal .f32) (k : IVec S100x1 1) (d : Vec Ideal S100x1 .f32) (i) :
    k0_pay238 t k d i = Scalar.select (k i) t (d i) := by
  unfold k0_pay238
  exact congrArg (Scalar.select (k i) _) (shapeCast_same d shapeCasts_S100x1_S100x1 i)

theorem pay240_at (t : Ideal .f32) (k : IVec S100x1 1) (d : Vec Ideal S100x1 .f32) (i) :
    k0_pay240 t k d i = Scalar.select (k i) t (d i) := by
  unfold k0_pay240
  exact congrArg (Scalar.select (k i) _) (shapeCast_same d shapeCasts_S100x1_S100x1 i)

theorem pay239_at (a0 a1 a2 a3 : Elt Ideal .i32) (b0 b1 b2 b3 : Vec Ideal S1x20480 .i32) (w : Vec Ideal S1x20480 .f32) (k : IVec S100x1 1)
    (d : Vec Ideal S100x1 .f32) (i) :
    k0_pay239 a0 a1 a2 a3 b0 b1 b2 b3 w k d i = Scalar.select (k i) (k0_pay236 a0 a1 a2 a3 b0 b1 b2 b3 w) (d i) := by
  unfold k0_pay239
  generalize k0_pay236 a0 a1 a2 a3 b0 b1 b2 b3 w = b
  exact congrArg (Scalar.select (k i) _) (shapeCast_same d shapeCasts_S100x1_S100x1 i)

/-- The row mask is set at the matched box only. -/
theorem rowmask_at (h1 : k0_cond1 (Ev.hit C s) = 1#1) (hc : k0_chk1 (Ev.hit C s) (Ev.pick C s)) {m : Fin 100}
    (hb : Ev.box C s h1 hc = BitVec.ofNat 32 m.val) (j : Fin 100) :
    k0_pay14 (Ev.col C s h1 hc) (Ev.g0 s) (ix2 j 0) = if j = m then 1#1 else 0#1 := by
  have e : k0_pay14 (Ev.col C s h1 hc) (Ev.g0 s) (ix2 j 0)
      = Scalar.cmpi .eq (iota .tc S100x1 32 [0] iota_S100x1_d0_w32 (ix2 j 0)) (Ev.box C s h1 hc) := by
    unfold Ev.box; exact pay14_at _ _ _
  rw [e, iota_single_apply .tc S100x1 32 0 iota_S100x1_d0_w32, hb]
  show BitVec.ofBool (BitVec.ofNat 32 j.val == BitVec.ofNat 32 m.val) = _
  by_cases h : j = m
  · rw [if_pos h, h, beq_self_eq_true]; rfl
  · rw [if_neg h]
    have : (BitVec.ofNat 32 j.val == BitVec.ofNat 32 m.val) = false := by
      rw [beq_eq_false_iff_ne, Ne, ofNat_inj j.isLt m.isLt (by norm_num)]
      exact fun h' => h (Fin.ext h')
    rw [this]; rfl

/-- A column written whole reads as what was written. -/
theorem col_in {e : EltTy} (d w : Vec Ideal S100x1 e) (inb) (j : Fin 100) :
    ovr d (Rect.unit (s := S100x1) ![0, 0] S100x1.size inb) w (ix2 j 0) = w (ix2 j 0) := by
  refine ovr_in _ _ _ _ _ _ _ fun a => ?_
  fin_cases a
  · show j.val = 0 + j.val; omega
  · rfl

theorem col_ld {e : EltTy} (d : Vec Ideal S100x1 e) (inb) (j : Fin 100) :
    ldv d (Rect.unit (s := S100x1) ![0, 0] S100x1.size inb) (ix2 j 0) = d (ix2 j 0) := by
  refine ldv_at _ _ _ _ _ _ fun a => ?_
  fin_cases a
  · show j.val = 0 + j.val; omega
  · rfl

/-- A select by the row mask is an update at the matched box. -/
theorem row_select {α : Type} (h1 : k0_cond1 (Ev.hit C s) = 1#1) (hc : k0_chk1 (Ev.hit C s) (Ev.pick C s)) {m : Fin 100}
    (hb : Ev.box C s h1 hc = BitVec.ofNat 32 m.val) (f : Fin 100 → α) (a : α) (j : Fin 100) :
    Scalar.select (k0_pay14 (Ev.col C s h1 hc) (Ev.g0 s) (ix2 j 0)) a (f j) = Function.update f m a j := by
  rw [rowmask_at h1 hc hb]
  by_cases h : j = m
  · rw [if_pos h, h, Function.update_self]; rfl
  · rw [if_neg h, Function.update_of_ne h]; rfl

/-- A block of a row written through the lane mask is an update at the picked prediction. -/
theorem blk_select {e : EltTy} {y : Fin 20480} (hp : Ev.pick C s = BitVec.ofNat 32 y.val) (d : Vec Ideal S1x20480 e) (off) (inb)
    (ho : off = ![0, y.val / 128 * 128]) (w : Vec Ideal S1x128 e) (a : Elt Ideal e)
    (hw : ∀ l, w (ix2 0 l) = Scalar.select (Ev.lane C s (ix2 0 l)) a (ldv d (Rect.unit (s := S1x20480) off S1x128.size inb) (ix2 0 l)))
    (z : Fin 20480) :
    ovr d (Rect.unit (s := S1x20480) off S1x128.size inb) w (ix2 0 z) = Function.update (fun z => d (ix2 0 z)) y a z := by
  by_cases hz : z.val / 128 = y.val / 128
  · have hin : ∀ b : Fin 2, ((ix2 0 z : S1x20480.Idx) b).val = off b + ((ix2 0 (laneOf z) : S1x128.Idx) b : ℕ) := by
      intro b; subst ho; fin_cases b
      · rfl
      · show z.val = y.val / 128 * 128 + z.val % 128; omega
    rw [ovr_in d off S1x128.size inb w (ix2 0 (laneOf z)) (ix2 0 z) hin, hw, lane_at hp]
    by_cases h : z = y
    · subst h
      rw [if_pos (show (laneOf z).val = z.val % 128 from rfl), Function.update_self, select_one]
    · rw [if_neg (show ¬ (laneOf z).val = y.val % 128 from fun h' => h (Fin.ext (by change z.val % 128 = _ at h'; omega))), Function.update_of_ne h, select_zero]
      exact ldv_at _ _ _ _ _ _ hin
  · rw [Function.update_of_ne (fun h => hz (by rw [h]))]
    refine ovr_out _ _ _ _ _ _ 1 ?_
    subst ho
    show z.val < y.val / 128 * 128 ∨ y.val / 128 * 128 + 128 ≤ z.val
    omega

/-- One word of a row written reads as the word there and as before elsewhere. -/
theorem one_write {n : ℕ} {e : EltTy} (d : Vec Ideal ⟨2, ![1, n]⟩ e) {m : ℕ} (off) (inb) (ho : off = ![0, m]) (w : Elt Ideal e) (j : Fin n) :
    ovr d (Rect.unit (s := ⟨2, ![1, n]⟩) off ![1, 1] inb) (fun _ => w) (ix2 0 j) = if j.val = m then w else d (ix2 0 j) := by
  subst ho
  by_cases h : j.val = m
  · rw [if_pos h]
    refine ovr_in d ![0, m] ![1, 1] inb (fun _ => w) (fun a => ⟨0, by fin_cases a <;> exact Nat.one_pos⟩) (ix2 0 j) fun a => ?_
    fin_cases a
    · rfl
    · show j.val = m + 0; omega
  · rw [if_neg h]
    refine ovr_out d ![0, m] ![1, 1] inb (fun _ => w) (ix2 0 j) 1 ?_
    show j.val < m ∨ m + 1 ≤ j.val
    omega

theorem mask_bit : ∀ k b : Fin 32, (Scalar.xori (Scalar.shli 1#32 (BitVec.ofNat 32 k.val)) 4294967295#32).getLsbD b.val = true ↔ b.val ≠ k.val := by
  decide

section Took

variable (h1 : k0_cond1 (Ev.hit C s) = 1#1) (hc : k0_chk1 (Ev.hit C s) (Ev.pick C s))
  (hd : k0_chk2 (Ev.hit C s) (Ev.pick C s) (Ev.box C s h1 hc)) {y : Fin 20480} {m : Fin 100}
  (hp : Ev.pick C s = BitVec.ofNat 32 y.val) (hb : Ev.box C s h1 hc = BitVec.ofNat 32 m.val)

include hp hb

theorem took_rd (hv : (k0_pay10 (Ev.col C s h1 hc) (Ev.g0 s) : EReal) = iouOf C m y) (hW : (rd s).W y = Ev.top C s) :
    rd (Ev.took C s h1 hc hd) = (rd s).put (iouOf C) (msOf C) y m := by
  have ho : k0_off2 (Ev.pick C s) = ![0, y.val / 128 * 128] := by rw [hp, off2_eq y.isLt]
  have eW : (rd (Ev.took C s h1 hc hd)).W = Function.update (rd s).W y (-1) := by
    funext z
    exact blk_select hp s.ws _ _ ho _ (-1 : EReal) (fun l => pay13_at _ _ _) z
  have edt : (rd (Ev.took C s h1 hc hd)).m.dt = Function.update (rd s).m.dt y (BitVec.ofNat 32 m.val) := by
    funext z
    rw [← hb]
    exact blk_select hp s.dt _ _ ho _ (Ev.box C s h1 hc : BitVec 32) (fun l => pay12_at _ _ _ _ _) z
  have eg : (rd (Ev.took C s h1 hc hd)).m.g = Function.update (rd s).m.g m (BitVec.ofNat 32 y.val) := by
    funext j
    refine (col_in _ _ _ j).trans ((pay237_at _ _ _ _).trans ?_)
    rw [g0_at, hp]
    exact row_select h1 hc hb (rd s).m.g (BitVec.ofNat 32 y.val) j
  have ebi : (rd (Ev.took C s h1 hc hd)).m.bi = Function.update (rd s).m.bi m (iouOf C m y) := by
    funext j
    refine (col_in _ _ _ j).trans ((pay238_at _ _ _ _).trans ?_)
    rw [col_ld, hv]
    exact row_select h1 hc hb (rd s).m.bi (iouOf C m y) j
  have eos : (rd (Ev.took C s h1 hc hd)).os = Function.update (rd s).os m ((rd s).W y) := by
    funext j
    refine (col_in _ _ _ j).trans ((pay239_at _ _ _ _ _ _ _ _ _ _ _ _).trans ?_)
    rw [col_ld, hW]
    exact row_select h1 hc hb (rd s).os (Ev.top C s) j
  have efl : (rd (Ev.took C s h1 hc hd)).fl = Function.update (rd s).fl m (msOf C y) := by
    funext j
    refine (col_in _ _ _ j).trans ((pay240_at _ _ _ _).trans ?_)
    rw [col_ld, ms_at h1 hc hp]
    exact row_select h1 hc hb (rd s).fl (msOf C y) j
  have ext : ∀ a b : Ker, a.W = b.W → a.m.dt = b.m.dt → a.m.g = b.m.g → a.m.bi = b.m.bi → a.os = b.os → a.fl = b.fl → a = b := by
    rintro ⟨_, ⟨_, _, _⟩, _, _⟩ ⟨_, ⟨_, _, _⟩, _, _⟩ rfl rfl rfl rfl rfl rfl; rfl
  exact ext _ _ eW edt eg ebi eos efl

theorem took_gs (j : Fin 100) : (Ev.took C s h1 hc hd).gs (ix2 0 j) = if j = m then BitVec.ofNat 32 y.val else s.gs (ix2 0 j) := by
  have ho : k0_off3 (Ev.box C s h1 hc) = ![0, m.val] := by rw [hb, off3_eq]
  refine (one_write s.gs _ _ ho _ j).trans ?_
  rw [hp]
  by_cases h : j = m
  · rw [if_pos h, if_pos (congrArg Fin.val h)]
  · rw [if_neg h, if_neg (fun h' => h (Fin.ext h'))]

theorem took_bit (q : Fin 4) (b : ℕ) : ((Ev.took C s h1 hc hd).aw (ix2 0 q) : BitVec 32).getLsbD b
= true
    ↔ (s.aw (ix2 0 q) : BitVec 32).getLsbD b = true ∧ ¬ (0 < y.val ∧ 32 * q.val + b = m.val) := by
  by_cases hb32 : b < 32
  swap
  · rw [BitVec.getLsbD_of_ge _ _ (by omega), BitVec.getLsbD_of_ge _ _ (by omega)]; exact ⟨fun h => absurd h Bool.false_ne_true, fun h => absurd h.1 Bool.false_ne_true⟩
  rw [Ev.took_aw]
  have ho : k0_off4 (Ev.box C s h1 hc) = ![0, m.val / 32] := by rw [hb, off4_eq]
  by_cases h2 : k0_cond2 (Ev.pick C s) = 1#1
  · have hy : 0 < y.val := by rw [hp] at h2; exact (cond2_iff y.isLt).1 h2
    rw [Ev.free_pos C s h1 hc hd h2, one_write s.aw _ _ ho _ q]
    by_cases hq : q.val = m.val / 32
    · rw [if_pos hq]
      have hw : (Ev.word C s h1 hc hd h2 : BitVec 32) = (s.aw (ix2 0 q) : BitVec 32)
          &&& Scalar.xori (Scalar.shli 1#32 (BitVec.ofNat 32 (m.val % 32))) 4294967295#32 := by
        unfold Ev.word
        have e1 := a_at (s := s) q (k0_off4 (Ev.box C s h1 hc)) (k0_off4_inb (Ev.hit C s) (Ev.pick C s) (Ev.box C s h1 hc) hd h1 h2) (by rw [ho, hq])
        rw [e1, hb, bit_eq]; rfl
      rw [hw, BitVec.getLsbD_and, Bool.and_eq_true]
      refine and_congr_right fun _ => ?_
      have hk := mask_bit ⟨m.val % 32, Nat.mod_lt _ (by norm_num)⟩ ⟨b, hb32⟩
      refine hk.trans ?_
      show b ≠ m.val % 32 ↔ _
      constructor
      · intro h h'; omega
      · intro h h'; exact h ⟨hy, by omega⟩
    · rw [if_neg hq]
      exact ⟨fun h => ⟨h, by omega⟩, fun h => h.1⟩
  · have hy : ¬ 0 < y.val := by rw [hp] at h2; exact fun h => h2 ((cond2_iff y.isLt).2 h)
    rw [Ev.free_neg C s h1 hc hd h2]
    exact ⟨fun h => ⟨h, fun h' => hy h'.1⟩, fun h => h.1⟩

end Took

/-- An event that matches keeps the invariant. -/
theorem took_inv (hI : Inv C s) (h1 : k0_cond1 (Ev.hit C s) = 1#1) (hc : k0_chk1 (Ev.hit C s) (Ev.pick C s))
    (hd : k0_chk2 (Ev.hit C s) (Ev.pick C s) (Ev.box C s h1 hc)) {y : Fin 20480} {m : Fin 100}
    (hp : Ev.pick C s = BitVec.ofNat 32 y.val) (hb : Ev.box C s h1 hc = BitVec.ofNat 32 m.val)
    (hr : rd (Ev.took C s h1 hc hd) = (rd s).put (iouOf C) (msOf C) y m) (hm : av (rd s).m.g m) : Inv C (Ev.took C s h1 hc hd) where
  over := hI.over
  free j := by
    rw [took_bit h1 hc hd hp hb, hI.free j, hr]
    have hj : 32 * (j.val / 32) + j.val % 32 = j.val := Nat.div_add_mod _ _
    show _ ∧ ¬ (0 < y.val ∧ 32 * (j.val / 32) + j.val % 32 = m.val) ↔ (Function.update (rd s).m.g m (BitVec.ofNat 32 y.val) j).toInt ≤ 0
    rw [hj]
    by_cases h : j = m
    · subst h
      rw [Function.update_self, toInt_ofNat]
      constructor
      · rintro ⟨-, h⟩; omega
      · intro h; exact ⟨hm, by omega⟩
    · rw [Function.update_of_ne h]
      have : j.val ≠ m.val := fun h' => h (Fin.ext h')
      exact ⟨fun h => h.1, fun h => ⟨h, fun h' => this h'.2⟩⟩
  none q b h := by
    rw [Bool.eq_false_iff]
    intro ht
    have := ((took_bit h1 hc hd hp hb q b).1 ht).1
    rw [hI.none q b h] at this
    cases this
  same j := by
    rw [took_gs h1 hc hd hp hb, hr]
    show _ = Function.update (rd s).m.g m (BitVec.ofNat 32 y.val) j
    by_cases h : j = m
    · subst h; rw [if_pos rfl, Function.update_self]
    · rw [if_neg h, Function.update_of_ne h, hI.same]

/-- One event of the kernel: its bounds hold, it keeps the invariant, and it is one event of the plain selection. -/
theorem event (hI : Inv C s) : Ev.Ok C s ∧ Inv C (step C s) ∧ Event half thr (iouOf C) (msOf C) (rd s) (rd (step C s)) := by
  by_cases h1 : k0_cond1 (Ev.hit C s) = 1#1
  · have ht := hit_iff.1 h1
    obtain ⟨y, hp, hT, hW⟩ := pick_spec hI ht
    have hc : k0_chk1 (Ev.hit C s) (Ev.pick C s) := hp ▸ chk1_of y.isLt _
    obtain ⟨m, hb, hB, hv⟩ := box_spec h1 hc hp hT.1
    have hd : k0_chk2 (Ev.hit C s) (Ev.pick C s) (Ev.box C s h1 hc) := hb ▸ chk2_of m _ _
    have hr := took_rd h1 hc hd hp hb hv hW
    rw [step_hit C s h1 hc hd]
    exact ⟨fun _ => ⟨hc, fun _ => hd⟩, took_inv hI h1 hc hd hp hb hr hB.1, .inr ⟨y, m, hT, hB, hr⟩⟩
  · rw [step_miss C s h1]
    refine ⟨fun h => absurd h h1, hI, .inl ⟨fun y hy => ?_, rfl⟩⟩
    rw [← cand_live hI hy]
    refine lt_of_le_of_lt (top_spec.1 y) ?_
    rw [hit_iff, not_le] at h1
    exact h1

end Cert.KernelIdeal.Hand

end
-- ==== Proof.Prologue.lean ====
/-
  What the kernel's buffers hold before its selection loop: the overlaps, the overlap words and the eight buffers' start,
  each read back from the list of stores that fills it.
-/
module

public import proofs.«01_k».proof.Proof.Model
public import Idealize.ShloMosaic.Lib.Pointwise

@[expose] public section

set_option maxRecDepth 16384

noncomputable section

namespace Cert.KernelIdeal.Hand

open Cert.KernelIdeal.Gen
open Idealize.ShloMosaic

variable {F : FTy → Type} [FloatOps F]

/-! ## The overlaps -/

theorem inb_row (k : Fin 4) (t : Fin 20) : ∀ a, (![k.val, 1024 * t.val] : Fin 2 → ℕ) a + S1x1024.size a ≤ S4x20480.size a := by
  intro a; fin_cases a
  · show k.val + 1 ≤ 4; omega
  · show 1024 * t.val + 1024 ≤ 20480; omega

theorem inb_col (k : Fin 4) : ∀ a, (![0, k.val] : Fin 2 → ℕ) a + S100x1.size a ≤ S100x4.size a := by
  intro a; fin_cases a
  · show 0 + 100 ≤ 100; omega
  · show k.val + 1 ≤ 4; omega

theorem inb_chunk (t : Fin 20) : ∀ a, (![0, 1024 * t.val] : Fin 2 → ℕ) a + S100x1024.size a ≤ S100x20480.size a := by
  intro a; fin_cases a
  · show 0 + 100 ≤ 100; omega
  · show 1024 * t.val + 1024 ≤ 20480; omega

/-- Chunk `t` of coordinate `k` of the predictions. -/
def rowP (pb : Vec F S4x20480 .f32) (k : Fin 4) (t : Fin 20) : Vec F S1x1024 .f32 :=
  ldv pb (Rect.unit (s := S4x20480) ![k.val, 1024 * t.val] S1x1024.size (inb_row k t))

/-- Coordinate `k` of the boxes. -/
def colG (gb : Vec F S100x4 .f32) (k : Fin 4) : Vec F S100x1 .f32 :=
  ldv gb (Rect.unit (s := S100x4) ![0, k.val] S100x1.size (inb_col k))

/-- The overlaps of chunk `t` of the predictions. -/
def chunk (pb : Vec F S4x20480 .f32) (gb : Vec F S100x4 .f32) (t : Fin 20) : FVec F S100x1024 .f32 :=
  k0_pay42 (colG gb 0) (colG gb 1) (colG gb 2) (colG gb 3) (k0_pay24 (colG gb 0) (colG gb 1) (colG gb 2) (colG gb 3))
    (rowP pb 0 t) (rowP pb 1 t) (rowP pb 2 t) (rowP pb 3 t)

def chunkRect (t : Fin 20) : Rect S100x20480 := Rect.unit (s := S100x20480) ![0, 1024 * t.val] S100x1024.size (inb_chunk t)

def iouPieces (pb : Vec F S4x20480 .f32) (gb : Vec F S100x4 .f32) : List (View.Piece (Elt F) S100x20480 .f32) :=
  (List.finRange 20).reverse.map fun t => ⟨chunkRect t, chunk pb gb t⟩

/-- The overlaps of all boxes with all predictions. -/
def iouV (pb : Vec F S4x20480 .f32) (gb : Vec F S100x4 .f32) : Vec F S100x20480 .f32 := fun y =>
  chunk pb gb ⟨(y 1).val / 1024, by have := (y 1).isLt; change _ < 20480 at this; omega⟩
    (ix2 (y 0) ⟨(y 1).val % 1024, Nat.mod_lt _ (by norm_num)⟩)

theorem read_iou {sig : RefSig} {κ : Kind} {sp : Space} (v : View sig κ sp S100x20480 .f32) (f : v.ty.Contents (Elt F))
    {L : List (View.Piece (Elt F) S100x20480 .f32)} {pb : Vec F S4x20480 .f32} {gb : Vec F S100x4 .f32}
    (hL : L = iouPieces pb gb) : v.read (Elt F) (v.writes (Elt F) f L) = iouV pb gb := by
  subst hL
  funext y
  refine View.read_writes_apply_of_pieces v f (iouV pb gb) _ (fun p hp x => ?_) y ?_
  · obtain ⟨t, -, rfl⟩ := List.mem_map.1 hp
    show chunk pb gb t x = _
    have h0 : ((chunkRect t).emb x 0).val = (x 0).val := by show 0 + 1 * (x 0).val = _; omega
    have h1 : ((chunkRect t).emb x 1).val = 1024 * t.val + (x 1).val := by show 1024 * t.val + 1 * (x 1).val = _; omega
    have hx : (x 1).val < 1024 := (x 1).isLt
    unfold iouV
    congr 1
    · congr 1; apply Fin.ext; show t.val = _ / 1024; rw [h1]; omega
    · funext a; apply Fin.ext; fin_cases a
      · exact h0.symm
      · show (x 1).val = _ % 1024; rw [h1]; omega
  · have hy : (y 1).val < 20480 := (y 1).isLt
    refine ⟨_, List.mem_map.2 ⟨⟨(y 1).val / 1024, by omega⟩, List.mem_reverse.2 (List.mem_finRange _), rfl⟩, ?_⟩
    refine (chunkRect ⟨(y 1).val / 1024, by omega⟩).mem_set.2 fun a => ?_
    fin_cases a
    · exact ⟨(y 0).val, (y 0).isLt, by show (y 0).val = 0 + 1 * (y 0).val; omega⟩
    · exact ⟨(y 1).val % 1024, Nat.mod_lt _ (by norm_num), by show (y 1).val = 1024 * ((y 1).val / 1024) + 1 * ((y 1).val % 1024); omega⟩

/-! ## The overlap words -/

/-- Word `q` of a chunk of overlaps. -/
def wordRow (q : Fin 4) (x : Vec F S100x1024 .f32) : IVec S1x1024 32 :=
  match q with
  | 0 => k0_pay231 k0_pay121 x
  | 1 => k0_pay232 k0_pay121 x
  | 2 => k0_pay233 k0_pay121 x
  | 3 => k0_pay234 k0_pay121 x

def wbPieces (iou : Vec F S100x20480 .f32) : List (View.Piece (Elt F) S4x20480 .i32) :=
  (List.finRange 20).reverse.flatMap fun t => (List.finRange 4).reverse.map fun q =>
    ⟨Rect.unit (s := S4x20480) ![q.val, 1024 * t.val] S1x1024.size (inb_row q t), wordRow q (ldv iou (chunkRect t))⟩

def wbV (iou : Vec F S100x20480 .f32) : Vec F S4x20480 .i32 := fun y =>
  wordRow (y 0) (ldv iou (chunkRect ⟨(y 1).val / 1024, by have := (y 1).isLt; change _ < 20480 at this; omega⟩))
    (ix2 0 ⟨(y 1).val % 1024, Nat.mod_lt _ (by norm_num)⟩)

theorem read_wb {sig : RefSig} {κ : Kind} {sp : Space} (v : View sig κ sp S4x20480 .i32) (f : v.ty.Contents (Elt F))
    {L : List (View.Piece (Elt F) S4x20480 .i32)} {iou : Vec F S100x20480 .f32}
    (hL : L = wbPieces iou) : v.read (Elt F) (v.writes (Elt F) f L) = wbV iou := by
  subst hL
  funext y
  refine View.read_writes_apply_of_pieces v f (wbV iou) _ (fun p hp x => ?_) y ?_
  · obtain ⟨t, -, hp⟩ := List.mem_flatMap.1 hp
    obtain ⟨q, -, rfl⟩ := List.mem_map.1 hp
    show wordRow q (ldv iou (chunkRect t)) x = wbV iou ((Rect.unit (s := S4x20480) ![q.val, 1024 * t.val] S1x1024.size (inb_row q t)).emb x)
    have hx0 : (x 0).val < 1 := (x 0).isLt
    have hx : (x 1).val < 1024 := (x 1).isLt
    have h0 : ((Rect.unit (s := S4x20480) ![q.val, 1024 * t.val] S1x1024.size (inb_row q t)).emb x 0) = q := by
      apply Fin.ext; show q.val + 1 * (x 0).val = _; omega
    have h1 : ((Rect.unit (s := S4x20480) ![q.val, 1024 * t.val] S1x1024.size (inb_row q t)).emb x 1).val = 1024 * t.val + (x 1).val := by
      show 1024 * t.val + 1 * (x 1).val = _; omega
    unfold wbV
    rw [h0]
    congr 1
    · congr 2; apply Fin.ext; show t.val = _ / 1024; rw [h1]; omega
    · funext a; apply Fin.ext; fin_cases a
      · show (x 0).val = 0; omega
      · show (x 1).val = _ % 1024; rw [h1]; omega
  · have hy : (y 1).val < 20480 := (y 1).isLt
    refine ⟨_, List.mem_flatMap.2 ⟨⟨(y 1).val / 1024, by omega⟩, List.mem_reverse.2 (List.mem_finRange _), List.mem_map.2 ⟨y 0, List.mem_reverse.2 (List.mem_finRange _), rfl⟩⟩, ?_⟩
    refine (Rect.unit (s := S4x20480) _ _ (inb_row (y 0) ⟨(y 1).val / 1024, by omega⟩)).mem_set.2 fun a => ?_
    fin_cases a
    · exact ⟨0, by show 0 < 1; omega, by show (y 0).val = (y 0).val + 1 * 0; omega⟩
    · exact ⟨(y 1).val % 1024, Nat.mod_lt _ (by norm_num), by show (y 1).val = 1024 * ((y 1).val / 1024) + 1 * ((y 1).val % 1024); omega⟩

/-! ## The other buffers -/

/-- A buffer whose last store covers it reads as that store. -/
theorem read_full {sig : RefSig} {κ : Kind} {sp : Space} {e : EltTy} {n0 n1 : ℕ} (v : View sig κ sp ⟨2, ![n0, n1]⟩ e) (f : v.ty.Contents (Elt F))
    {inb} {w : Vec F ⟨2, ![n0, n1]⟩ e} {L : List (View.Piece (Elt F) ⟨2, ![n0, n1]⟩ e)}
    (hL : L = [⟨Rect.unit (s := ⟨2, ![n0, n1]⟩) ![0, 0] ![n0, n1] inb, w⟩]) :
    v.read (Elt F) (v.writes (Elt F) f L) = w := by
  subst hL
  funext y
  refine View.read_writes_cons_hit_of_coords v f (Rect.unit (s := ⟨2, ![n0, n1]⟩) ![0, 0] ![n0, n1] inb) w [] y y fun a => ?_
  fin_cases a
  · show (y 0).val = 0 + 1 * (y 0).val; omega
  · show (y 1).val = 0 + 1 * (y 1).val; omega

theorem inb_one {n : ℕ} (j : Fin n) : ∀ a, (![0, j.val] : Fin 2 → ℕ) a + (![1, 1] : Fin 2 → ℕ) a ≤ (⟨2, ![1, n]⟩ : Shape).size a := by
  intro a; fin_cases a
  · show 0 + 1 ≤ 1; omega
  · show j.val + 1 ≤ n; omega

/-- Stores of one word at each place of a row. -/
def onePieces (n : ℕ) (g : Fin n → BitVec 32) : List (View.Piece (Elt F) ⟨2, ![1, n]⟩ .i32) :=
  (List.finRange n).reverse.map fun j => ⟨Rect.unit (s := ⟨2, ![1, n]⟩) ![0, j.val] ![1, 1] (inb_one j), fun _ => g j⟩

theorem read_ones {sig : RefSig} {κ : Kind} {sp : Space} {n : ℕ} (v : View sig κ sp ⟨2, ![1, n]⟩ .i32) (f : v.ty.Contents (Elt F))
    {L : List (View.Piece (Elt F) ⟨2, ![1, n]⟩ .i32)} {g : Fin n → BitVec 32} (hL : L = onePieces n g) :
    v.read (Elt F) (v.writes (Elt F) f L) = fun y => g (y 1) := by
  subst hL
  funext y
  refine View.read_writes_apply_of_pieces v f (fun y => g (y 1)) _ (fun p hp x => ?_) y ?_
  · obtain ⟨t, -, rfl⟩ := List.mem_map.1 hp
    show g t = g _
    congr 1; apply Fin.ext
    have hx : (x 1).val < 1 := (x 1).isLt
    show t.val = t.val + 1 * (x 1).val; omega
  · refine ⟨_, List.mem_map.2 ⟨y 1, List.mem_reverse.2 (List.mem_finRange _), rfl⟩, ?_⟩
    refine (Rect.unit (s := ⟨2, ![1, n]⟩) _ _ (inb_one (y 1))).mem_set.2 fun a => ?_
    have hy : (y 0).val < 1 := (y 0).isLt
    fin_cases a
    · exact ⟨0, by show 0 < 1; omega, by show (y 0).val = 0 + 1 * 0; omega⟩
    · exact ⟨0, by show 0 < 1; omega, by show (y 1).val = (y 1).val + 1 * 0; omega⟩

/-- The remaining scores at the start: the scores that reach the threshold, the others at the low stand-in. -/
def wsV (ps : Vec F S1x20480 .f32) : Vec F S1x20480 .f32 :=
  k0_pay23 (k0_pay21 (ldv ps (Rect.unit (s := S1x20480) ![0, 0] S1x20480.size inb_S1x20480_S1x20480_0_0)))
    (k0_pay22 (ldv ps (Rect.unit (s := S1x20480) ![0, 0] S1x20480.size inb_S1x20480_S1x20480_0_0)))
    (Scalar.ofBits .f32 0xBF800000#32)

/-- The words of free boxes at the start: all 100 bits set. -/
def awW (q : Fin 4) : BitVec 32 := if q = 3 then 15#32 else 4294967295#32

/-- What the loop reads. -/
def cst0 (pb : Vec F S4x20480 .f32) (gb : Vec F S100x4 .f32) (ms : Vec F S1x20480 .f32) : Cst F where
  ms := ms
  iou := iouV pb gb
  wb := wbV (iouV pb gb)

/-- What the loop starts from. -/
def st0 (ps : Vec F S1x20480 .f32) : St F where
  fl := k0_pay17
  os := k0_pay18
  dt := k0_pay16
  bi := k0_pay19
  ws := wsV ps
  gt := k0_pay20
  gs := fun _ => 4294967295#32
  aw := fun y => awW (y 1)

end Cert.KernelIdeal.Hand

end
-- ==== Proof.Init.lean ====
/-
  What the events start from at the ideal values: the bits of the overlap words, the bits of the free words, and the
  remaining scores.
-/
module

public import proofs.«01_k».proof.Proof.Step
public import proofs.«01_k».proof.Proof.Prologue
public import Idealize.ShloMosaic.Lib.WordSum

@[expose] public section

set_option maxRecDepth 16384

noncomputable section

namespace Cert.KernelIdeal.Hand

open Cert.KernelIdeal.Gen
open Idealize.ShloMosaic
open Cert.Greedy

/-! ## A word packed from flags -/

/-- The sum of the powers of two whose flags are set. -/
def packed (n : ℕ) (p : ℕ → Prop) [DecidablePred p] : ℕ := ∑ k : Fin n, if p k.val then 2 ^ k.val else 0

theorem packed_succ (n : ℕ) (p : ℕ → Prop) [DecidablePred p] : packed (n + 1) p = packed n p + if p n then 2 ^ n else 0 := by
  unfold packed; rw [Fin.sum_univ_castSucc]; rfl

theorem packed_lt (n : ℕ) (p : ℕ → Prop) [DecidablePred p] : packed n p < 2 ^ n := by
  induction n with
  | zero => simp [packed]
  | succ n ih => rw [packed_succ, pow_succ]; split_ifs <;> omega

theorem packed_bit (n : ℕ) (p : ℕ → Prop) [DecidablePred p] (b : ℕ) : (packed n p).testBit b = true ↔ b < n ∧ p b := by
  induction n with
  | zero => simp [packed]
  | succ n ih =>
    have hlt := packed_lt n p
    rw [packed_succ]
    rcases lt_trichotomy b n with h | rfl | h
    · have e : (packed n p + if p n then 2 ^ n else 0).testBit b = (packed n p).testBit b := by
        split_ifs
        · rw [Nat.add_comm, Nat.testBit_two_pow_add_gt h]
        · rw [Nat.add_zero]
      rw [e, ih]; constructor <;> rintro ⟨h1, h2⟩ <;> exact ⟨by omega, h2⟩
    · have h0 : (packed b p).testBit b = false := Nat.testBit_lt_two_pow hlt
      split_ifs with hp
      · rw [Nat.add_comm, Nat.testBit_two_pow_add_eq, h0]; simp [hp]
      · rw [Nat.add_zero, h0]; simp [hp]
    · have hs := packed_lt (n + 1) p
      rw [packed_succ] at hs
      rw [Nat.testBit_lt_two_pow (lt_of_lt_of_le hs (Nat.pow_le_pow_right (by omega) h))]
      constructor
      · intro h'; cases h'
      · rintro ⟨h', -⟩; omega

theorem column_sum {n : ℕ} (h : (⟨2, ![n, 1024]⟩ : Shape).Reduces [0] S1024) (g : (⟨2, ![n, 1024]⟩ : Shape).Idx → ℕ) (l : Fin 1024) :
    ∑ i ∈ Finset.univ.filter (fun i => h.drop i = ix1 l), g i = ∑ k : Fin n, g (ix2 k l) := by
  have hd : ∀ i : (⟨2, ![n, 1024]⟩ : Shape).Idx, h.drop i = ix1 l ↔ i 1 = l := by
    intro i
    constructor
    · intro e; exact Fin.ext (congrArg Fin.val (congrFun e 0))
    · intro e; funext a; apply Fin.ext; fin_cases a; exact congrArg Fin.val e
  refine Finset.sum_nbij' (fun i => i 0) (fun k => ix2 k l) (fun _ _ => Finset.mem_univ _) (fun k _ => ?_) (fun i hi => ?_) (fun _ _ => rfl) (fun i hi => ?_)
  · rw [Finset.mem_filter]; exact ⟨Finset.mem_univ _, (hd _).2 rfl⟩
  · have := (hd i).1 (Finset.mem_filter.1 hi).2
    rw [← this]; exact (eq_ix2 i).symm
  · have := (hd i).1 (Finset.mem_filter.1 hi).2
    rw [← this]; exact congrArg g (eq_ix2 i)

open Classical in
/-- A column of flags' powers of two, summed: bit `b` is flag `b`. -/
theorem word_bit {n : ℕ} (hn : n ≤ 32) (src : IVec ⟨2, ![n, 1024]⟩ 32) (h : (⟨2, ![n, 1024]⟩ : Shape).Reduces [0] S1024)
    (hacc : (0#32 : BitVec 32) = IKind.add.neutral) (l : Fin 1024) (p : ℕ → Prop)
    (hsrc : ∀ k : Fin n, src (ix2 k l) = if p k.val then BitVec.ofNat 32 (2 ^ k.val) else 0#32) (b : ℕ) :
    (multiReductionI .add [0] S1024 src 0#32 h hacc (ix1 l)).getLsbD b = true ↔ b < n ∧ p b := by
  have e : ∑ i ∈ Finset.univ.filter (fun i => h.drop i = ix1 l), (src i).toNat = packed n p := by
    rw [column_sum h (fun i => (src i).toNat) l]
    unfold packed
    refine Finset.sum_congr rfl fun k _ => ?_
    rw [hsrc]
    split_ifs
    · rw [BitVec.toNat_ofNat]; exact Nat.mod_eq_of_lt (Nat.pow_lt_pow_right (by omega) (by omega))
    · rfl
  have hlt : packed n p < 2 ^ 32 := lt_of_lt_of_le (packed_lt n p) (Nat.pow_le_pow_right (by omega) hn)
  rw [BitVec.getLsbD, WordSum.toNat_multiReductionI_add src h hacc (ix1 l) (by rw [e]; exact hlt), e, packed_bit]

/-! ## The overlap words -/

theorem pow_at : ∀ j : Fin 100, k0_pay121 (ix2 j 0) = BitVec.ofNat 32 (2 ^ (j.val % 32)) := by decide +kernel

open Classical in
theorem flag_at (x : Vec Ideal S100x1024 .f32) (j : Fin 100) (l : Fin 1024) :
    k0_pay230 k0_pay121 x (ix2 j l) = if half ≤ (x (ix2 j l) : EReal) then BitVec.ofNat 32 (2 ^ (j.val % 32)) else 0#32 := by
  unfold k0_pay230
  simp only [ValueIdx.select_apply]
  rw [broadcastTo_apply _ broadcasts_S100x1_S100x1024 (ix2 j l) (ix2 j 0) (fun a => by fin_cases a <;> rfl), shapeCast_same, pow_at]
  have e2 : cmpf .oge x (broadcast S100x1024 (Scalar.ofBits .f32 0x3F000000#32 : Ideal .f32)) (ix2 j l) = BitVec.ofBool (decide (half ≤ (x (ix2 j l) : EReal))) := rfl
  rw [e2]
  by_cases h : half ≤ (x (ix2 j l) : EReal)
  · rw [if_pos h, decide_eq_true h]; rfl
  · rw [if_neg h, decide_eq_false h]; rfl

open Classical in
/-- A slice of the flags' rows from row `r` on, `r` a multiple of 32: row `k` of it weighs `2 ^ k`. -/
theorem slice_at {n r : ℕ} (x : Vec Ideal S100x1024 .f32) (h : S100x1024.Slices ![r, 0] ⟨2, ![n, 1024]⟩) (hr : r % 32 = 0) (hn : n ≤ 32) (hb : r + n ≤ 100)
    (l : Fin 1024) (k : Fin n) :
    extractStridedSlice ⟨2, ![n, 1024]⟩ ![r, 0] (k0_pay230 k0_pay121 x) h (ix2 k l)
      = if ∃ hk : r + k.val < 100, half ≤ (x (ix2 ⟨r + k.val, hk⟩ l) : EReal) then BitVec.ofNat 32 (2 ^ k.val) else 0#32 := by
  have hk : r + k.val < 100 := by omega
  rw [extractStridedSlice_apply _ _ h (ix2 k l) (ix2 ⟨r + k.val, hk⟩ l) (fun a => by
    fin_cases a
    · rfl
    · exact (Nat.zero_add _).symm), flag_at]
  have hm : (r + k.val) % 32 = k.val := by omega
  simp only [hm]
  exact if_congr ⟨fun h => ⟨hk, h⟩, fun ⟨_, h⟩ => h⟩ rfl rfl

theorem row_cast (v : IVec S1024 32) (l : Fin 1024) :
    shapeCast S1x1024 (shapeCast S1x1024 v shapeCasts_S1024_S1x1024) shapeCasts_S1x1024_S1x1024 (ix2 0 l) = v (ix1 l) := by
  rw [shapeCast_same]
  refine shapeCast_apply _ shapeCasts_S1024_S1x1024 (ix2 0 l) (ix1 l) ?_
  rw [Shape.rowMajor_val_one, Shape.rowMajor_val_two]; show l.val = 0 * 1024 + l.val; omega

theorem sliceWord_bit {n r : ℕ} (x : Vec Ideal S100x1024 .f32) (h : S100x1024.Slices ![r, 0] ⟨2, ![n, 1024]⟩) (hr : r % 32 = 0) (hn : n ≤ 32) (hb : r + n ≤ 100)
    (hred : (⟨2, ![n, 1024]⟩ : Shape).Reduces [0] S1024) (hacc : (0#32 : BitVec 32) = IKind.add.neutral) (l : Fin 1024) (b : ℕ) :
    (shapeCast S1x1024 (shapeCast S1x1024 (multiReductionI .add [0] S1024 (extractStridedSlice ⟨2, ![n, 1024]⟩ ![r, 0] (k0_pay230 k0_pay121 x) h) 0#32 hred hacc)
        shapeCasts_S1024_S1x1024) shapeCasts_S1x1024_S1x1024 (ix2 0 l)).getLsbD b = true
      ↔ b < n ∧ ∃ hk : r + b < 100, half ≤ (x (ix2 ⟨r + b, hk⟩ l) : EReal) := by
  rw [row_cast]
  exact word_bit hn _ hred hacc l (fun b => ∃ hk : r + b < 100, half ≤ (x (ix2 ⟨r + b, hk⟩ l) : EReal))
    (fun k => (slice_at x h hr hn hb l k).trans (by congr)) b

/-- Bit `b` of overlap word `q` is whether box `32 q + b` overlaps enough. -/
theorem wordRow_bit (q : Fin 4) (x : Vec Ideal S100x1024 .f32) (l : Fin 1024) (b : ℕ) (hb : b < 32) (hj : 32 * q.val + b < 100) :
    (wordRow q x (ix2 0 l)).getLsbD b = true ↔ half ≤ (x (ix2 ⟨32 * q.val + b, hj⟩ l) : EReal) := by
  match q, hj with
  | 0, hj =>
    have h := sliceWord_bit (n := 32) (r := 0) x slices_S100x1024_o0_0_S32x1024 (by omega) (by omega) (by omega) reduces_S32x1024_S1024 rfl l b
    exact h.trans ⟨fun ⟨_, _, h⟩ => h, fun h => ⟨hb, hj, h⟩⟩
  | 1, hj =>
    have h := sliceWord_bit (n := 32) (r := 32) x slices_S100x1024_o32_0_S32x1024 (by omega) (by omega) (by omega) reduces_S32x1024_S1024 rfl l b
    exact h.trans ⟨fun ⟨_, _, h⟩ => h, fun h => ⟨hb, hj, h⟩⟩
  | 2, hj =>
    have h := sliceWord_bit (n := 32) (r := 64) x slices_S100x1024_o64_0_S32x1024 (by omega) (by omega) (by omega) reduces_S32x1024_S1024 rfl l b
    exact h.trans ⟨fun ⟨_, _, h⟩ => h, fun h => ⟨hb, hj, h⟩⟩
  | 3, hj =>
    have h3 : 96 + b < 100 := hj
    have h := sliceWord_bit (n := 4) (r := 96) x slices_S100x1024_o96_0_S4x1024 (by omega) (by omega) (by omega) reduces_S4x1024_S1024 rfl l b
    exact h.trans ⟨fun ⟨_, _, h⟩ => h, fun h => ⟨by omega, hj, h⟩⟩

theorem wbV_bit (iou : Vec Ideal S100x20480 .f32) (j : Fin 100) (y : Fin 20480) :
    (wbV iou (ix2 ⟨j.val / 32, by omega⟩ y) : BitVec 32).getLsbD (j.val % 32) = true ↔ half ≤ (iou (ix2 j y) : EReal) := by
  have hj : 32 * (j.val / 32) + j.val % 32 < 100 := by omega
  have ej : (⟨32 * (j.val / 32) + j.val % 32, hj⟩ : Fin 100) = j := Fin.ext (by show 32 * (j.val / 32) + j.val % 32 = j.val; omega)
  unfold wbV
  refine (wordRow_bit ⟨j.val / 32, by omega⟩ _ _ (j.val % 32) (by omega) hj).trans (Iff.of_eq (congrArg (half ≤ ·) ?_))
  rw [ej]
  unfold chunkRect
  refine ldv_at iou _ _ _ _ _ fun a => ?_
  fin_cases a
  · show j.val = 0 + j.val; omega
  · show y.val = 1024 * (y.val / 1024) + y.val % 1024; omega

/-! ## The free words and the scores -/

theorem awW_bit (q : Fin 4) (b : ℕ) : (awW q).getLsbD b = true ↔ b < 32 ∧ 32 * q.val + b < 100 := by
  by_cases hb : b < 32
  · have : ∀ (q : Fin 4) (b : Fin 32), (awW q).getLsbD b.val = true ↔ 32 * q.val + b.val < 100 := by decide
    rw [this q ⟨b, hb⟩]; exact ⟨fun h => ⟨hb, h⟩, fun h => h.2⟩
  · rw [BitVec.getLsbD_of_ge _ _ (by omega)]
    constructor
    · intro h; cases h
    · rintro ⟨h, -⟩; omega

open Classical in
theorem wsV_at (ps : Vec Ideal S1x20480 .f32) (y : Fin 20480) :
    (wsV ps (ix2 0 y) : EReal) = if thr ≤ (ps (ix2 0 y) : EReal) then (ps (ix2 0 y) : EReal) else -1 := by
  have hl : ldv ps (Rect.unit (s := S1x20480) ![0, 0] S1x20480.size inb_S1x20480_S1x20480_0_0) (ix2 0 y) = ps (ix2 0 y) :=
    ldv_at _ _ _ _ _ _ fun a => by
      fin_cases a
      · rfl
      · show y.val = 0 + y.val; omega
  have e : (wsV ps (ix2 0 y) : EReal) = Scalar.select (BitVec.ofBool (decide (thr ≤ (ldv ps (Rect.unit (s := S1x20480) ![0, 0] S1x20480.size inb_S1x20480_S1x20480_0_0) (ix2 0 y) : EReal))))
      (ldv ps (Rect.unit (s := S1x20480) ![0, 0] S1x20480.size inb_S1x20480_S1x20480_0_0) (ix2 0 y) : EReal) (FloatOps.ofBits .f32 0xBF800000#32 : Ideal .f32) := by
    unfold wsV k0_pay23 k0_pay22 k0_pay21
    refine (shapeCast_same _ _ _).trans ?_
    simp only [ValueIdx.select_apply]
    rw [shapeCast_same]
    rw [show cmpf .oge (shapeCast S1x20480 (ldv ps (Rect.unit (s := S1x20480) ![0, 0] S1x20480.size inb_S1x20480_S1x20480_0_0)) shapeCasts_S1x20480_S1x20480)
      (broadcast S1x20480 (Scalar.ofBits .f32 0x3D4CCCCD#32 : Ideal .f32)) (ix2 0 y)
        = FloatOps.cmpf .oge (shapeCast S1x20480 (ldv ps (Rect.unit (s := S1x20480) ![0, 0] S1x20480.size inb_S1x20480_S1x20480_0_0)) shapeCasts_S1x20480_S1x20480 (ix2 0 y) : Ideal .f32)
            (FloatOps.ofBits .f32 0x3D4CCCCD#32) from congrArg (fun v => FloatOps.cmpf .oge v (FloatOps.ofBits .f32 0x3D4CCCCD#32)) rfl, show shapeCast S1x20480 (ldv ps (Rect.unit (s := S1x20480) ![0, 0] S1x20480.size inb_S1x20480_S1x20480_0_0)) shapeCasts_S1x20480_S1x20480 (ix2 0 y) = _ from shapeCast_same _ _ _]
    rfl
  rw [e, hl, ofBits_negOne]
  by_cases h : thr ≤ (ps (ix2 0 y) : EReal)
  · rw [if_pos h, decide_eq_true h]; rfl
  · rw [if_neg h, decide_eq_false h]; rfl

theorem init_inv (pb : Vec Ideal S4x20480 .f32) (gb : Vec Ideal S100x4 .f32) (ms ps : Vec Ideal S1x20480 .f32) : Inv (cst0 pb gb ms) (st0 ps) where
  over j y := wbV_bit (iouV pb gb) j y
  free j := by
    have hg : (rd (st0 ps)).m.g j = 4294967295#32 := rfl
    have ha : av (rd (st0 ps)).m.g j := by unfold av; rw [hg]; decide
    refine ⟨fun _ => ha, fun _ => (awW_bit ⟨j.val / 32, by omega⟩ (j.val % 32)).2 ⟨by omega, ?_⟩⟩
    show 32 * (j.val / 32) + j.val % 32 < 100; omega
  none q b hb := by
    rw [← Bool.not_eq_true, show ((st0 ps).aw (ix2 0 q) : BitVec 32) = awW q from rfl, awW_bit]; omega
  same j := rfl

/-! ## The events one after another -/

section Events

variable (C : Cst Ideal) (s : St Ideal)

theorem events_inv (h : Inv C s) (k : ℕ) : Inv C ((step C)^[k] s) := by
  induction k with
  | zero => exact h
  | succ k ih => rw [Function.iterate_succ_apply']; exact (event ih).2.1

theorem events_ok (h : Inv C s) (k : ℕ) : Ev.Ok C ((step C)^[k] s) := (event (events_inv C s h k)).1

theorem events_step (h : Inv C s) (k : ℕ) : Event half thr (iouOf C) (msOf C) (rd ((step C)^[k] s)) (rd ((step C)^[k + 1] s)) := by
  rw [Function.iterate_succ_apply']; exact (event (events_inv C s h k)).2.2

end Events

end Cert.KernelIdeal.Hand

end
-- ==== Proof.Trip.lean ====
/-
  One event of the selection loop runs to the state `step` names, and the loop's 101 events to its iterate.
-/
module

public import proofs.«01_k».proof.Proof.Model

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The three buffers an event only reads, held at their contents. -/
def cstRes (c : Dev nD) (arg3 : Memref sig .tc .vmem S1x20480 .f32) (arg10 : Memref sig .tc .vmem S100x20480 .f32) (arg14 : Memref sig .tc .vmem S4x20480 .i32) (C : Cst F) : sProp 𝕄 :=
  iprop(owns (c : Thread nD τ) arg3 fullShare C.ms
    ∗ owns (c : Thread nD τ) arg10 fullShare C.iou
    ∗ owns (c : Thread nD τ) arg14 fullShare C.wb)

/-- The eight buffers an event may change, held at their contents. -/
def stRes (c : Dev nD) (arg6 : Memref sig .tc .vmem S100x1 .f32) (arg7 : Memref sig .tc .vmem S100x1 .f32) (arg8 : Memref sig .tc .vmem S1x20480 .i32) (arg9 : Memref sig .tc .vmem S100x1 .f32) (arg11 : Memref sig .tc .vmem S1x20480 .f32) (arg12 : Memref sig .tc .vmem S100x1 .i32) (arg13 : Memref sig .tc .smem S1x100 .i32) (arg15 : Memref sig .tc .smem S1x4 .i32) (s : St F) : sProp 𝕄 :=
  iprop(owns (c : Thread nD τ) arg6 fullShare s.fl
    ∗ owns (c : Thread nD τ) arg7 fullShare s.os
    ∗ owns (c : Thread nD τ) arg8 fullShare s.dt
    ∗ owns (c : Thread nD τ) arg9 fullShare s.bi
    ∗ owns (c : Thread nD τ) arg11 fullShare s.ws
    ∗ owns (c : Thread nD τ) arg12 fullShare s.gt
    ∗ owns (c : Thread nD τ) arg13 fullShare s.gs
    ∗ owns (c : Thread nD τ) arg15 fullShare s.aw)

section Trip

variable (c : Dev nD) (arg0 : Memref sig .tc .vmem S4x20480 .f32) (harg0 : arg0.IsWhole) (arg1 : Memref sig .tc .vmem S100x4 .f32) (harg1 : arg1.IsWhole) (arg2 : Memref sig .tc .vmem S1x20480 .f32) (harg2 : arg2.IsWhole) (arg3 : Memref sig .tc .vmem S1x20480 .f32) (harg3 : arg3.IsWhole) (arg4 : Memref sig .tc .hbm S20000x784 .f32) (harg4 : arg4.IsWhole) (arg5 : Memref sig .tc .vmem S100x784 .f32) (harg5 : arg5.IsWhole) (arg6 : Memref sig .tc .vmem S100x1 .f32) (harg6 : arg6.IsWhole) (arg7 : Memref sig .tc .vmem S100x1 .f32) (harg7 : arg7.IsWhole) (arg8 : Memref sig .tc .vmem S1x20480 .i32) (harg8 : arg8.IsWhole) (arg9 : Memref sig .tc .vmem S100x1 .f32) (harg9 : arg9.IsWhole) (arg10 : Memref sig .tc .vmem S100x20480 .f32) (harg10 : arg10.IsWhole) (arg11 : Memref sig .tc .vmem S1x20480 .f32) (harg11 : arg11.IsWhole) (arg12 : Memref sig .tc .vmem S100x1 .i32) (harg12 : arg12.IsWhole) (arg13 : Memref sig .tc .smem S1x100 .i32) (harg13 : arg13.IsWhole) (arg14 : Memref sig .tc .vmem S4x20480 .i32) (harg14 : arg14.IsWhole) (arg15 : Memref sig .tc .smem S1x4 .i32) (harg15 : arg15.IsWhole) (arg16 : DmaSems sig S100)

set_option maxHeartbeats 4000000 in
/-- One event that matches a prediction of index above zero. -/
theorem trip_pos (k : Fin k0_t1_loop.trips) (f3 : Buf (Elt F) (arg3.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (Q : Unit → sProp 𝕄)
    (h1 : k0_cond1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1)
    (hc : k0_chk1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩))
    (hd : k0_chk2 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.box ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ h1 hc))
    (h2 : k0_cond2 (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1) :
    iprop((arg3.view.loc (c : Thread nD τ) ↦[arg3.view.set]{fullShare} f3)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (iprop(cstRes c arg3 arg10 arg14 ⟨(arg3.view.read (Elt F) f3), (arg10.view.read (Elt F) f10), (arg14.view.read (Elt F) f14)⟩ ∗ stRes c arg6 arg7 arg8 arg9 arg11 arg12 arg13 arg15 (step ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩)) -∗ Q ()))
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32 k ()) Q := by
  rw [step_hit _ _ h1 hc hd]
  have q1 : ∀ v, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → k0_cond1 v = 1#1 := fun v e => e ▸ h1
  have qc : ∀ v w, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → k0_chk1 v w := fun v w e e' => e ▸ e' ▸ hc
  have qd : ∀ v w m, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → m = Ev.box ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ h1 hc → k0_chk2 v w m :=
    fun v w m e e' e'' => e ▸ e' ▸ e'' ▸ hd
  have q2 : ∀ w, w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → k0_cond2 w = 1#1 := fun w e => e ▸ h2
  unfold k0_t1_body
  iintro ⟨H3, H6, H7, H8, H9, H10, H11, H12, H13, H14, H15, Hk⟩
  sl_exec (disch := first
    | (with_reducible refine q1 _ ?_) <;> sl_kernel_rfl
    | (with_reducible refine qc _ _ ?_ ?_) <;> sl_kernel_rfl
    | (with_reducible refine qd _ _ _ ?_ ?_ ?_) <;> sl_kernel_rfl
    | (with_reducible refine q2 _ ?_) <;> sl_kernel_rfl)
  sl_step
  iapply Hk
  isplitl [H3 H10 H14]
  · unfold cstRes
    isplitl [H3]
    · unfold owns; iexists _; isplitr; swap; · iexact H3
      ipureintro; rfl
    isplitl [H10]
    · unfold owns; iexists _; isplitr; swap; · iexact H10
      ipureintro; rfl
    unfold owns; iexists _; isplitr; swap; · iexact H14
    ipureintro; rfl
  · unfold stRes
    isplitl [H6]
    · unfold owns; iexists _; isplitr; swap; · iexact H6
      ipureintro; exact (read_writes_cons_ovr _ _ _ _ []).trans (by sl_kernel_rfl)
    isplitl [H7]
    · unfold owns; iexists _; isplitr; swap; · iexact H7
      ipureintro; exact (read_writes_cons_ovr _ _ _ _ []).trans (by sl_kernel_rfl)
    isplitl [H8]
    · unfold owns; iexists _; isplitr; swap; · iexact H8
      ipureintro; exact (read_writes_cons_ovr _ _ _ _ []).trans (by sl_kernel_rfl)
    isplitl [H9]
    · unfold owns; iexists _; isplitr; swap; · iexact H9
      ipureintro; exact (read_writes_cons_ovr _ _ _ _ []).trans (by sl_kernel_rfl)
    isplitl [H11]
    · unfold owns; iexists _; isplitr; swap; · iexact H11
      ipureintro; exact (read_writes_cons_ovr _ _ _ _ []).trans (by sl_kernel_rfl)
    isplitl [H12]
    · unfold owns; iexists _; isplitr; swap; · iexact H12
      ipureintro; exact (read_writes_cons_ovr _ _ _ _ []).trans (by sl_kernel_rfl)
    isplitl [H13]
    · unfold owns; iexists _; isplitr; swap; · iexact H13
      ipureintro; exact (read_writes_cons_ovr _ _ _ _ []).trans (by sl_kernel_rfl)
    unfold owns; iexists _; isplitr; swap; · iexact H15
    ipureintro; rw [Ev.took_aw, Ev.free_pos _ _ h1 hc hd h2]; exact (read_writes_cons_ovr _ _ _ _ []).trans (by sl_kernel_rfl)

set_option maxHeartbeats 4000000 in
/-- One event that matches the prediction of index zero, whose box stays free. -/
theorem trip_zero (k : Fin k0_t1_loop.trips) (f3 : Buf (Elt F) (arg3.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (Q : Unit → sProp 𝕄)
    (h1 : k0_cond1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1)
    (hc : k0_chk1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩))
    (hd : k0_chk2 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) (Ev.box ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ h1 hc))
    (h2 : ¬ k0_cond2 (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1) :
    iprop((arg3.view.loc (c : Thread nD τ) ↦[arg3.view.set]{fullShare} f3)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (iprop(cstRes c arg3 arg10 arg14 ⟨(arg3.view.read (Elt F) f3), (arg10.view.read (Elt F) f10), (arg14.view.read (Elt F) f14)⟩ ∗ stRes c arg6 arg7 arg8 arg9 arg11 arg12 arg13 arg15 (step ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩)) -∗ Q ()))
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32 k ()) Q := by
  rw [step_hit _ _ h1 hc hd]
  have q1 : ∀ v, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → k0_cond1 v = 1#1 := fun v e => e ▸ h1
  have qc : ∀ v w, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → k0_chk1 v w := fun v w e e' => e ▸ e' ▸ hc
  have qd : ∀ v w m, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → m = Ev.box ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ h1 hc → k0_chk2 v w m :=
    fun v w m e e' e'' => e ▸ e' ▸ e'' ▸ hd
  have q2 : ∀ w, w = Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → ¬ k0_cond2 w = 1#1 := fun w e => e ▸ h2
  unfold k0_t1_body
  iintro ⟨H3, H6, H7, H8, H9, H10, H11, H12, H13, H14, H15, Hk⟩
  sl_exec (disch := first
    | (with_reducible refine q1 _ ?_) <;> sl_kernel_rfl
    | (with_reducible refine qc _ _ ?_ ?_) <;> sl_kernel_rfl
    | (with_reducible refine qd _ _ _ ?_ ?_ ?_) <;> sl_kernel_rfl
    | (with_reducible refine q2 _ ?_) <;> sl_kernel_rfl)
  sl_step
  iapply Hk
  isplitl [H3 H10 H14]
  · unfold cstRes
    isplitl [H3]
    · unfold owns; iexists _; isplitr; swap; · iexact H3
      ipureintro; rfl
    isplitl [H10]
    · unfold owns; iexists _; isplitr; swap; · iexact H10
      ipureintro; rfl
    unfold owns; iexists _; isplitr; swap; · iexact H14
    ipureintro; rfl
  · unfold stRes
    isplitl [H6]
    · unfold owns; iexists _; isplitr; swap; · iexact H6
      ipureintro; exact (read_writes_cons_ovr _ _ _ _ []).trans (by sl_kernel_rfl)
    isplitl [H7]
    · unfold owns; iexists _; isplitr; swap; · iexact H7
      ipureintro; exact (read_writes_cons_ovr _ _ _ _ []).trans (by sl_kernel_rfl)
    isplitl [H8]
    · unfold owns; iexists _; isplitr; swap; · iexact H8
      ipureintro; exact (read_writes_cons_ovr _ _ _ _ []).trans (by sl_kernel_rfl)
    isplitl [H9]
    · unfold owns; iexists _; isplitr; swap; · iexact H9
      ipureintro; exact (read_writes_cons_ovr _ _ _ _ []).trans (by sl_kernel_rfl)
    isplitl [H11]
    · unfold owns; iexists _; isplitr; swap; · iexact H11
      ipureintro; exact (read_writes_cons_ovr _ _ _ _ []).trans (by sl_kernel_rfl)
    isplitl [H12]
    · unfold owns; iexists _; isplitr; swap; · iexact H12
      ipureintro; exact (read_writes_cons_ovr _ _ _ _ []).trans (by sl_kernel_rfl)
    isplitl [H13]
    · unfold owns; iexists _; isplitr; swap; · iexact H13
      ipureintro; exact (read_writes_cons_ovr _ _ _ _ []).trans (by sl_kernel_rfl)
    unfold owns; iexists _; isplitr; swap; · iexact H15
    ipureintro; rw [Ev.took_aw, Ev.free_neg _ _ h1 hc hd h2]

set_option maxHeartbeats 4000000 in
/-- One event in which no score reaches the threshold. -/
theorem trip_miss (k : Fin k0_t1_loop.trips) (f3 : Buf (Elt F) (arg3.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (Q : Unit → sProp 𝕄)
    (h1 : ¬ k0_cond1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1) :
    iprop((arg3.view.loc (c : Thread nD τ) ↦[arg3.view.set]{fullShare} f3)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (iprop(cstRes c arg3 arg10 arg14 ⟨(arg3.view.read (Elt F) f3), (arg10.view.read (Elt F) f10), (arg14.view.read (Elt F) f14)⟩ ∗ stRes c arg6 arg7 arg8 arg9 arg11 arg12 arg13 arg15 (step ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩)) -∗ Q ()))
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32 k ()) Q := by
  rw [step_miss _ _ h1]
  have q1 : ∀ v, v = Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩ → ¬ k0_cond1 v = 1#1 := fun v e => e ▸ h1

  unfold k0_t1_body
  iintro ⟨H3, H6, H7, H8, H9, H10, H11, H12, H13, H14, H15, Hk⟩
  sl_exec (disch := first
    | (with_reducible refine q1 _ ?_) <;> sl_kernel_rfl)
  sl_step
  iapply Hk
  isplitl [H3 H10 H14]
  · unfold cstRes
    isplitl [H3]
    · unfold owns; iexists _; isplitr; swap; · iexact H3
      ipureintro; rfl
    isplitl [H10]
    · unfold owns; iexists _; isplitr; swap; · iexact H10
      ipureintro; rfl
    unfold owns; iexists _; isplitr; swap; · iexact H14
    ipureintro; rfl
  · unfold stRes
    isplitl [H6]
    · unfold owns; iexists _; isplitr; swap; · iexact H6
      ipureintro; rfl
    isplitl [H7]
    · unfold owns; iexists _; isplitr; swap; · iexact H7
      ipureintro; rfl
    isplitl [H8]
    · unfold owns; iexists _; isplitr; swap; · iexact H8
      ipureintro; rfl
    isplitl [H9]
    · unfold owns; iexists _; isplitr; swap; · iexact H9
      ipureintro; rfl
    isplitl [H11]
    · unfold owns; iexists _; isplitr; swap; · iexact H11
      ipureintro; rfl
    isplitl [H12]
    · unfold owns; iexists _; isplitr; swap; · iexact H12
      ipureintro; rfl
    isplitl [H13]
    · unfold owns; iexists _; isplitr; swap; · iexact H13
      ipureintro; rfl
    unfold owns; iexists _; isplitr; swap; · iexact H15
    ipureintro; rfl

/-- One event, from the state `s` to `step C s`, the two bounds holding. -/
theorem trip (k : Fin k0_t1_loop.trips) (C : Cst F) (s : St F) (hok : Ev.Ok C s) (Q : Unit → sProp 𝕄) :
    iprop(cstRes c arg3 arg10 arg14 C ∗ stRes c arg6 arg7 arg8 arg9 arg11 arg12 arg13 arg15 s
        ∗ (iprop(cstRes c arg3 arg10 arg14 C ∗ stRes c arg6 arg7 arg8 arg9 arg11 arg12 arg13 arg15 (step C s)) -∗ Q ()))
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32 k ()) Q := by
  obtain ⟨c3, c10, c14⟩ := C
  obtain ⟨s6, s7, s8, s9, s11, s12, s13, s15⟩ := s
  unfold cstRes stRes owns
  iintro ⟨⟨⟨%f3, %e3, H3⟩, ⟨%f10, %e10, H10⟩, ⟨%f14, %e14, H14⟩⟩, ⟨⟨%f6, %e6, H6⟩, ⟨%f7, %e7, H7⟩, ⟨%f8, %e8, H8⟩, ⟨%f9, %e9, H9⟩, ⟨%f11, %e11, H11⟩, ⟨%f12, %e12, H12⟩, ⟨%f13, %e13, H13⟩, ⟨%f15, %e15, H15⟩⟩, Hk⟩
  subst e3 e10 e14 e6 e7 e8 e9 e11 e12 e13 e15
  by_cases h1 : k0_cond1 (Ev.hit (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1
  · obtain ⟨hc, hd⟩ := hok h1
    by_cases h2 : k0_cond2 (Ev.pick (F := F) ⟨(arg3.view.read (Elt F) f3), (arg10.view.read (Elt F) f10), (arg14.view.read (Elt F) f14)⟩ ⟨(arg6.view.read (Elt F) f6), (arg7.view.read (Elt F) f7), (arg8.view.read (Elt F) f8), (arg9.view.read (Elt F) f9), (arg11.view.read (Elt F) f11), (arg12.view.read (Elt F) f12), (arg13.view.read (Elt F) f13), (arg15.view.read (Elt F) f15)⟩) = 1#1
    · iapply (trip_pos c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k f3 f6 f7 f8 f9 f10 f11 f12 f13 f14 f15 Q h1 hc (hd h1) h2)
      isplitl [H3]; · iexact H3
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact Hk
    · iapply (trip_zero c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k f3 f6 f7 f8 f9 f10 f11 f12 f13 f14 f15 Q h1 hc (hd h1) h2)
      isplitl [H3]; · iexact H3
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact Hk
  · iapply (trip_miss c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k f3 f6 f7 f8 f9 f10 f11 f12 f13 f14 f15 Q h1)
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact Hk

/-- The loop's 101 events take the state `s` to its 101st iterate, the two bounds holding at each. -/
theorem loop_bind (C : Cst F) (s : St F) (hok : ∀ k < 101, Ev.Ok C ((step C)^[k] s)) {β : Type}
    (kk : Unit → Prog (TpuEff nD τ sig (Elt F) Λ₀ .tc) β) (Q : β → sProp 𝕄) :
    iprop(cstRes c arg3 arg10 arg14 C ∗ stRes c arg6 arg7 arg8 arg9 arg11 arg12 arg13 arg15 s
        ∗ (iprop(cstRes c arg3 arg10 arg14 C ∗ stRes c arg6 arg7 arg8 arg9 arg11 arg12 arg13 arg15 ((step C)^[101] s))
            -∗ wp frame (wpE (defs₀ (F := F)) Variants.none (c : Thread nD τ) none) Set.univ (kk ()) Q))
      ⊢ wp frame (wpE (defs₀ (F := F)) Variants.none (c : Thread nD τ) none) Set.univ
          (Scf.Loop.for k0_t1_loop k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32) >>= kk) Q := by
  iintro ⟨HC, HS, HK⟩
  have ht : Scf.trips k0_t1_loop.lb k0_t1_loop.ub k0_t1_loop.st = 101 := by decide
  have hl := Scf.wp_for_bind frame (wpE (defs₀ (F := F)) Variants.none (c : Thread nD τ) none) Set.univ
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 4294967295#32)
    (fun k _ => iprop(cstRes c arg3 arg10 arg14 C ∗ stRes c arg6 arg7 arg8 arg9 arg11 arg12 arg13 arg15 ((step C)^[k] s)))
    (by
      intro k acc
      have hk : (k : ℕ) < 101 := ht ▸ k.isLt
      rw [Function.iterate_succ_apply']
      iintro ⟨HC, HS⟩
      iapply (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k C ((step C)^[(k : ℕ)] s) (hok k hk))
      isplitl [HC]; · iexact HC
      isplitl [HS]; · iexact HS
      iintro H; iexact H)
    (kk := kk) (Q := Q)
  rw [ht] at hl
  iapply (hl.trans .rfl) $$ [HC HS] [HK]
  · isplitl [HC]; · iexact HC
    iexact HS
  · iintro %acc H
    iapply HK; iexact H

end Trip

end Cert.KernelIdeal.Hand

end
-- ==== Proof.Rows.lean ====
/-
  The mask window row by row: its 100 rows held apart while their copies run, and the window whole again, at what the rows
  hold; and the readers' shares of the far memory the copies read.
-/
module

public import proofs.«01_k».proof.Proof.Gen.KernelIdeal.Frame
public import proofs.«01_k».proof.Proof.Gen.KernelIdeal.Loops
public import proofs.«01_k».proof.Proof.Trip
public import proofs.«01_k».proof.Proof.Prologue
public import Idealize.SL.BI.BigOpNat

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The prediction masks, in the far memory. -/
abbrev hbM : Memref sig .tc .hbm S20000x784 .f32 := Memref.whole main_call0_v0
/-- The window of the matched masks. -/
abbrev gmM : Memref sig .tc .vmem S100x784 .f32 := stage0_4 0
theorem hgmM : gmM.IsWhole := hstage0_4 0

/-- One row of a buffer, held outright. -/
abbrev hbRow (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f
/-- One reader's share of a buffer. -/
abbrev hbTok (c : Dev nD) {sp : Space} {S : Shape} {e : EltTy} (M : Memref sig .tc sp S e) (i : ℕ) (f : Buf (Elt F) (M.view.loc (c : Thread nD τ))) : sProp 𝕄 :=
  M.view.loc (c : Thread nD τ) ↦{Transfers.shareTokN fullShare i} f

theorem inb_gm (j : ℕ) : ∀ a, (![j % 100, 0] : Fin 2 → ℕ) a + S1x784.size a ≤ S100x784.size a := by
  intro a; fin_cases a
  · show j % 100 + 1 ≤ 100; omega
  · show 0 + 784 ≤ 784; omega

theorem inb_gs (j : ℕ) : ∀ a, (![0, j % 100] : Fin 2 → ℕ) a + S1x1.size a ≤ S1x100.size a := by
  intro a; fin_cases a
  · show 0 + 1 ≤ 1; omega
  · show j % 100 + 1 ≤ 100; omega

/-- Row `j` of the mask window. -/
def gmR (j : ℕ) : Rect S100x784 := Rect.unit (s := S100x784) ![j % 100, 0] S1x784.size (inb_gm j)

/-- The semaphore of row `j`'s copy. -/
def dsem (j : ℕ) : SemLoc sig := SemLoc.dma (⟨(9 + j) % 109, Nat.mod_lt _ (by norm_num)⟩ : Fin 109)

/-- The prediction box `j` keeps. -/
def gsW (gs : Vec F S1x100 .i32) (j : ℕ) : BitVec 32 := wd gs (Rect.unit (s := S1x100) ![0, j % 100] S1x1.size (inb_gs j)) numel1_S1x1

theorem gsW_ok {gs : Vec F S1x100 .i32} (h : ∀ y, k0_chk3 (gs y)) (j : ℕ) : k0_chk3 (gsW gs j) := h _

/-- The mask row a word names. -/
def rowSrc (w : BitVec 32) (h : k0_chk3 w) (c : Dev nD) (f4 : Buf (Elt F) (hbM.view.loc (c : Thread nD τ))) : Vec F S1x784 .f32 :=
  ReadAs.same.apply (View.read (Elt F) (hbM.slice (Rect.unit (s := S20000x784) (k0_off5 w) S1x784.size (k0_off5_inb w h)) (fun _ => rfl)).view f4)

/-- What row `j` of the mask window goes through: the copy, then its product with whether the box is matched. -/
def rowPieces (gs : Vec F S1x100 .i32) (h : ∀ y, k0_chk3 (gs y)) (c : Dev nD) (f4 : Buf (Elt F) (hbM.view.loc (c : Thread nD τ))) (j : ℕ) : List (View.Piece (Elt F) S100x784 .f32) :=
  [⟨gmR j, k0_pay241 (gsW gs j) (gmM.view.readCov [⟨gmR j, rowSrc (gsW gs j) (gsW_ok h j) c f4⟩] (gmR j).toLoadRect)⟩,
    ⟨gmR j, rowSrc (gsW gs j) (gsW_ok h j) c f4⟩]

/-- The rows of the mask window when the kernel ends. -/
def rowsRes (c : Dev nD) (gs : Vec F S1x100 .i32) (h : ∀ y, k0_chk3 (gs y)) (f4 : Buf (Elt F) (hbM.view.loc (c : Thread nD τ))) (f5 : Buf (Elt F) (gmM.view.loc (c : Thread nD τ))) : sProp 𝕄 :=
  BI.bigSep (Finset.range 100) fun j => hbRow c gmM (gmR j) (gmM.view.writes (Elt F) f5 (rowPieces gs h c f4 j))

/-! ## The window and its rows -/

theorem gmR_disj (M : Memref sig .tc .vmem S100x784 .f32) : ∀ t ∈ Finset.range 100, ∀ t' ∈ Finset.range 100, t ≠ t' → Disjoint (M.view.setOn (gmR t).set) (M.view.setOn (gmR t').set) := by
  intro t ht t' ht' hne
  rw [Finset.mem_range] at ht ht'
  unfold View.setOn
  rw [Finset.disjoint_map, Finset.disjoint_left]
  intro x hx hx'
  obtain ⟨a, ha, e⟩ := (gmR t).mem_set.1 hx 0
  obtain ⟨b, hb, e'⟩ := (gmR t').mem_set.1 hx' 0
  change a < 1 at ha
  change b < 1 at hb
  change (x 0).val = t % 100 + 1 * a at e
  change (x 0).val = t' % 100 + 1 * b at e'
  omega

theorem mem_gmR (y : S100x784.Idx) : y ∈ (gmR (y 0).val).set := by
  have h0 : (y 0).val < 100 := (y 0).isLt
  refine (gmR (y 0).val).mem_set.2 fun a => ?_
  fin_cases a
  · exact ⟨0, by show 0 < 1; omega, by show (y 0).val = (y 0).val % 100 + 1 * 0; omega⟩
  · exact ⟨(y 1).val, (y 1).isLt, by show (y 1).val = 0 + 1 * (y 1).val; omega⟩

theorem gmR_cover (M : Memref sig .tc .vmem S100x784 .f32) (i) : i ∈ M.view.set ↔ ∃ j ∈ Finset.range 100, i ∈ M.view.setOn (gmR j).set := by
  constructor
  · intro hi
    obtain ⟨y, -, rfl⟩ := Finset.mem_map.1 hi
    exact ⟨(y 0).val, Finset.mem_range.2 (y 0).isLt, M.view.mem_setOn.2 (mem_gmR y)⟩
  · rintro ⟨j, -, hj⟩; exact M.view.setOn_subset_set _ hj

/-- A buffer held on a set is the parts of the set held apart. -/
theorem parts_split {ℓ : Loc nD τ sig} {q : PosShare TreeShare} {T : Type} (S : Finset T) (K : T → Finset (Idx ℓ)) (A : Finset (Idx ℓ)) (f : Buf (Elt F) ℓ)
    (hd : ∀ t ∈ S, ∀ t' ∈ S, t ≠ t' → Disjoint (K t) (K t')) (hA : ∀ i, i ∈ A ↔ ∃ t ∈ S, i ∈ K t) :
    (ℓ ↦[A]{q} f : sProp 𝕄) ⊢ BI.bigSep S fun t => ℓ ↦[K t]{q} f := by
  have e : A = S.biUnion K := by ext i; rw [hA, Finset.mem_biUnion]
  rw [e, pointsTo_biUnion S K hd]

/-- The parts held apart, each at contents of its own, are the whole. -/
theorem parts_join {ℓ : Loc nD τ sig} {q : PosShare TreeShare} {T : Type} (S : Finset T) (K : T → Finset (Idx ℓ)) (A : Finset (Idx ℓ)) (fs : T → Buf (Elt F) ℓ) (f₀ : Buf (Elt F) ℓ)
    (hd : ∀ t ∈ S, ∀ t' ∈ S, t ≠ t' → Disjoint (K t) (K t')) (hA : ∀ i, i ∈ A ↔ ∃ t ∈ S, i ∈ K t) :
    (BI.bigSep S fun t => ℓ ↦[K t]{q} fs t : sProp 𝕄) ⊢ iprop(∃ g, ⌜∀ t ∈ S, ∀ i ∈ K t, g i = fs t i⌝ ∗ ℓ ↦[A]{q} g) := by
  have e : A = S.biUnion K := by ext i; rw [hA, Finset.mem_biUnion]
  rw [e]
  exact pointsTo_biUnion_join S K fs f₀ hd

/-- The window held whole is its rows held apart. -/
theorem gm_split (c : Dev nD) (M : Memref sig .tc .vmem S100x784 .f32) (f5 : Buf (Elt F) (M.view.loc (c : Thread nD τ))) :
    (M.view.loc (c : Thread nD τ) ↦[M.view.set]{fullShare} f5 : sProp 𝕄) ⊢ BI.bigSep (Finset.range 100) fun j => hbRow c M (gmR j) f5 :=
  parts_split (ℓ := M.view.loc (c : Thread nD τ)) _ (fun j => M.view.setOn (gmR j).set) M.view.set f5 (gmR_disj M) (gmR_cover M)

/-- Reading back a rectangle just stored gives the store. -/
theorem readCov_self {sp : Space} {S : Shape} {e : EltTy} {κ : Kind} (v : View sig κ sp S e) (R : Rect S) (w : Vec F R.shape e) :
    v.readCov [⟨R, w⟩] R.toLoadRect = w := by
  funext x
  unfold View.readCov
  rw [View.readAt_apply]
  exact View.read_writes_cons_hit v _ R w [] x (R.idx x) rfl

/-- What the mask window ends with: row `j` the mask row box `j` keeps, times whether the box is matched. -/
def gmV (gs : Vec F S1x100 .i32) (h : ∀ y, k0_chk3 (gs y)) (c : Dev nD) (f4 : Buf (Elt F) (hbM.view.loc (c : Thread nD τ))) : Vec F S100x784 .f32 := fun y =>
  k0_pay241 (gsW gs (y 0).val) (rowSrc (gsW gs (y 0).val) (gsW_ok h (y 0).val) c f4) (ix2 0 (y 1))

/-- Rows held apart, row `j` holding what its last store left, are the window whole. -/
theorem gm_join (c : Dev nD) (M : Memref sig .tc .vmem S100x784 .f32) (f5 : Buf (Elt F) (M.view.loc (c : Thread nD τ)))
    (w : ℕ → Vec F S1x784 .f32) (L : ℕ → List (View.Piece (Elt F) S100x784 .f32)) :
    (BI.bigSep (Finset.range 100) fun j => hbRow c M (gmR j) (M.view.writes (Elt F) f5 (⟨gmR j, w j⟩ :: L j)) : sProp 𝕄)
      ⊢ owns (c : Thread nD τ) M fullShare (fun y : S100x784.Idx => w (y 0).val (ix2 0 (y 1))) := by
  unfold owns
  refine (parts_join (ℓ := M.view.loc (c : Thread nD τ)) _ (fun j => M.view.setOn (gmR j).set) M.view.set (fun j => M.view.writes (Elt F) f5 (⟨gmR j, w j⟩ :: L j)) f5 (gmR_disj M) (gmR_cover M)).trans ?_
  iintro ⟨%g, %hg, H⟩
  iexists g
  isplitr; swap; · iexact H
  ipureintro
  funext y
  have e1 := hg (y 0).val (Finset.mem_range.2 (y 0).isLt) (M.view.emb y) (M.view.mem_setOn.2 (mem_gmR y))
  rw [View.read_apply, e1, ← View.read_apply]
  have h0 : (y 0).val < 100 := (y 0).isLt
  refine View.read_writes_cons_hit_of_coords M.view f5 (gmR (y 0).val) _ _ (ix2 0 (y 1) : S1x784.Idx) y fun a => ?_
  fin_cases a
  · show (y 0).val = (y 0).val % 100 + 1 * 0; omega
  · show (y 1).val = 0 + 1 * (y 1).val; omega

/-- The rows at what they end with are the window whole at `gmV`. -/
theorem rows_join (c : Dev nD) (gs : Vec F S1x100 .i32) (h : ∀ y, k0_chk3 (gs y)) (f4 : Buf (Elt F) (hbM.view.loc (c : Thread nD τ))) (f5 : Buf (Elt F) (gmM.view.loc (c : Thread nD τ))) :
    (rowsRes c gs h f4 f5 : sProp 𝕄) ⊢ owns (c : Thread nD τ) gmM fullShare (gmV gs h c f4) := by
  refine (gm_join c gmM f5 (fun j => k0_pay241 (gsW gs j) (gmM.view.readCov [⟨gmR j, rowSrc (gsW gs j) (gsW_ok h j) c f4⟩] (gmR j).toLoadRect))
    (fun j => [⟨gmR j, rowSrc (gsW gs j) (gsW_ok h j) c f4⟩])).trans (.of_eq (congrArg _ ?_))
  funext y
  exact congrArg (fun r => k0_pay241 (gsW gs (y 0).val) r (ix2 0 (y 1))) (readCov_self gmM.view (gmR (y 0).val) _)

/-! ## The readers' shares -/

theorem bigSep_range_add {M : Type} [URA M] (n k : ℕ) (A : ℕ → sProp M) :
    BI.bigSep (Finset.range (n + k)) A = iprop((BI.bigSep (Finset.range k) fun j => A (n + j)) ∗ BI.bigSep (Finset.range n) A) := by
  induction k with
  | zero => rw [Finset.range_zero, BI.bigSep_empty]; exact (equiv_iff.mp emp_sep).symm
  | succ k ih =>
    rw [← Nat.add_assoc, BI.bigSep_range_succ, ih, BI.bigSep_range_succ]
    exact (equiv_iff.mp ⟨BI.sep_assoc, BI.sep_assoc'⟩).symm

/-- What is left of the far memory beside the copies' shares. -/
def hbRest (c : Dev nD) (f4 : Buf (Elt F) (hbM.view.loc (c : Thread nD τ))) : sProp 𝕄 :=
  iprop((hbM.view.loc (c : Thread nD τ) ↦{Transfers.shareDrop fullShare (9 + 100)} f4) ∗ BI.bigSep (Finset.range 9) fun i => hbTok c hbM i f4)

/-- The far memory held whole is the share of each of the 100 copies' reads, beside the rest. -/
theorem hb_toks (c : Dev nD) (f4 : Buf (Elt F) (hbM.view.loc (c : Thread nD τ))) :
    (hbM.view.loc (c : Thread nD τ) ↦{fullShare} f4 : sProp 𝕄) ⊣⊢ iprop((BI.bigSep (Finset.range 100) fun j => hbTok c hbM (9 + j) f4) ∗ hbRest c f4) := by
  refine (Transfers.pointsTo_toks_range fullShare (9 + 100)).trans ?_
  rw [bigSep_range_add]
  unfold hbRest
  constructor
  · iintro ⟨H1, H2, H3⟩
    isplitl [H2]; · iexact H2
    isplitl [H1]; · iexact H1
    iexact H3
  · iintro ⟨H2, H1, H3⟩
    isplitl [H1]; · iexact H1
    isplitl [H2]; · iexact H2
    iexact H3

/-! ## The copies' semaphores -/

/-- The 100 semaphores of the copies. -/
def osem0 (j : Fin 100) : SemLoc sig := dsem j.val

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = BI.bigSep (Finset.range 100) fun j => semVal ((c : Thread nD τ), dsem j) 0 := by
  unfold Pipeline.ownSems0
  have e : (Finset.univ : Finset (Fin 100)).map Fin.valEmbedding = Finset.range 100 := by
    ext i; simp only [Finset.mem_map, Finset.mem_univ, true_and, Finset.mem_range, Fin.valEmbedding_apply]
    exact ⟨fun ⟨j, hj⟩ => hj ▸ j.isLt, fun h => ⟨⟨i, h⟩, rfl⟩⟩
  rw [← e, BI.bigSep_map]; rfl

end Cert.KernelIdeal.Hand

end
-- ==== Proof.Body.lean ====
/-
  The kernel's one grid point: from its buffers, the tokens of its 100 row copies and the rows of the mask window to what
  its results hold when it ends.
-/
module

public import proofs.«01_k».proof.Proof.Rows

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.dmaWindow true in
set_option maxHeartbeats 40000000 in
theorem body (c : Dev nD) (arg0 : Memref sig .tc .vmem S4x20480 .f32) (harg0 : arg0.IsWhole) (arg1 : Memref sig .tc .vmem S100x4 .f32) (harg1 : arg1.IsWhole) (arg2 : Memref sig .tc .vmem S1x20480 .f32) (harg2 : arg2.IsWhole) (arg3 : Memref sig .tc .vmem S1x20480 .f32) (harg3 : arg3.IsWhole) (arg6 : Memref sig .tc .vmem S100x1 .f32) (harg6 : arg6.IsWhole) (arg7 : Memref sig .tc .vmem S100x1 .f32) (harg7 : arg7.IsWhole) (arg8 : Memref sig .tc .vmem S1x20480 .i32) (harg8 : arg8.IsWhole) (arg9 : Memref sig .tc .vmem S100x1 .f32) (harg9 : arg9.IsWhole) (arg10 : Memref sig .tc .vmem S100x20480 .f32) (harg10 : arg10.IsWhole) (arg11 : Memref sig .tc .vmem S1x20480 .f32) (harg11 : arg11.IsWhole) (arg12 : Memref sig .tc .vmem S100x1 .i32) (harg12 : arg12.IsWhole) (arg13 : Memref sig .tc .smem S1x100 .i32) (harg13 : arg13.IsWhole) (arg14 : Memref sig .tc .vmem S4x20480 .i32) (harg14 : arg14.IsWhole) (arg15 : Memref sig .tc .smem S1x4 .i32) (harg15 : arg15.IsWhole)
    (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f4 : Buf (Elt F) (hbM.view.loc (c : Thread nD τ))) (f5 : Buf (Elt F) (gmM.view.loc (c : Thread nD τ))) (W : _) (Q : Unit → sProp 𝕄)
    (hok : ∀ k < 101, Ev.Ok (cst0 (arg0.view.read (Elt F) f0) (arg1.view.read (Elt F) f1) (arg3.view.read (Elt F) f3)) ((step (cst0 (arg0.view.read (Elt F) f0) (arg1.view.read (Elt F) f1) (arg3.view.read (Elt F) f3)))^[k] (st0 (arg2.view.read (Elt F) f2))))
    (hrow : ∀ y : S1x100.Idx, k0_chk3 (((step (cst0 (arg0.view.read (Elt F) f0) (arg1.view.read (Elt F) f1) (arg3.view.read (Elt F) f3)))^[101] (st0 (arg2.view.read (Elt F) f2))).gs y)) :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
        ∗ (BI.bigSep (Finset.range 100) fun j => hbTok c hbM (9 + j) f4)
        ∗ (BI.bigSep (Finset.range 100) fun j => hbRow c gmM (gmR j) f5)
        ∗ (BI.bigSep (Finset.range 100) fun j => semVal ((c : Thread nD τ), dsem j) 0)
        ∗ owes (c : Thread nD τ) 0 W
        ∗ (iprop(cstRes c arg3 arg10 arg14 (cst0 (arg0.view.read (Elt F) f0) (arg1.view.read (Elt F) f1) (arg3.view.read (Elt F) f3))
        ∗ stRes c arg6 arg7 arg8 arg9 arg11 arg12 arg13 arg15 ((step (cst0 (arg0.view.read (Elt F) f0) (arg1.view.read (Elt F) f1) (arg3.view.read (Elt F) f3)))^[101] (st0 (arg2.view.read (Elt F) f2)))
        ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2)
        ∗ (BI.bigSep (Finset.range 100) fun j => hbTok c hbM (9 + j) f4)
        ∗ (BI.bigSep (Finset.range 100) fun j => semVal ((c : Thread nD τ), dsem j) 0)
        ∗ (∃ W', owes (c : Thread nD τ) 0 W')
        ∗ (∃ gs, ∃ h, ⌜gs = ((step (cst0 (arg0.view.read (Elt F) f0) (arg1.view.read (Elt F) f1) (arg3.view.read (Elt F) f3)))^[101] (st0 (arg2.view.read (Elt F) f2))).gs⌝ ∗ rowsRes c gs h f4 f5)) -∗ Q ()))
      ⊢ wp frame (wpE (defs₀ (F := F)) Variants.none (c : Thread nD τ) none) Set.univ
          (cc0__boxseg_kernel (F := F) arg0 harg0 arg1 harg1 arg2 harg2 arg3 harg3 hbM (Memref.isWhole_whole _) gmM hgmM arg6 harg6 arg7 harg7 arg8 harg8 arg9 harg9 arg10 harg10 arg11 harg11 arg12 harg12 arg13 harg13 arg14 harg14 arg15 harg15 cc0_scratch6) Q := by
  simp only [BI.bigSep_range_succ, Finset.range_zero, BI.bigSep_empty, Nat.reduceAdd, Nat.reduceMod, gmR, dsem, Fin.reduceFinMk]
  simp only [cc0__boxseg_kernel_eq_skeleton]; unfold cc0__boxseg_kernel_skel
  iintro ⟨H0, H1, H2, H3, H6, H7, H8, H9, H10, H11, H12, H13, H14, H15, ⟨Ht99, Ht98, Ht97, Ht96, Ht95, Ht94, Ht93, Ht92, Ht91, Ht90, Ht89, Ht88, Ht87, Ht86, Ht85, Ht84, Ht83, Ht82, Ht81, Ht80, Ht79, Ht78, Ht77, Ht76, Ht75, Ht74, Ht73, Ht72, Ht71, Ht70, Ht69, Ht68, Ht67, Ht66, Ht65, Ht64, Ht63, Ht62, Ht61, Ht60, Ht59, Ht58, Ht57, Ht56, Ht55, Ht54, Ht53, Ht52, Ht51, Ht50, Ht49, Ht48, Ht47, Ht46, Ht45, Ht44, Ht43, Ht42, Ht41, Ht40, Ht39, Ht38, Ht37, Ht36, Ht35, Ht34, Ht33, Ht32, Ht31, Ht30, Ht29, Ht28, Ht27, Ht26, Ht25, Ht24, Ht23, Ht22, Ht21, Ht20, Ht19, Ht18, Ht17, Ht16, Ht15, Ht14, Ht13, Ht12, Ht11, Ht10, Ht9, Ht8, Ht7, Ht6, Ht5, Ht4, Ht3, Ht2, Ht1, Ht0, He0⟩, ⟨Hr99, Hr98, Hr97, Hr96, Hr95, Hr94, Hr93, Hr92, Hr91, Hr90, Hr89, Hr88, Hr87, Hr86, Hr85, Hr84, Hr83, Hr82, Hr81, Hr80, Hr79, Hr78, Hr77, Hr76, Hr75, Hr74, Hr73, Hr72, Hr71, Hr70, Hr69, Hr68, Hr67, Hr66, Hr65, Hr64, Hr63, Hr62, Hr61, Hr60, Hr59, Hr58, Hr57, Hr56, Hr55, Hr54, Hr53, Hr52, Hr51, Hr50, Hr49, Hr48, Hr47, Hr46, Hr45, Hr44, Hr43, Hr42, Hr41, Hr40, Hr39, Hr38, Hr37, Hr36, Hr35, Hr34, Hr33, Hr32, Hr31, Hr30, Hr29, Hr28, Hr27, Hr26, Hr25, Hr24, Hr23, Hr22, Hr21, Hr20, Hr19, Hr18, Hr17, Hr16, Hr15, Hr14, Hr13, Hr12, Hr11, Hr10, Hr9, Hr8, Hr7, Hr6, Hr5, Hr4, Hr3, Hr2, Hr1, Hr0, He1⟩, ⟨Hq99, Hq98, Hq97, Hq96, Hq95, Hq94, Hq93, Hq92, Hq91, Hq90, Hq89, Hq88, Hq87, Hq86, Hq85, Hq84, Hq83, Hq82, Hq81, Hq80, Hq79, Hq78, Hq77, Hq76, Hq75, Hq74, Hq73, Hq72, Hq71, Hq70, Hq69, Hq68, Hq67, Hq66, Hq65, Hq64, Hq63, Hq62, Hq61, Hq60, Hq59, Hq58, Hq57, Hq56, Hq55, Hq54, Hq53, Hq52, Hq51, Hq50, Hq49, Hq48, Hq47, Hq46, Hq45, Hq44, Hq43, Hq42, Hq41, Hq40, Hq39, Hq38, Hq37, Hq36, Hq35, Hq34, Hq33, Hq32, Hq31, Hq30, Hq29, Hq28, Hq27, Hq26, Hq25, Hq24, Hq23, Hq22, Hq21, Hq20, Hq19, Hq18, Hq17, Hq16, Hq15, Hq14, Hq13, Hq12, Hq11, Hq10, Hq9, Hq8, Hq7, Hq6, Hq5, Hq4, Hq3, Hq2, Hq1, Hq0, He2⟩, HW, Hk⟩
  iclear He0; iclear He1; iclear He2
  sl_exec_parts
  iapply (loop_bind c (C := (cst0 (arg0.view.read (Elt F) f0) (arg1.view.read (Elt F) f1) (arg3.view.read (Elt F) f3))) (s := (st0 (arg2.view.read (Elt F) f2))) (hok := hok))
  isplitl [H3 H10 H14]
  · unfold cstRes
    isplitl [H3]
    · unfold owns; iexists _; isplitr; swap; · iexact H3
      ipureintro; rfl
    isplitl [H10]
    · unfold owns; iexists _; isplitr; swap; · iexact H10
      ipureintro
      exact read_iou arg10.view _ (pb := arg0.view.read (Elt F) f0) (gb := arg1.view.read (Elt F) f1) (by sl_kernel_rfl)
    · unfold owns; iexists _; isplitr; swap; · iexact H14
      ipureintro
      refine (read_wb arg14.view _ (iou := arg10.view.read (Elt F) (arg10.view.writes (Elt F) arg10.view.junk
        (iouPieces (arg0.view.read (Elt F) f0) (arg1.view.read (Elt F) f1)))) (by sl_kernel_rfl)).trans ?_
      rw [read_iou arg10.view _ rfl]; rfl
  isplitl [H6 H7 H8 H9 H11 H12 H13 H15]
  · unfold stRes
    isplitl [H6]
    · unfold owns; iexists _; isplitr; swap; · iexact H6
      ipureintro
      exact read_full arg6.view _ (inb := inb_S100x1_S100x1_0_0) (w := (st0 (arg2.view.read (Elt F) f2)).fl) (by sl_kernel_rfl)
    isplitl [H7]
    · unfold owns; iexists _; isplitr; swap; · iexact H7
      ipureintro
      exact read_full arg7.view _ (inb := inb_S100x1_S100x1_0_0) (w := (st0 (arg2.view.read (Elt F) f2)).os) (by sl_kernel_rfl)
    isplitl [H8]
    · unfold owns; iexists _; isplitr; swap; · iexact H8
      ipureintro
      exact read_full arg8.view _ (inb := inb_S1x20480_S1x20480_0_0) (w := (st0 (arg2.view.read (Elt F) f2)).dt) (by sl_kernel_rfl)
    isplitl [H9]
    · unfold owns; iexists _; isplitr; swap; · iexact H9
      ipureintro
      exact read_full arg9.view _ (inb := inb_S100x1_S100x1_0_0) (w := (st0 (arg2.view.read (Elt F) f2)).bi) (by sl_kernel_rfl)
    isplitl [H11]
    · unfold owns; iexists _; isplitr; swap; · iexact H11
      ipureintro
      exact read_full arg11.view _ (inb := inb_S1x20480_S1x20480_0_0) (w := (st0 (arg2.view.read (Elt F) f2)).ws) (by sl_kernel_rfl)
    isplitl [H12]
    · unfold owns; iexists _; isplitr; swap; · iexact H12
      ipureintro
      exact read_full arg12.view _ (inb := inb_S100x1_S100x1_0_0) (w := (st0 (arg2.view.read (Elt F) f2)).gt) (by sl_kernel_rfl)
    isplitl [H13]
    · unfold owns; iexists _; isplitr; swap; · iexact H13
      ipureintro
      exact read_ones arg13.view _ (g := fun _ => 4294967295#32) (by sl_kernel_rfl)
    · unfold owns; iexists _; isplitr; swap; · iexact H15
      ipureintro
      exact read_ones arg15.view _ (g := awW) (by sl_kernel_rfl)
  iintro ⟨HC, HS⟩
  unfold stRes owns
  icases HS with ⟨⟨%g6, %e6, H6⟩, ⟨%g7, %e7, H7⟩, ⟨%g8, %e8, H8⟩, ⟨%g9, %e9, H9⟩, ⟨%g11, %e11, H11⟩, ⟨%g12, %e12, H12⟩, ⟨%g13, %e13, H13⟩, ⟨%g15, %e15, H15⟩⟩
  have hg : ∀ y, k0_chk3 (arg13.view.read (Elt F) g13 y) := by rw [e13]; exact hrow
  have q : ∀ v, (∃ y, v = arg13.view.read (Elt F) g13 y) → k0_chk3 v := by rintro v ⟨y, rfl⟩; exact hg y
  sl_exec_parts (disch := first | exact q _ ⟨_, rfl⟩ | exact (q _ ⟨_, rfl⟩).1)
  sl_step
  iapply Hk
  isplitl [HC]; · iexact HC
  isplitl [H6 H7 H8 H9 H11 H12 H13 H15]
  · isplitl [H6]; · iexists g6; isplitr; · ipureintro; exact e6
                    iexact H6
    isplitl [H7]; · iexists g7; isplitr; · ipureintro; exact e7
                    iexact H7
    isplitl [H8]; · iexists g8; isplitr; · ipureintro; exact e8
                    iexact H8
    isplitl [H9]; · iexists g9; isplitr; · ipureintro; exact e9
                    iexact H9
    isplitl [H11]; · iexists g11; isplitr; · ipureintro; exact e11
                     iexact H11
    isplitl [H12]; · iexists g12; isplitr; · ipureintro; exact e12
                     iexact H12
    isplitl [H13]; · iexists g13; isplitr; · ipureintro; exact e13
                     iexact H13
    iexists g15; isplitr; · ipureintro; exact e15
    iexact H15
  isplitl [H0]; · iexact H0
  isplitl [H1]; · iexact H1
  isplitl [H2]; · iexact H2
  isplitl [Ht99 Ht98 Ht97 Ht96 Ht95 Ht94 Ht93 Ht92 Ht91 Ht90 Ht89 Ht88 Ht87 Ht86 Ht85 Ht84 Ht83 Ht82 Ht81 Ht80 Ht79 Ht78 Ht77 Ht76 Ht75 Ht74 Ht73 Ht72 Ht71 Ht70 Ht69 Ht68 Ht67 Ht66 Ht65 Ht64 Ht63 Ht62 Ht61 Ht60 Ht59 Ht58 Ht57 Ht56 Ht55 Ht54 Ht53 Ht52 Ht51 Ht50 Ht49 Ht48 Ht47 Ht46 Ht45 Ht44 Ht43 Ht42 Ht41 Ht40 Ht39 Ht38 Ht37 Ht36 Ht35 Ht34 Ht33 Ht32 Ht31 Ht30 Ht29 Ht28 Ht27 Ht26 Ht25 Ht24 Ht23 Ht22 Ht21 Ht20 Ht19 Ht18 Ht17 Ht16 Ht15 Ht14 Ht13 Ht12 Ht11 Ht10 Ht9 Ht8 Ht7 Ht6 Ht5 Ht4 Ht3 Ht2 Ht1 Ht0]
  · isplitl [Ht99]; · iexact Ht99
    isplitl [Ht98]; · iexact Ht98
    isplitl [Ht97]; · iexact Ht97
    isplitl [Ht96]; · iexact Ht96
    isplitl [Ht95]; · iexact Ht95
    isplitl [Ht94]; · iexact Ht94
    isplitl [Ht93]; · iexact Ht93
    isplitl [Ht92]; · iexact Ht92
    isplitl [Ht91]; · iexact Ht91
    isplitl [Ht90]; · iexact Ht90
    isplitl [Ht89]; · iexact Ht89
    isplitl [Ht88]; · iexact Ht88
    isplitl [Ht87]; · iexact Ht87
    isplitl [Ht86]; · iexact Ht86
    isplitl [Ht85]; · iexact Ht85
    isplitl [Ht84]; · iexact Ht84
    isplitl [Ht83]; · iexact Ht83
    isplitl [Ht82]; · iexact Ht82
    isplitl [Ht81]; · iexact Ht81
    isplitl [Ht80]; · iexact Ht80
    isplitl [Ht79]; · iexact Ht79
    isplitl [Ht78]; · iexact Ht78
    isplitl [Ht77]; · iexact Ht77
    isplitl [Ht76]; · iexact Ht76
    isplitl [Ht75]; · iexact Ht75
    isplitl [Ht74]; · iexact Ht74
    isplitl [Ht73]; · iexact Ht73
    isplitl [Ht72]; · iexact Ht72
    isplitl [Ht71]; · iexact Ht71
    isplitl [Ht70]; · iexact Ht70
    isplitl [Ht69]; · iexact Ht69
    isplitl [Ht68]; · iexact Ht68
    isplitl [Ht67]; · iexact Ht67
    isplitl [Ht66]; · iexact Ht66
    isplitl [Ht65]; · iexact Ht65
    isplitl [Ht64]; · iexact Ht64
    isplitl [Ht63]; · iexact Ht63
    isplitl [Ht62]; · iexact Ht62
    isplitl [Ht61]; · iexact Ht61
    isplitl [Ht60]; · iexact Ht60
    isplitl [Ht59]; · iexact Ht59
    isplitl [Ht58]; · iexact Ht58
    isplitl [Ht57]; · iexact Ht57
    isplitl [Ht56]; · iexact Ht56
    isplitl [Ht55]; · iexact Ht55
    isplitl [Ht54]; · iexact Ht54
    isplitl [Ht53]; · iexact Ht53
    isplitl [Ht52]; · iexact Ht52
    isplitl [Ht51]; · iexact Ht51
    isplitl [Ht50]; · iexact Ht50
    isplitl [Ht49]; · iexact Ht49
    isplitl [Ht48]; · iexact Ht48
    isplitl [Ht47]; · iexact Ht47
    isplitl [Ht46]; · iexact Ht46
    isplitl [Ht45]; · iexact Ht45
    isplitl [Ht44]; · iexact Ht44
    isplitl [Ht43]; · iexact Ht43
    isplitl [Ht42]; · iexact Ht42
    isplitl [Ht41]; · iexact Ht41
    isplitl [Ht40]; · iexact Ht40
    isplitl [Ht39]; · iexact Ht39
    isplitl [Ht38]; · iexact Ht38
    isplitl [Ht37]; · iexact Ht37
    isplitl [Ht36]; · iexact Ht36
    isplitl [Ht35]; · iexact Ht35
    isplitl [Ht34]; · iexact Ht34
    isplitl [Ht33]; · iexact Ht33
    isplitl [Ht32]; · iexact Ht32
    isplitl [Ht31]; · iexact Ht31
    isplitl [Ht30]; · iexact Ht30
    isplitl [Ht29]; · iexact Ht29
    isplitl [Ht28]; · iexact Ht28
    isplitl [Ht27]; · iexact Ht27
    isplitl [Ht26]; · iexact Ht26
    isplitl [Ht25]; · iexact Ht25
    isplitl [Ht24]; · iexact Ht24
    isplitl [Ht23]; · iexact Ht23
    isplitl [Ht22]; · iexact Ht22
    isplitl [Ht21]; · iexact Ht21
    isplitl [Ht20]; · iexact Ht20
    isplitl [Ht19]; · iexact Ht19
    isplitl [Ht18]; · iexact Ht18
    isplitl [Ht17]; · iexact Ht17
    isplitl [Ht16]; · iexact Ht16
    isplitl [Ht15]; · iexact Ht15
    isplitl [Ht14]; · iexact Ht14
    isplitl [Ht13]; · iexact Ht13
    isplitl [Ht12]; · iexact Ht12
    isplitl [Ht11]; · iexact Ht11
    isplitl [Ht10]; · iexact Ht10
    isplitl [Ht9]; · iexact Ht9
    isplitl [Ht8]; · iexact Ht8
    isplitl [Ht7]; · iexact Ht7
    isplitl [Ht6]; · iexact Ht6
    isplitl [Ht5]; · iexact Ht5
    isplitl [Ht4]; · iexact Ht4
    isplitl [Ht3]; · iexact Ht3
    isplitl [Ht2]; · iexact Ht2
    isplitl [Ht1]; · iexact Ht1
    isplitl [Ht0]; · iexact Ht0
    iempintro
  isplitl [Hq99 Hq98 Hq97 Hq96 Hq95 Hq94 Hq93 Hq92 Hq91 Hq90 Hq89 Hq88 Hq87 Hq86 Hq85 Hq84 Hq83 Hq82 Hq81 Hq80 Hq79 Hq78 Hq77 Hq76 Hq75 Hq74 Hq73 Hq72 Hq71 Hq70 Hq69 Hq68 Hq67 Hq66 Hq65 Hq64 Hq63 Hq62 Hq61 Hq60 Hq59 Hq58 Hq57 Hq56 Hq55 Hq54 Hq53 Hq52 Hq51 Hq50 Hq49 Hq48 Hq47 Hq46 Hq45 Hq44 Hq43 Hq42 Hq41 Hq40 Hq39 Hq38 Hq37 Hq36 Hq35 Hq34 Hq33 Hq32 Hq31 Hq30 Hq29 Hq28 Hq27 Hq26 Hq25 Hq24 Hq23 Hq22 Hq21 Hq20 Hq19 Hq18 Hq17 Hq16 Hq15 Hq14 Hq13 Hq12 Hq11 Hq10 Hq9 Hq8 Hq7 Hq6 Hq5 Hq4 Hq3 Hq2 Hq1 Hq0]
  · isplitl [Hq99]; · iexact Hq99
    isplitl [Hq98]; · iexact Hq98
    isplitl [Hq97]; · iexact Hq97
    isplitl [Hq96]; · iexact Hq96
    isplitl [Hq95]; · iexact Hq95
    isplitl [Hq94]; · iexact Hq94
    isplitl [Hq93]; · iexact Hq93
    isplitl [Hq92]; · iexact Hq92
    isplitl [Hq91]; · iexact Hq91
    isplitl [Hq90]; · iexact Hq90
    isplitl [Hq89]; · iexact Hq89
    isplitl [Hq88]; · iexact Hq88
    isplitl [Hq87]; · iexact Hq87
    isplitl [Hq86]; · iexact Hq86
    isplitl [Hq85]; · iexact Hq85
    isplitl [Hq84]; · iexact Hq84
    isplitl [Hq83]; · iexact Hq83
    isplitl [Hq82]; · iexact Hq82
    isplitl [Hq81]; · iexact Hq81
    isplitl [Hq80]; · iexact Hq80
    isplitl [Hq79]; · iexact Hq79
    isplitl [Hq78]; · iexact Hq78
    isplitl [Hq77]; · iexact Hq77
    isplitl [Hq76]; · iexact Hq76
    isplitl [Hq75]; · iexact Hq75
    isplitl [Hq74]; · iexact Hq74
    isplitl [Hq73]; · iexact Hq73
    isplitl [Hq72]; · iexact Hq72
    isplitl [Hq71]; · iexact Hq71
    isplitl [Hq70]; · iexact Hq70
    isplitl [Hq69]; · iexact Hq69
    isplitl [Hq68]; · iexact Hq68
    isplitl [Hq67]; · iexact Hq67
    isplitl [Hq66]; · iexact Hq66
    isplitl [Hq65]; · iexact Hq65
    isplitl [Hq64]; · iexact Hq64
    isplitl [Hq63]; · iexact Hq63
    isplitl [Hq62]; · iexact Hq62
    isplitl [Hq61]; · iexact Hq61
    isplitl [Hq60]; · iexact Hq60
    isplitl [Hq59]; · iexact Hq59
    isplitl [Hq58]; · iexact Hq58
    isplitl [Hq57]; · iexact Hq57
    isplitl [Hq56]; · iexact Hq56
    isplitl [Hq55]; · iexact Hq55
    isplitl [Hq54]; · iexact Hq54
    isplitl [Hq53]; · iexact Hq53
    isplitl [Hq52]; · iexact Hq52
    isplitl [Hq51]; · iexact Hq51
    isplitl [Hq50]; · iexact Hq50
    isplitl [Hq49]; · iexact Hq49
    isplitl [Hq48]; · iexact Hq48
    isplitl [Hq47]; · iexact Hq47
    isplitl [Hq46]; · iexact Hq46
    isplitl [Hq45]; · iexact Hq45
    isplitl [Hq44]; · iexact Hq44
    isplitl [Hq43]; · iexact Hq43
    isplitl [Hq42]; · iexact Hq42
    isplitl [Hq41]; · iexact Hq41
    isplitl [Hq40]; · iexact Hq40
    isplitl [Hq39]; · iexact Hq39
    isplitl [Hq38]; · iexact Hq38
    isplitl [Hq37]; · iexact Hq37
    isplitl [Hq36]; · iexact Hq36
    isplitl [Hq35]; · iexact Hq35
    isplitl [Hq34]; · iexact Hq34
    isplitl [Hq33]; · iexact Hq33
    isplitl [Hq32]; · iexact Hq32
    isplitl [Hq31]; · iexact Hq31
    isplitl [Hq30]; · iexact Hq30
    isplitl [Hq29]; · iexact Hq29
    isplitl [Hq28]; · iexact Hq28
    isplitl [Hq27]; · iexact Hq27
    isplitl [Hq26]; · iexact Hq26
    isplitl [Hq25]; · iexact Hq25
    isplitl [Hq24]; · iexact Hq24
    isplitl [Hq23]; · iexact Hq23
    isplitl [Hq22]; · iexact Hq22
    isplitl [Hq21]; · iexact Hq21
    isplitl [Hq20]; · iexact Hq20
    isplitl [Hq19]; · iexact Hq19
    isplitl [Hq18]; · iexact Hq18
    isplitl [Hq17]; · iexact Hq17
    isplitl [Hq16]; · iexact Hq16
    isplitl [Hq15]; · iexact Hq15
    isplitl [Hq14]; · iexact Hq14
    isplitl [Hq13]; · iexact Hq13
    isplitl [Hq12]; · iexact Hq12
    isplitl [Hq11]; · iexact Hq11
    isplitl [Hq10]; · iexact Hq10
    isplitl [Hq9]; · iexact Hq9
    isplitl [Hq8]; · iexact Hq8
    isplitl [Hq7]; · iexact Hq7
    isplitl [Hq6]; · iexact Hq6
    isplitl [Hq5]; · iexact Hq5
    isplitl [Hq4]; · iexact Hq4
    isplitl [Hq3]; · iexact Hq3
    isplitl [Hq2]; · iexact Hq2
    isplitl [Hq1]; · iexact Hq1
    isplitl [Hq0]; · iexact Hq0
    iempintro
  isplitl [HW]; · iexists _; iexact HW
  iexists arg13.view.read (Elt F) g13; iexists hg
  isplitr; · ipureintro; exact e13
  unfold rowsRes
  simp only [BI.bigSep_range_succ, Finset.range_zero, BI.bigSep_empty, Nat.reduceAdd, Nat.reduceMod, gmR]
  isplitl [Hr99]; · iexact Hr99
  isplitl [Hr98]; · iexact Hr98
  isplitl [Hr97]; · iexact Hr97
  isplitl [Hr96]; · iexact Hr96
  isplitl [Hr95]; · iexact Hr95
  isplitl [Hr94]; · iexact Hr94
  isplitl [Hr93]; · iexact Hr93
  isplitl [Hr92]; · iexact Hr92
  isplitl [Hr91]; · iexact Hr91
  isplitl [Hr90]; · iexact Hr90
  isplitl [Hr89]; · iexact Hr89
  isplitl [Hr88]; · iexact Hr88
  isplitl [Hr87]; · iexact Hr87
  isplitl [Hr86]; · iexact Hr86
  isplitl [Hr85]; · iexact Hr85
  isplitl [Hr84]; · iexact Hr84
  isplitl [Hr83]; · iexact Hr83
  isplitl [Hr82]; · iexact Hr82
  isplitl [Hr81]; · iexact Hr81
  isplitl [Hr80]; · iexact Hr80
  isplitl [Hr79]; · iexact Hr79
  isplitl [Hr78]; · iexact Hr78
  isplitl [Hr77]; · iexact Hr77
  isplitl [Hr76]; · iexact Hr76
  isplitl [Hr75]; · iexact Hr75
  isplitl [Hr74]; · iexact Hr74
  isplitl [Hr73]; · iexact Hr73
  isplitl [Hr72]; · iexact Hr72
  isplitl [Hr71]; · iexact Hr71
  isplitl [Hr70]; · iexact Hr70
  isplitl [Hr69]; · iexact Hr69
  isplitl [Hr68]; · iexact Hr68
  isplitl [Hr67]; · iexact Hr67
  isplitl [Hr66]; · iexact Hr66
  isplitl [Hr65]; · iexact Hr65
  isplitl [Hr64]; · iexact Hr64
  isplitl [Hr63]; · iexact Hr63
  isplitl [Hr62]; · iexact Hr62
  isplitl [Hr61]; · iexact Hr61
  isplitl [Hr60]; · iexact Hr60
  isplitl [Hr59]; · iexact Hr59
  isplitl [Hr58]; · iexact Hr58
  isplitl [Hr57]; · iexact Hr57
  isplitl [Hr56]; · iexact Hr56
  isplitl [Hr55]; · iexact Hr55
  isplitl [Hr54]; · iexact Hr54
  isplitl [Hr53]; · iexact Hr53
  isplitl [Hr52]; · iexact Hr52
  isplitl [Hr51]; · iexact Hr51
  isplitl [Hr50]; · iexact Hr50
  isplitl [Hr49]; · iexact Hr49
  isplitl [Hr48]; · iexact Hr48
  isplitl [Hr47]; · iexact Hr47
  isplitl [Hr46]; · iexact Hr46
  isplitl [Hr45]; · iexact Hr45
  isplitl [Hr44]; · iexact Hr44
  isplitl [Hr43]; · iexact Hr43
  isplitl [Hr42]; · iexact Hr42
  isplitl [Hr41]; · iexact Hr41
  isplitl [Hr40]; · iexact Hr40
  isplitl [Hr39]; · iexact Hr39
  isplitl [Hr38]; · iexact Hr38
  isplitl [Hr37]; · iexact Hr37
  isplitl [Hr36]; · iexact Hr36
  isplitl [Hr35]; · iexact Hr35
  isplitl [Hr34]; · iexact Hr34
  isplitl [Hr33]; · iexact Hr33
  isplitl [Hr32]; · iexact Hr32
  isplitl [Hr31]; · iexact Hr31
  isplitl [Hr30]; · iexact Hr30
  isplitl [Hr29]; · iexact Hr29
  isplitl [Hr28]; · iexact Hr28
  isplitl [Hr27]; · iexact Hr27
  isplitl [Hr26]; · iexact Hr26
  isplitl [Hr25]; · iexact Hr25
  isplitl [Hr24]; · iexact Hr24
  isplitl [Hr23]; · iexact Hr23
  isplitl [Hr22]; · iexact Hr22
  isplitl [Hr21]; · iexact Hr21
  isplitl [Hr20]; · iexact Hr20
  isplitl [Hr19]; · iexact Hr19
  isplitl [Hr18]; · iexact Hr18
  isplitl [Hr17]; · iexact Hr17
  isplitl [Hr16]; · iexact Hr16
  isplitl [Hr15]; · iexact Hr15
  isplitl [Hr14]; · iexact Hr14
  isplitl [Hr13]; · iexact Hr13
  isplitl [Hr12]; · iexact Hr12
  isplitl [Hr11]; · iexact Hr11
  isplitl [Hr10]; · iexact Hr10
  isplitl [Hr9]; · iexact Hr9
  isplitl [Hr8]; · iexact Hr8
  isplitl [Hr7]; · iexact Hr7
  isplitl [Hr6]; · iexact Hr6
  isplitl [Hr5]; · iexact Hr5
  isplitl [Hr4]; · iexact Hr4
  isplitl [Hr3]; · iexact Hr3
  isplitl [Hr2]; · iexact Hr2
  isplitl [Hr1]; · iexact Hr1
  isplitl [Hr0]; · iexact Hr0
  iempintro

end Cert.KernelIdeal.Hand

end
-- ==== Proof.Launch.lean ====
/-
  The whole program's run: the host's operations around the kernel's one region, the kernel at its one grid point, and what
  every result array ends with.
-/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem owns_elim {c : Thread nD τ} {sp : Space} {S : Shape} {e : EltTy} {M : Memref sig c.2.kind sp S e} {q : PosShare TreeShare} {v : Vec F S e} :
    (owns c M q v : sProp 𝕄) ⊢ iprop(∃ f, ⌜M.view.read (Elt F) f = v⌝ ∗ (M.view.loc c ↦[M.view.set]{q} f)) := .rfl

/-- The kernel at its grid point, its windows and scratch buffers given by what they read as. -/
theorem body_owns (c : Dev nD) (arg0 : Memref sig .tc .vmem S4x20480 .f32) (harg0 : arg0.IsWhole) (arg1 : Memref sig .tc .vmem S100x4 .f32) (harg1 : arg1.IsWhole) (arg2 : Memref sig .tc .vmem S1x20480 .f32) (harg2 : arg2.IsWhole) (arg3 : Memref sig .tc .vmem S1x20480 .f32) (harg3 : arg3.IsWhole) (arg6 : Memref sig .tc .vmem S100x1 .f32) (harg6 : arg6.IsWhole) (arg7 : Memref sig .tc .vmem S100x1 .f32) (harg7 : arg7.IsWhole) (arg8 : Memref sig .tc .vmem S1x20480 .i32) (harg8 : arg8.IsWhole) (arg9 : Memref sig .tc .vmem S100x1 .f32) (harg9 : arg9.IsWhole) (arg10 : Memref sig .tc .vmem S100x20480 .f32) (harg10 : arg10.IsWhole) (arg11 : Memref sig .tc .vmem S1x20480 .f32) (harg11 : arg11.IsWhole) (arg12 : Memref sig .tc .vmem S100x1 .i32) (harg12 : arg12.IsWhole) (arg13 : Memref sig .tc .smem S1x100 .i32) (harg13 : arg13.IsWhole) (arg14 : Memref sig .tc .vmem S4x20480 .i32) (harg14 : arg14.IsWhole) (arg15 : Memref sig .tc .smem S1x4 .i32) (harg15 : arg15.IsWhole)
    (pb : Vec F S4x20480 .f32) (gb : Vec F S100x4 .f32) (ps ms : Vec F S1x20480 .f32) (f4 : Buf (Elt F) (hbM.view.loc (c : Thread nD τ))) (W : _) (Q : Unit → sProp 𝕄)
    (hok : ∀ k < 101, Ev.Ok (cst0 pb gb ms) ((step (cst0 pb gb ms))^[k] (st0 ps))) (hrow : ∀ y, k0_chk3 (((step (cst0 pb gb ms))^[101] (st0 ps)).gs y)) :
    iprop(owns (c : Thread nD τ) arg0 fullShare pb ∗ owns (c : Thread nD τ) arg1 fullShare gb ∗ owns (c : Thread nD τ) arg2 fullShare ps ∗ owns (c : Thread nD τ) arg3 fullShare ms ∗ (∃ d, owns (c : Thread nD τ) gmM fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (BI.bigSep (Finset.range 100) fun j => semVal ((c : Thread nD τ), dsem j) 0) ∗ (hbM.view.loc (c : Thread nD τ) ↦{fullShare} f4) ∗ owes (c : Thread nD τ) 0 W ∗ (iprop(owns (c : Thread nD τ) arg0 fullShare pb ∗ owns (c : Thread nD τ) arg1 fullShare gb ∗ owns (c : Thread nD τ) arg2 fullShare ps ∗ owns (c : Thread nD τ) arg3 fullShare ms ∗ owns (c : Thread nD τ) gmM fullShare (gmV ((step (cst0 pb gb ms))^[101] (st0 ps)).gs hrow c f4) ∗ owns (c : Thread nD τ) arg6 fullShare ((step (cst0 pb gb ms))^[101] (st0 ps)).fl ∗ owns (c : Thread nD τ) arg7 fullShare ((step (cst0 pb gb ms))^[101] (st0 ps)).os ∗ owns (c : Thread nD τ) arg8 fullShare ((step (cst0 pb gb ms))^[101] (st0 ps)).dt ∗ owns (c : Thread nD τ) arg9 fullShare ((step (cst0 pb gb ms))^[101] (st0 ps)).bi ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (BI.bigSep (Finset.range 100) fun j => semVal ((c : Thread nD τ), dsem j) 0) ∗ (hbM.view.loc (c : Thread nD τ) ↦{fullShare} f4) ∗ (∃ W', owes (c : Thread nD τ) 0 W')) -∗ Q ()))
      ⊢ wp frame (wpE (defs₀ (F := F)) Variants.none (c : Thread nD τ) none) Set.univ
          (cc0__boxseg_kernel (F := F) arg0 harg0 arg1 harg1 arg2 harg2 arg3 harg3 hbM (Memref.isWhole_whole _) gmM hgmM arg6 harg6 arg7 harg7 arg8 harg8 arg9 harg9 arg10 harg10 arg11 harg11 arg12 harg12 arg13 harg13 arg14 harg14 arg15 harg15 cc0_scratch6)
          Q := by
  iintro ⟨H0, H1, H2, H3, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, Hq, Hb, HW, Hk⟩
  ihave H0 := owns_elim $$ H0
  icases H0 with ⟨%f0, %hf0, H0⟩
  ihave H1 := owns_elim $$ H1
  icases H1 with ⟨%f1, %hf1, H1⟩
  ihave H2 := owns_elim $$ H2
  icases H2 with ⟨%f2, %hf2, H2⟩
  ihave H3 := owns_elim $$ H3
  icases H3 with ⟨%f3, %hf3, H3⟩
  ihave H5 := owns_elim $$ H5
  icases H5 with ⟨%f5, -, H5⟩
  ihave H6 := owns_elim $$ H6
  icases H6 with ⟨%f6, -, H6⟩
  ihave H7 := owns_elim $$ H7
  icases H7 with ⟨%f7, -, H7⟩
  ihave H8 := owns_elim $$ H8
  icases H8 with ⟨%f8, -, H8⟩
  ihave H9 := owns_elim $$ H9
  icases H9 with ⟨%f9, -, H9⟩
  ihave H10 := owns_elim $$ H10
  icases H10 with ⟨%f10, -, H10⟩
  ihave H11 := owns_elim $$ H11
  icases H11 with ⟨%f11, -, H11⟩
  ihave H12 := owns_elim $$ H12
  icases H12 with ⟨%f12, -, H12⟩
  ihave H13 := owns_elim $$ H13
  icases H13 with ⟨%f13, -, H13⟩
  ihave H14 := owns_elim $$ H14
  icases H14 with ⟨%f14, -, H14⟩
  ihave H15 := owns_elim $$ H15
  icases H15 with ⟨%f15, -, H15⟩
  subst hf0; subst hf1; subst hf2; subst hf3
  ihave Hb := (hb_toks c f4).1 $$ Hb
  icases Hb with ⟨Ht, Hb⟩
  ihave H5 := (gm_split c gmM f5) $$ H5
  iapply (body c arg0 harg0 arg1 harg1 arg2 harg2 arg3 harg3 arg6 harg6 arg7 harg7 arg8 harg8 arg9 harg9 arg10 harg10 arg11 harg11 arg12 harg12 arg13 harg13 arg14 harg14 arg15 harg15 f0 f1 f2 f3 f6 f7 f8 f9 f10 f11 f12 f13 f14 f15 f4 f5 W _ hok hrow)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Ht]; · iexact Ht
  isplitl [H5]; · iexact H5
  isplitl [Hq]; · iexact Hq
  isplitl [HW]; · iexact HW
  unfold cstRes stRes
  iintro ⟨⟨H3, H10, H14⟩, ⟨H6, H7, H8, H9, H11, H12, H13, H15⟩, H0, H1, H2, Ht, Hq, HW, ⟨%gs, %h, %e, H5⟩⟩
  subst e
  iapply Hk
  ihave H5 := (rows_join c _ h f4 f5) $$ H5
  ihave Hb := (hb_toks c f4).2 $$ [Ht Hb]
  · isplitl [Ht]; · iexact Ht
    iexact Hb
  isplitl [H0]
  · unfold owns; iexists _; isplitr; swap; · iexact H0
    ipureintro; rfl
  isplitl [H1]
  · unfold owns; iexists _; isplitr; swap; · iexact H1
    ipureintro; rfl
  isplitl [H2]
  · unfold owns; iexists _; isplitr; swap; · iexact H2
    ipureintro; rfl
  isplitl [H3]; · iexact H3
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [Hq]; · iexact Hq
  isplitl [Hb]; · iexact Hb
  iexact HW

variable (m : (ℓ : Loc nD τ sig) → Buf (Elt F) ℓ) (ρ : Dev nD → PrngReg)

/-! ## What the body finds and leaves -/

/-- The buffers no event changes, on core `c`. -/
def Cm (c : Dev nD) (t : Fin cfg0.N) : Cst F := cst0 (iblk m c 0 t) (iblk m c 1 t) (iblk m c 3 t)
/-- The others before the events. -/
def Sm (c : Dev nD) (t : Fin cfg0.N) : St F := st0 (iblk m c 2 t)
/-- The others after `k` events. -/
def Sk (c : Dev nD) (t : Fin cfg0.N) (k : ℕ) : St F := (step (Cm m c t))^[k] (Sm m c t)

/-- The words the events and the copies read name places inside the buffers. -/
structure Runs : Prop where
  ok : ∀ c t, ∀ k < 101, Ev.Ok (Cm m c t) (Sk m c t k)
  row : ∀ c t y, k0_chk3 ((Sk m c t 101).gs y)

/-- The operand the copies read. -/
def H0 : Finset (Ref sig .tc) := {main_call0_v0}
theorem H0_sub : H0 ⊆ Pipeline.restRefs sig spec0 := by decide

theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch4) fullShare d)
          ∗ (∃ d, owns (c : Thread nD τ) (Memref.whole cc0_scratch3) fullShare d) ∗ (∃ d, owns (c : Thread nD τ) (Memref.whole cc0_scratch5) fullShare d))
        ∗ (∃ r, prngReg c r)
        ∗ (BI.bigSep (Finset.range 100) fun j => semVal ((c : Thread nD τ), dsem j) 0)
        ∗ (hbM.view.loc (c : Thread nD τ) ↦{fullShare} V m c main_call0_v0)) := by
  simp only [owns_whole]
  rw [Pipeline.ΦD_eq, scopedRest0_eq, ownSems00_eq, BI.bigSep_eq_bigSepL_of_eq [main_call0_v0] (by decide) (by decide)]
  rfl

variable (hR : Runs m)

/-- The proof data of the pipeline on core `c`: the arrays as the region finds them, every input block left in place, every
    result's buffer at what the events and the row copies leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gmV (Sk m c t 101).gs (hR.row c t) c (V m c main_call0_v0)
    | ⟨5, _⟩ => (Sk m c t 101).fl
    | ⟨6, _⟩ => (Sk m c t 101).os
    | ⟨7, _⟩ => (Sk m c t 101).dt
    | ⟨8, _⟩ => (Sk m c t 101).bi
  Φ _ := Pipeline.ΦD osem0 spec0 H0 (V m) c
  q _ := fullShare
  owed _ := 0

theorem A_eq (c : Dev nD) (w : Fin cfg0.W) : (dats m hR 0 c).A w = V m c (Pipeline.arrRef spec0 w) := by dsimp only [dats]
theorem after0_0 (c : Dev nD) (t : Fin cfg0.N) : (dats m hR 0 c).after 0 t = iblk m c 0 t := by dsimp only [dats]
theorem after0_1 (c : Dev nD) (t : Fin cfg0.N) : (dats m hR 0 c).after 1 t = iblk m c 1 t := by dsimp only [dats]
theorem after0_2 (c : Dev nD) (t : Fin cfg0.N) : (dats m hR 0 c).after 2 t = iblk m c 2 t := by dsimp only [dats]
theorem after0_3 (c : Dev nD) (t : Fin cfg0.N) : (dats m hR 0 c).after 3 t = iblk m c 3 t := by dsimp only [dats]
theorem after0_4 (c : Dev nD) (t : Fin cfg0.N) : (dats m hR 0 c).after 4 t = gmV (Sk m c t 101).gs (hR.row c t) c (V m c main_call0_v0) := by dsimp only [dats]
theorem after0_5 (c : Dev nD) (t : Fin cfg0.N) : (dats m hR 0 c).after 5 t = (Sk m c t 101).fl := by dsimp only [dats]
theorem after0_6 (c : Dev nD) (t : Fin cfg0.N) : (dats m hR 0 c).after 6 t = (Sk m c t 101).os := by dsimp only [dats]
theorem after0_7 (c : Dev nD) (t : Fin cfg0.N) : (dats m hR 0 c).after 7 t = (Sk m c t 101).dt := by dsimp only [dats]
theorem after0_8 (c : Dev nD) (t : Fin cfg0.N) : (dats m hR 0 c).after 8 t = (Sk m c t 101).bi := by dsimp only [dats]

/-- An input window's buffer holds its block when the body starts. -/
theorem before0_0 (c : Dev nD) (t : Fin cfg0.N) (d) : (dats m hR 0 c).before 0 t d = iblk m c 0 t :=
  ((dats m hR 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hR 0 c).before 1 t d = iblk m c 1 t :=
  ((dats m hR 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hR 0 c).before 2 t d = iblk m c 2 t :=
  ((dats m hR 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hR 0 c).before 3 t d = iblk m c 3 t :=
  ((dats m hR 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hR 0 c).Φ t.castSucc ∗ (dats m hR 0 c).owesAt () t.castSucc
    ∗ (∃ d, owns (c : Thread nD τ) (st0_0 t) fullShare ((dats m hR 0 c).before 0 t d))
    ∗ (∃ d, owns (c : Thread nD τ) (st0_1 t) fullShare ((dats m hR 0 c).before 1 t d))
    ∗ (∃ d, owns (c : Thread nD τ) (st0_2 t) fullShare ((dats m hR 0 c).before 2 t d))
    ∗ (∃ d, owns (c : Thread nD τ) (st0_3 t) fullShare ((dats m hR 0 c).before 3 t d))
    ∗ (∃ d, owns (c : Thread nD τ) (st0_4 t) fullShare ((dats m hR 0 c).before 4 t d))
    ∗ (∃ d, owns (c : Thread nD τ) (st0_5 t) fullShare ((dats m hR 0 c).before 5 t d))
    ∗ (∃ d, owns (c : Thread nD τ) (st0_6 t) fullShare ((dats m hR 0 c).before 6 t d))
    ∗ (∃ d, owns (c : Thread nD τ) (st0_7 t) fullShare ((dats m hR 0 c).before 7 t d))
    ∗ (∃ d, owns (c : Thread nD τ) (st0_8 t) fullShare ((dats m hR 0 c).before 8 t d)))
def bodyPost (c : Dev nD) (t : Fin cfg0.N) : sProp 𝕄 :=
  iprop((dats m hR 0 c).Φ t.succ ∗ (dats m hR 0 c).owesAt () t.succ
    ∗ owns (c : Thread nD τ) (st0_0 t) fullShare ((dats m hR 0 c).after 0 t)
    ∗ owns (c : Thread nD τ) (st0_1 t) fullShare ((dats m hR 0 c).after 1 t)
    ∗ owns (c : Thread nD τ) (st0_2 t) fullShare ((dats m hR 0 c).after 2 t)
    ∗ owns (c : Thread nD τ) (st0_3 t) fullShare ((dats m hR 0 c).after 3 t)
    ∗ owns (c : Thread nD τ) (st0_4 t) fullShare ((dats m hR 0 c).after 4 t)
    ∗ owns (c : Thread nD τ) (st0_5 t) fullShare ((dats m hR 0 c).after 5 t)
    ∗ owns (c : Thread nD τ) (st0_6 t) fullShare ((dats m hR 0 c).after 6 t)
    ∗ owns (c : Thread nD τ) (st0_7 t) fullShare ((dats m hR 0 c).after 7 t)
    ∗ owns (c : Thread nD τ) (st0_8 t) fullShare ((dats m hR 0 c).after 8 t))

theorem sound_body (c : Dev nD) (t : Fin cfg0.N) :
    bodyPre m hR c t ⊢ wp frame (wpE (defs₀ (F := F)) Variants.none c none) Set.univ (bodyAt0 t) (fun _ => bodyPost m hR c t) := by
  unfold bodyPre bodyPost bodyAt0
  rw [show (dats m hR 0 c).Φ t.succ = (dats m hR 0 c).Φ t.castSucc from rfl]
  rw [show (dats m hR 0 c).Φ t.castSucc = Pipeline.ΦD osem0 spec0 H0 (V m) c from rfl, PhiD0_eq]
  unfold Dat.owesAt Pipeline.owesWithin
  rw [show (dats m hR 0 c).owed t.castSucc = 0 from rfl, show (dats m hR 0 c).owed t.succ = 0 from rfl]
  simp only [before0_0, before0_1, before0_2, before0_3]
  rw [after0_0, after0_1, after0_2, after0_3, after0_4, after0_5, after0_6, after0_7, after0_8]
  iintro ⟨⟨⟨HS0, HS1, HS2, HS4, HS3, HS5⟩, Hg, Hq, Hb⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (body_owns c (st0_0 t) (hstage0_0 0) (st0_1 t) (hstage0_1 0) (st0_2 t) (hstage0_2 0) (st0_3 t) (hstage0_3 0) (st0_5 t) (hstage0_5 0) (st0_6 t) (hstage0_6 0)
    (st0_7 t) (hstage0_7 0) (st0_8 t) (hstage0_8 0) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (iblk m c 0 t) (iblk m c 1 t) (iblk m c 2 t) (iblk m c 3 t) (V m c main_call0_v0) W _ (hR.ok c t) (hR.row c t))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hq]; · iexact Hq
  isplitl [Hb]; · iexact Hb
  isplitl [HW]; · iexact HW
  iintro ⟨H0, H1, H2, H3, H4, H5, H6, H7, H8, HS0, HS1, HS2, HS3, HS4, HS5, Hq, Hb, ⟨%W', HW'⟩⟩
  isplitl [HS0 HS1 HS2 HS3 HS4 HS5 Hg Hq Hb]
  · isplitl [HS0 HS1 HS2 HS3 HS4 HS5]
    · isplitl [HS0]; · iexact HS0
      isplitl [HS1]; · iexact HS1
      isplitl [HS2]; · iexact HS2
      isplitl [HS4]; · iexact HS4
      isplitl [HS3]; · iexact HS3
      iexact HS5
    isplitl [Hg]; · iexact Hg
    isplitl [Hq]; · iexact Hq
    iexact Hb
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m hR 0 c) (defs₀ (F := F)) Variants.none () Set.univ := fun t => by
  rw [bigSep_W0, bigSep_W0, defs₀_row]
  exact triple_restated (sound_body m hR c t) rfl .rfl fun _ => .rfl

/-! ## The run -/

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  obtain rfl : b = main_call0_v0 := Finset.mem_singleton.1 hb
  simp only [hostOps1, List.mem_cons, List.mem_nil_iff, or_false] at hop
  rcases hop with rfl | rfl | rfl | rfl | rfl | rfl
  all_goals
    simp only [StableHlo.unary_bufs, StableHlo.reshape_bufs, Finset.mem_insert, Finset.mem_singleton, not_or]
    exact ⟨StableHlo.devRef_ne_of_ne (by decide), StableHlo.devRef_ne_of_ne (by decide)⟩

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ)
    (fun r => Pipeline.FramePost cfgs (dats m hR) 0 (Pipeline.afterTail₀ cfgs (dats m hR) 0 (V0 m) [hostOps1]) r ∧ r.2.sem = fun _ => 0) :=
  Pipeline.θ_run_frame_dma_around (Q' := _) cfgs (dats m hR) (0 : Fin 1) launch0 osem0 defs₀ Variants.none ownSemFacts0 H0 H0_sub m ρ main
    (hbody := fun c => (body_obligation m hR c).loose) (hshare := fun c => (dats m hR 0 c).share_full fun _ => rfl)
    (howed := fun _ _ => rfl) (V₀ := V0 m) (opss := [hostOps1]) (hsub := sfx_but) (hfresh := sfx_fresh) (hkeep := sfx_keeps)
    (hmain := hmainD m Variants.none) (hA := A_eq m hR) (hin := fun _ => .rfl) (hout := fun _ => .rfl)

end Cert.KernelIdeal.Hand

end
-- ==== Proof.Chosen.lean ====
/-
  What the kernel's selection keeps through its events: a remaining score over the threshold is a prediction's own, and a
  box is either free, with nothing written for it, or has a prediction, whose score and mask score are what is written.
-/
module

public import proofs.«01_k».proof.Proof.Greedy

@[expose] public section

noncomputable section

namespace Cert.Greedy

variable {half thr : EReal} {iou : Fin 100 → Fin 20480 → EReal} {ms : Fin 20480 → EReal} (sc : Fin 20480 → EReal)

/-- What holds of the kernel's selection between events. -/
structure Chosen (thr : EReal) (ms sc : Fin 20480 → EReal) (k : Ker) : Prop where
  over : ∀ y, thr ≤ k.W y → y.val < 20000 ∧ k.W y = sc y
  box : ∀ j, (k.m.g j = 4294967295#32 ∧ k.fl j = 0 ∧ k.os j = 0)
    ∨ ∃ y : Fin 20480, y.val < 20000 ∧ k.m.g j = BitVec.ofNat 32 y.val ∧ k.fl j = ms y ∧ k.os j = sc y

variable {sc}

theorem Chosen.event (hthr : -1 < thr) {k k' : Ker} (h : Chosen thr ms sc k) (he : Event half thr iou ms k k') : Chosen thr ms sc k' := by
  rcases he with ⟨-, rfl⟩ | ⟨y, m, hy, -, rfl⟩
  · exact h
  · refine ⟨fun z hz => ?_, fun j => ?_⟩
    · change thr ≤ Function.update k.W y (-1) z at hz
      show _ ∧ Function.update k.W y (-1) z = _
      by_cases e : z = y
      · subst e; rw [Function.update_self] at hz; exact absurd hthr (not_lt.2 hz)
      · rw [Function.update_of_ne e] at hz ⊢; exact h.over z hz
    · show (Function.update k.m.g m (BitVec.ofNat 32 y) j = _ ∧ Function.update k.fl m (ms y) j = _ ∧ Function.update k.os m (k.W y) j = _)
        ∨ ∃ z : Fin 20480, _ ∧ Function.update k.m.g m (BitVec.ofNat 32 y) j = _ ∧ Function.update k.fl m (ms y) j = _ ∧ Function.update k.os m (k.W y) j = _
      by_cases e : j = m
      · subst e
        simp only [Function.update_self]
        exact .inr ⟨y, (h.over y hy.2.1).1, rfl, rfl, (h.over y hy.2.1).2⟩
      · simp only [Function.update_of_ne e]; exact h.box j

theorem Chosen.events (hthr : -1 < thr) {K : ℕ → Ker} (h0 : Chosen thr ms sc (K 0)) (hK : ∀ n, Event half thr iou ms (K n) (K (n + 1))) (n : ℕ) :
    Chosen thr ms sc (K n) := by
  induction n with
  | zero => exact h0
  | succ n ih => exact ih.event hthr (hK n)

end Cert.Greedy

end
-- ==== Proof.Ends.lean ====
/-
  What the host's operations give the kernel, at the ideal values, and that the kernel's transfers and accesses stay
  inside their buffers.
-/
module

public import proofs.«01_k».proof.Proof.Init
public import proofs.«01_k».proof.Proof.Launch
public import proofs.«01_k».proof.Proof.Chosen
public import Idealize.ShloMosaic.Lib.StableHlo.RunRead
public import Idealize.ShloMosaic.Lib.KernelVsHost

@[expose] public section

set_option maxRecDepth 16384

noncomputable section

namespace Cert.KernelIdeal.Hand

open Cert.KernelIdeal.Gen
open Idealize.ShloMosaic Idealize.ShloMosaic.TcCoe
open Idealize.ShloMosaic.Pipeline (Dat)
open Cert.Greedy

/-! ## The operands -/

section Operands

variable {F : FTy → Type} [FloatOps F]
variable (m : (ℓ : Loc nD τ sig) → Buf (Elt F) ℓ)

/-- The predicted boxes, padded and transposed. -/
theorem V_boxes (c : Dev nD) : V m c main_call0_v2
    = transpose S4x20480 [1, 0] (pad S20480x4 ![0, 0] ![480, 0] ![0, 0] (m ((c : Thread nD τ).loc main_arg0)) (sitofp .f32 (constantI S_ 32 0#32)) pads_S20000x4_S20480x4_04800_000 h_S_) transposes_S20480x4_S4x20480_1_0 := by
  show StableHlo.after hostOps0 _ _ = _
  after_results
  rfl

/-- The scores, padded below every threshold. -/
theorem V_scores (c : Dev nD) : V m c main_call0_v4
    = shapeCast S1x20480 (pad S20480 ![0] ![480] ![0] (m ((c : Thread nD τ).loc main_arg1)) (constant S_ .f32 0xBF800000#32) pads_S20000_S20480_04800 h_S_) shapeCasts_S20480_S1x20480 := by
  show StableHlo.after hostOps0 _ _ = _
  after_results
  rfl

/-- The mask scores, padded. -/
theorem V_mscores (c : Dev nD) : V m c main_call0_v6
    = shapeCast S1x20480 (pad S20480 ![0] ![480] ![0] (m ((c : Thread nD τ).loc main_arg2)) (sitofp .f32 (constantI S_ 32 0#32)) pads_S20000_S20480_04800 h_S_) shapeCasts_S20480_S1x20480 := by
  show StableHlo.after hostOps0 _ _ = _
  after_results
  rfl

/-- The masks, a row each. -/
theorem V_masks (c : Dev nD) : V m c main_call0_v0
    = shapeCast S20000x784 (m ((c : Thread nD τ).loc main_arg3)) shapeCasts_S20000x28x28_S20000x784 := by
  show StableHlo.after hostOps0 _ _ = _
  after_results
  rfl

/-! Every window's one block is its whole array. -/

theorem iblk_boxes (c : Dev nD) (t : Fin cfg0.N) : (iblk m c 0 t : (⟨2, ![4, 20480]⟩ : Shape).Idx → F .f32) = V m c main_call0_v2 := by
  funext y
  unfold iblk
  rw [View.read_apply]
  show V m c main_call0_v2 _ = _
  unfold V
  congr 1
  funext a
  apply Fin.ext
  match a with
  | ⟨0, _⟩ => show 0 * 4 + 1 * (y 0).val = (y 0).val; omega
  | ⟨1, _⟩ => show 0 * 20480 + 1 * (y 1).val = (y 1).val; omega

theorem iblk_targets (c : Dev nD) (t : Fin cfg0.N) : (iblk m c 1 t : (⟨2, ![100, 4]⟩ : Shape).Idx → F .f32) = V m c main_arg4 := by
  funext y
  unfold iblk
  rw [View.read_apply]
  show V m c main_arg4 _ = _
  unfold V
  congr 1
  funext a
  apply Fin.ext
  match a with
  | ⟨0, _⟩ => show 0 * 100 + 1 * (y 0).val = (y 0).val; omega
  | ⟨1, _⟩ => show 0 * 4 + 1 * (y 1).val = (y 1).val; omega

theorem iblk_scores (c : Dev nD) (t : Fin cfg0.N) : (iblk m c 2 t : (⟨2, ![1, 20480]⟩ : Shape).Idx → F .f32) = V m c main_call0_v4 := by
  funext y
  unfold iblk
  rw [View.read_apply]
  show V m c main_call0_v4 _ = _
  unfold V
  congr 1
  funext a
  apply Fin.ext
  match a with
  | ⟨0, _⟩ => show 0 * 1 + 1 * (y 0).val = (y 0).val; omega
  | ⟨1, _⟩ => show 0 * 20480 + 1 * (y 1).val = (y 1).val; omega

theorem iblk_mscores (c : Dev nD) (t : Fin cfg0.N) : (iblk m c 3 t : (⟨2, ![1, 20480]⟩ : Shape).Idx → F .f32) = V m c main_call0_v6 := by
  funext y
  unfold iblk
  rw [View.read_apply]
  show V m c main_call0_v6 _ = _
  unfold V
  congr 1
  funext a
  apply Fin.ext
  match a with
  | ⟨0, _⟩ => show 0 * 1 + 1 * (y 0).val = (y 0).val; omega
  | ⟨1, _⟩ => show 0 * 20480 + 1 * (y 1).val = (y 1).val; omega

end Operands

/-! ## Their entries at the ideal values -/

section Entries

variable (m : (ℓ : Loc nD τ sig) → Buf (Elt Ideal) ℓ)

/-- The place of a prediction among the padded ones, as an index of the arguments. -/
def downI (y : Fin 20480) (h : y.val < 20000) : S20000.Idx := ix1 ⟨y.val, h⟩

theorem scores_in (c : Dev nD) (y : Fin 20480) (h : y.val < 20000) :
    (V m c main_call0_v4 (ix2 0 y) : EReal) = m ((c : Thread nD τ).loc main_arg1) (downI y h) := by
  rw [V_scores]
  refine (shapeCast_apply _ shapeCasts_S20480_S1x20480 (ix2 0 y) (ix1 y) ?_).trans ?_
  · rw [Shape.rowMajor_val_one, Shape.rowMajor_val_two]; show y.val = 0 * 20480 + y.val; omega
  · exact pad_apply_of_inside _ _ _ _ _ pads_S20000_S20480_04800 h_S_ (ix1 y) (downI y h) fun a => by
      fin_cases a; show y.val = 0 + y.val * (0 + 1); omega

theorem scores_out (c : Dev nD) (y : Fin 20480) (h : ¬ y.val < 20000) : (V m c main_call0_v4 (ix2 0 y) : EReal) = (-1 : EReal) := by
  rw [V_scores]
  refine (shapeCast_apply _ shapeCasts_S20480_S1x20480 (ix2 0 y) (ix1 y) ?_).trans ?_
  · rw [Shape.rowMajor_val_one, Shape.rowMajor_val_two]; show y.val = 0 * 20480 + y.val; omega
  · refine (pad_apply_of_not_inside _ _ _ _ _ pads_S20000_S20480_04800 h_S_ (ix1 y) 0 ?_).trans ofBits_negOne
    rintro ⟨-, -, h'⟩
    change (y.val - 0) / (0 + 1) < 20000 at h'
    omega

theorem mscores_in (c : Dev nD) (y : Fin 20480) (h : y.val < 20000) :
    (V m c main_call0_v6 (ix2 0 y) : EReal) = m ((c : Thread nD τ).loc main_arg2) (downI y h) := by
  rw [V_mscores]
  refine (shapeCast_apply _ shapeCasts_S20480_S1x20480 (ix2 0 y) (ix1 y) ?_).trans ?_
  · rw [Shape.rowMajor_val_one, Shape.rowMajor_val_two]; show y.val = 0 * 20480 + y.val; omega
  · exact pad_apply_of_inside _ _ _ _ _ pads_S20000_S20480_04800 h_S_ (ix1 y) (downI y h) fun a => by
      fin_cases a; show y.val = 0 + y.val * (0 + 1); omega

theorem boxes_in (c : Dev nD) (k : Fin 4) (y : Fin 20480) (h : y.val < 20000) :
    (V m c main_call0_v2 (ix2 k y) : EReal) = m ((c : Thread nD τ).loc main_arg0) (ix2 (⟨y.val, h⟩ : Fin 20000) k) := by
  rw [V_boxes]
  refine (transpose_apply _ _ transposes_S20480x4_S4x20480_1_0 (ix2 k y) (ix2 y k) ?_).trans ?_
  · intro a; fin_cases a <;> rfl
  · exact pad_apply_of_inside _ _ _ _ _ pads_S20000x4_S20480x4_04800_000 h_S_ (ix2 y k) (ix2 (⟨y.val, h⟩ : Fin 20000) k) fun a => by
      fin_cases a
      · show y.val = 0 + y.val * (0 + 1); omega
      · show k.val = 0 + k.val * (0 + 1); omega

/-! ## The selection on core `c` -/

/-- The kernel's selection after `k` events. -/
def KK (c : Dev nD) (t : Fin cfg0.N) (k : ℕ) : Ker := rd (Sk m c t k)
/-- The scores the kernel selects by. -/
def SC (c : Dev nD) (y : Fin 20480) : EReal := V m c main_call0_v4 (ix2 0 y)

theorem Sk_ok (c : Dev nD) (t : Fin cfg0.N) (k : ℕ) : Ev.Ok (Cm m c t) (Sk m c t k) := events_ok _ _ (init_inv _ _ _ _) k
theorem Sk_inv (c : Dev nD) (t : Fin cfg0.N) (k : ℕ) : Inv (Cm m c t) (Sk m c t k) := events_inv _ _ (init_inv _ _ _ _) k
theorem KK_event (c : Dev nD) (t : Fin cfg0.N) (k : ℕ) :
    Event half thr (iouOf (Cm m c t)) (msOf (Cm m c t)) (KK m c t k) (KK m c t (k + 1)) := events_step _ _ (init_inv _ _ _ _) k

open Classical in
theorem KK_W (c : Dev nD) (t : Fin cfg0.N) (y : Fin 20480) : (KK m c t 0).W y = if thr ≤ SC m c y then SC m c y else -1 := by
  refine (wsV_at (iblk m c 2 t) y).trans ?_
  rw [show (iblk m c 2 t (ix2 0 y) : EReal) = SC m c y from congrFun (iblk_scores m c t) _]

theorem KK_chosen (c : Dev nD) (t : Fin cfg0.N) (k : ℕ) : Chosen thr (msOf (Cm m c t)) (SC m c) (KK m c t k) := by
  refine Chosen.events thr_gt ⟨fun y hy => ?_, fun j => .inl ⟨rfl, ?_, ?_⟩⟩ (KK_event m c t) k
  · rw [KK_W] at hy ⊢
    split_ifs at hy ⊢ with h
    · refine ⟨?_, rfl⟩
      by_contra hy'
      rw [SC, scores_out m c y hy'] at h
      exact absurd thr_gt (not_lt.2 h)
    · exact absurd thr_gt (not_lt.2 hy)
  · exact Ideal.ofBits_zero_f32
  · exact Ideal.ofBits_zero_f32

/-- Every place the events and the row copies name is inside its buffer. -/
theorem runs : Runs m where
  ok c t k _ := Sk_ok m c t k
  row c t y := by
    have e : (Sk m c t 101).gs y = (rd (Sk m c t 101)).m.g (y 1) := by
      refine Eq.trans ?_ ((Sk_inv m c t 101).same (y 1))
      refine congrArg _ ((eq_ix2 y).trans ?_)
      congr 1; exact Subsingleton.elim _ _
    rw [e]
    refine chk3_of (((KK_chosen m c t 101).box (y 1)).imp And.left fun ⟨z, h, e, _⟩ => ⟨z.val, h, e⟩)

end Entries

/-! ## The frame -/

section Frame

variable {F : FTy → Type} [FloatOps F] (m : (ℓ : Loc nD τ sig) → Buf (Elt F) ℓ) (hR : Runs m)

theorem end_arg0 (c : Dev nD) : Pipeline.afterTail₀ cfgs (dats m hR) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem end_arg1 (c : Dev nD) : Pipeline.afterTail₀ cfgs (dats m hR) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem end_arg2 (c : Dev nD) : Pipeline.afterTail₀ cfgs (dats m hR) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem end_arg3 (c : Dev nD) : Pipeline.afterTail₀ cfgs (dats m hR) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The arguments end as they were. -/
theorem args_end {r : PUnit × MemSt nD τ sig (Elt F)} (h : Pipeline.FramePost cfgs (dats m hR) 0 (Pipeline.afterTail₀ cfgs (dats m hR) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (end_arg0 m hR c),
    ((h c).2 main_arg1 (Pipeline.mem_restRefs_of main_arg1 (by decide) (by decide))).trans (end_arg1 m hR c),
    ((h c).2 main_arg2 (Pipeline.mem_restRefs_of main_arg2 (by decide) (by decide))).trans (end_arg2 m hR c),
    ((h c).2 main_arg3 (Pipeline.mem_restRefs_of main_arg3 (by decide) (by decide))).trans (end_arg3 m hR c),
    ((h c).1 1).trans (((dats m hR 0 c).arrAt_in 1 rfl _).trans ((A_eq m hR c 1).trans (V_main_arg4 m c)))⟩

end Frame

end Cert.KernelIdeal.Hand

end
-- ==== Proof.RefTrip.lean ====
/-
  One trip of the reference's loop, read at an index: the prediction its turn brings, the overlaps with the free boxes,
  the first of the largest of them, and the three arrays it writes. A trip is the relation `Greedy.Trip`.
-/
module

public import proofs.«01_k».proof.Proof.Gen.ReferenceIdeal.Run
public import proofs.«01_k».proof.Proof.Reduce
public import proofs.«01_k».proof.Proof.Greedy
public import Idealize.ShloMosaic.Lib.Routing.OpsOne
public import Idealize.ShloMosaic.Lib.DynamicIndex
public import Idealize.ShloMosaic.Lib.Pointwise

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Greedy
open Cert.KernelIdeal.Hand (thr half thr_gt half_gt neg_one_lt ofBits_negOne ofBits_negInf fold_max_spec toInt_small)

/-! ## Reads and writes at one place -/

/-- The word a printed index takes: a number below `2 ^ 31` is not negative and stays. -/
theorem wrap_word (i d : IVec S_ 32) (n : ℕ) (hn : n < 2 ^ 31) (h : i ix0 = BitVec.ofNat 32 n) (p : S_.Idx) :
    select (cmpi .slt i (constantI S_ 32 0#32)) d i p = BitVec.ofNat 32 n := by
  rw [show p = ix0 from ValueIdx.eq_ix0 p, select_slt_zero_of_nonneg i d i ix0 (by rw [h, toInt_small n hn]; omega), h]

/-- One element of a vector at a traced place. -/
theorem slice_one {α : Type} {N : ℕ} (x : (⟨1, ![N]⟩ : Shape).Idx → α) (start : Fin 1 → Int)
    (h : (⟨1, ![N]⟩ : Shape).Slices (fun _ => 0) S1) (hc : S1.ShapeCasts S_) (n : Fin N) (hs : start 0 = (n.val : Int)) :
    shapeCast S_ (Host.dynamicSlice S1 x start h) hc ix0 = x (ix1 n) := by
  rw [shapeCast_apply _ hc ix0 (ix1 0) (by decide)]
  rw [Host.dynamicSlice_eq_extractStridedSlice S1 x start (fun _ => n.val) h ⟨rfl, fun a => by
    match a with
    | ⟨0, _⟩ => have := n.isLt; show n.val + 1 ≤ N; omega⟩ (fun a => by match a with | ⟨0, _⟩ => exact hs)]
  refine extractStridedSlice_apply _ x _ (ix1 0) (ix1 n) fun a => ?_
  match a with
  | ⟨0, _⟩ => rfl

/-- One row of a table at a traced place. -/
theorem slice_row {α : Type} (x : S20000x100.Idx → α) (start : Fin 2 → Int)
    (h : S20000x100.Slices (fun _ => 0) S1x100) (hc : S1x100.ShapeCasts S100) (n : Fin 20000) (hs : start 0 = (n.val : Int))
    (hs1 : start 1 = 0) (j : Fin 100) :
    shapeCast S100 (Host.dynamicSlice S1x100 x start h) hc (ix1 j) = x (ix2 n j) := by
  rw [shapeCast_apply _ hc (ix1 j) (ix2 0 j) (by
    rw [Shape.rowMajor_val_one, Shape.rowMajor_val_two]; show 0 * 100 + j.val = j.val; omega)]
  rw [Host.dynamicSlice_eq_extractStridedSlice S1x100 x start (![n.val, 0]) h ⟨rfl, fun a => by
    match a with
    | ⟨0, _⟩ => have := n.isLt; show n.val + 1 ≤ 20000; omega
    | ⟨1, _⟩ => show 0 + 100 ≤ 100; omega⟩ (fun a => by match a with | ⟨0, _⟩ => exact hs | ⟨1, _⟩ => exact hs1)]
  refine extractStridedSlice_apply _ x _ (ix2 0 j) (ix2 n j) fun a => ?_
  match a with
  | ⟨0, _⟩ => rfl
  | ⟨1, _⟩ => show j.val = 0 + j.val; omega

/-- A write of one element at a traced place. -/
theorem scatter_at {α : Type} {N : ℕ} (d : ScatterDims ⟨1, ![N]⟩ S1 S_) (hiw : d.insertedWindowDims = [0])
    (hsd : d.scatterDimsToOperandDims = [0]) (x0 : (⟨1, ![N]⟩ : Shape).Idx → α) (idx : IVec S1 32) (upd : S_.Idx → α)
    (k : Fin N) (hk : k.val < 2 ^ 31) (hidx : idx (ix1 0) = BitVec.ofNat 32 k.val) (e : Fin N) :
    Host.scatter d (fun _ b => b) x0 idx upd (ix1 e) = if e = k then upd ix0 else x0 (ix1 e) := by
  have hi : (idx (ix1 0)).toInt = (k.val : Int) := by rw [hidx, toInt_small _ hk]
  by_cases h : e = k
  · rw [if_pos h]
    exact Routing.scatter_set_hit d x0 idx upd _ _ (fun j _ => congrArg upd (ValueIdx.eq_ix0 j)) ix0 ((Routing.lands_one d hiw hsd idx k hi e).2 h)
  · rw [if_neg h]
    exact Routing.scatter_set_miss d x0 idx upd _ fun j hj => h ((Routing.lands_one d hiw hsd idx k hi e).1 (by rw [← ValueIdx.eq_ix0 j]; exact hj))

/-! ## The first of the largest -/

theorem fold_all {α : Type} (f : α → α → α) [Std.Commutative f] [Std.Associative f] (x : S100.Idx → α) (b : α)
    (h : S100.ReducesTo [0] S_) :
    Host.reduce f x (fun _ : S_.Idx => b) h h_S_ ix0 = (Finset.univ : Finset S100.Idx).fold f b x := by
  rw [Host.reduce_eq_fold, Finset.filter_true_of_mem fun i _ => Subsingleton.elim _ _]

theorem minsi_toInt (a b : BitVec 32) : (IntOp.minsi a b).toInt = min a.toInt b.toInt := by
  show (if a.slt b = true then a else b).toInt = _
  simp only [BitVec.slt, decide_eq_true_eq]
  split_ifs with h
  · exact (min_eq_left h.le).symm
  · exact (min_eq_right (not_lt.1 h)).symm

instance : Std.Commutative (IntOp.minsi (w := 32)) :=
  ⟨fun a b => BitVec.eq_of_toInt_eq (by rw [minsi_toInt, minsi_toInt, min_comm])⟩
instance : Std.Associative (IntOp.minsi (w := 32)) :=
  ⟨fun a b c => BitVec.eq_of_toInt_eq (by simp only [minsi_toInt, min_assoc])⟩

theorem fold_minsi {α : Type} (S : Finset α) (f : α → BitVec 32) (b : BitVec 32) :
    (S.fold IntOp.minsi b f).toInt = S.fold min b.toInt (fun i => (f i).toInt) := by
  classical
  induction S using Finset.induction_on with
  | empty => rfl
  | insert a s ha ih => rw [Finset.fold_insert ha, Finset.fold_insert ha, minsi_toInt, ih]

open Classical in
/-- The smallest number among those of the places where `p` holds, 100 standing for the others. -/
theorem first_of (p : Fin 100 → Prop) (hp : ∃ j, p j) (f : S100.Idx → BitVec 32)
    (hf : ∀ j, f (ix1 j) = if p j then BitVec.ofNat 32 j.val else 100#32) :
    ∃ m : Fin 100, p m ∧ (Finset.univ : Finset S100.Idx).fold IntOp.minsi 2147483647#32 f = BitVec.ofNat 32 m.val
      ∧ ∀ j, p j → m ≤ j := by
  obtain ⟨m, hm, hmin⟩ := (Finset.univ.filter p).exists_min_image (fun j : Fin 100 => j) (hp.imp fun a h => Finset.mem_filter.2 ⟨Finset.mem_univ _, h⟩)
  rw [Finset.mem_filter] at hm
  have hmin' : ∀ j, p j → m ≤ j := fun j hj => hmin j (Finset.mem_filter.2 ⟨Finset.mem_univ _, hj⟩)
  refine ⟨m, hm.2, ?_, hmin'⟩
  have hlt := m.isLt
  apply BitVec.eq_of_toInt_eq
  rw [fold_minsi, toInt_small m.val (by omega)]
  apply le_antisymm
  · refine (Finset.fold_min_le _).2 (Or.inr ⟨ix1 m, Finset.mem_univ _, ?_⟩)
    rw [hf m, if_pos hm.2, toInt_small m.val (by omega)]
  · refine (Finset.le_fold_min _).2 ⟨by rw [show (2147483647#32 : BitVec 32).toInt = 2147483647 from by decide]; omega, fun x _ => ?_⟩
    obtain ⟨j, rfl⟩ : ∃ j : Fin 100, x = ix1 j := ⟨x 0, eq_ix1 x⟩
    rw [hf j]
    have hj := j.isLt
    split_ifs with h
    · rw [toInt_small j.val (by omega)]
      exact_mod_cast hmin' j h
    · rw [show (100#32 : BitVec 32).toInt = 100 from by decide]; omega

/-- The box a trip looks at: the first of the largest of the candidate overlaps (a box that is taken, or overlapped too
    little, counts as overlapped by `-1`). Enough, it is the best free box; else there is none. -/
theorem best_of (iou : Fin 100 → Fin 20480 → EReal) (g : Fin 100 → BitVec 32) (y : Fin 20480) (cand : Fin 100 → EReal)
    (h1 : ∀ j, av g j → half ≤ iou j y → cand j = iou j y) (h2 : ∀ j, ¬ (av g j ∧ half ≤ iou j y) → cand j = -1)
    (m : Fin 100) (hm : ∀ j, cand j ≤ cand m) (hf : ∀ j, cand j = cand m → m ≤ j) :
    (half ≤ cand m → Best half iou g y m) ∧ (¬ half ≤ cand m → ¬ live half iou g y) := by
  constructor
  · intro h
    have hm' : av g m ∧ half ≤ iou m y := by
      by_contra hn
      rw [h2 m hn] at h
      exact absurd (lt_of_lt_of_le half_gt h) (lt_irrefl _)
    have e := h1 m hm'.1 hm'.2
    refine ⟨hm'.1, hm'.2, fun j hj => ?_⟩
    by_cases hh : half ≤ iou j y
    · have e' := h1 j hj hh
      exact ⟨by rw [← e, ← e']; exact hm j, fun heq => hf j (by rw [e, e', heq])⟩
    · exact ⟨(not_le.1 hh).le.trans hm'.2, fun heq => absurd (heq ▸ hm'.2) hh⟩
  · rintro h ⟨j, hj, hh⟩
    exact h (hh.trans ((h1 j hj hh) ▸ hm j))

/-- The first of the largest elements of a vector of 100, as it prints. -/
theorem first_largest (w : FVec Ideal S100 .f32) : ∃ m : Fin 100,
    (Host.reduce IntOp.minsi (select (cmpf .oeq w (broadcastInDim S100 ![] bcast_S_S100 (Host.reduce FloatOps.maximumf w (constant S_ .f32 0xFF800000#32) reducesTo_S100_S_d0 h_S_))) (iotaInDim S100 32 0) (broadcastInDim S100 ![] bcast_S_S100 (id (constantI S_ 32 100#32)))) (constantI S_ 32 2147483647#32) reducesTo_S100_S_d0 h_S_ : IVec S_ 32) ix0 = BitVec.ofNat 32 m.val
    ∧ (∀ j, (w (ix1 j) : EReal) ≤ w (ix1 m)) ∧ ∀ j, (w (ix1 j) : EReal) = w (ix1 m) → m ≤ j := by
  classical
  have emax : (Host.reduce FloatOps.maximumf w (constant S_ .f32 0xFF800000#32) reducesTo_S100_S_d0 h_S_ : FVec Ideal S_ .f32) ix0
      = (Finset.univ : Finset S100.Idx).fold max (⊥ : EReal) w := by
    have e := fold_all (α := EReal) max w (FloatOps.ofBits .f32 0xFF800000#32 : Ideal .f32) reducesTo_S100_S_d0
    rw [ofBits_negInf] at e
    rw [← e, ← ofBits_negInf]
    rfl
  obtain ⟨hle, x, -, hx⟩ := fold_max_spec (Finset.univ : Finset S100.Idx) ⟨ix1 0, Finset.mem_univ _⟩ (fun i => (w i : EReal))
  have hx' : ∃ j : Fin 100, (w (ix1 j) : EReal) = (Finset.univ : Finset S100.Idx).fold max (⊥ : EReal) w :=
    ⟨x 0, (congrArg w (ValueIdx.eq_ix1 x).symm).trans hx⟩
  have hle' : ∀ j : Fin 100, (w (ix1 j) : EReal) ≤ (Finset.univ : Finset S100.Idx).fold max (⊥ : EReal) w :=
    fun j => hle (ix1 j) (Finset.mem_univ _)
  revert emax hx' hle'
  clear hle hx x
  generalize (Finset.univ : Finset S100.Idx).fold max (⊥ : EReal) w = M
  generalize (Host.reduce FloatOps.maximumf w (constant S_ .f32 0xFF800000#32) reducesTo_S100_S_d0 h_S_ : FVec Ideal S_ .f32) = q
  intro emax hx' hle'
  obtain ⟨m, hm, e, hmin⟩ := first_of (fun j => (w (ix1 j) : EReal) = M) hx'
    (select (cmpf .oeq w (broadcastInDim S100 ![] bcast_S_S100 q)) (iotaInDim S100 32 0) (broadcastInDim S100 ![] bcast_S_S100 (id (constantI S_ 32 100#32))))
    (fun j => by
      have eq : (broadcastInDim S100 ![] bcast_S_S100 q : FVec Ideal S100 .f32) (ix1 j) = M := (congrArg q (ValueIdx.eq_ix0 _)).trans emax
      show Scalar.select (BitVec.ofBool (decide ((w (ix1 j) : EReal) = (broadcastInDim S100 ![] bcast_S_S100 q : FVec Ideal S100 .f32) (ix1 j)))) (BitVec.ofNat 32 j.val) 100#32 = _
      rw [eq]
      by_cases h : (w (ix1 j) : EReal) = M
      · rw [if_pos h, decide_eq_true h]; rfl
      · rw [if_neg h, decide_eq_false h]; rfl)
  exact ⟨m, Eq.trans (fold_all IntOp.minsi _ 2147483647#32 reducesTo_S100_S_d0) e, fun j => (hle' j).trans hm.symm.le, fun j hj => hmin j (hj.trans hm)⟩

/-- One element of a vector at a traced place, as it prints. -/
theorem slice_wrap {N : ℕ} (x : FVec Ideal ⟨1, ![N]⟩ .f32) (i i' : IVec S_ 32) (n : Fin N)
    (h : (⟨1, ![N]⟩ : Shape).Slices (fun _ => 0) S1) (hn : n.val < 2 ^ 31) (hi : i ix0 = BitVec.ofNat 32 n.val) :
    shapeCast S_ (Host.dynamicSlice S1 x (fun k => (((![select (cmpi .slt i (constantI S_ 32 0#32)) i' i] : Fin 1 → (⟨S_, .i32⟩ : BufTy).Contents (Elt Ideal))) k (Shape.Idx.first h_S_)).toInt) h) shapeCasts_S1_S_ ix0 = x (ix1 n) :=
  slice_one x _ h shapeCasts_S1_S_ n
    ((congrArg BitVec.toInt (wrap_word i i' n.val hn hi (Shape.Idx.first h_S_))).trans (toInt_small _ hn))

theorem and_tf : BitVec.ofBool true &&& BitVec.ofBool false ≠ 1#1 := by decide
theorem and_f (b : Bool) : BitVec.ofBool false &&& BitVec.ofBool b ≠ 1#1 := by cases b <;> decide

/-- Both thresholds, each at its traced place, as they print. -/
theorem both_at (w : FVec Ideal S100 .f32) (x : FVec Ideal S20000 .f32) (i i' j j' : IVec S_ 32) (m : Fin 100) (y : Fin 20000)
    (hi : i ix0 = BitVec.ofNat 32 m.val) (hj : j ix0 = BitVec.ofNat 32 y.val) :
    (andi (cmpf .oge (shapeCast S_ (Host.dynamicSlice S1 w (fun k => (((![select (cmpi .slt i (constantI S_ 32 0#32)) i' i] : Fin 1 → (⟨S_, .i32⟩ : BufTy).Contents (Elt Ideal))) k (Shape.Idx.first h_S_)).toInt) sliceFits_S100_S1) shapeCasts_S1_S_) (constant S_ .f32 0x3F000000#32)) (cmpf .oge (shapeCast S_ (Host.dynamicSlice S1 x (fun k => (((![select (cmpi .slt j (constantI S_ 32 0#32)) j' j] : Fin 1 → (⟨S_, .i32⟩ : BufTy).Contents (Elt Ideal))) k (Shape.Idx.first h_S_)).toInt) sliceFits_S20000_S1) shapeCasts_S1_S_) (constant S_ .f32 0x3D4CCCCD#32)) : IVec S_ 1) ix0
      = BitVec.ofBool (decide (half ≤ (w (ix1 m) : EReal))) &&& BitVec.ofBool (decide (thr ≤ (x (ix1 y) : EReal))) := by
  have hm := m.isLt
  have hy := y.isLt
  have e1 := slice_wrap w i i' m sliceFits_S100_S1 (by omega) hi
  have e2 := slice_wrap x j j' y sliceFits_S20000_S1 (by omega) hj
  revert e1 e2
  generalize shapeCast S_ (Host.dynamicSlice S1 w _ _) _ = a
  generalize shapeCast S_ (Host.dynamicSlice S1 x _ _) _ = b
  intro e1 e2
  rw [← e1, ← e2]
  rfl

/-! ## One trip -/

section Trip

variable (V : Valuation τ sig (Elt Ideal)) (k : Fin 20000) (y : Fin 20000)

/-- The arrays the loop carries, as plain functions. -/
def ordA : IVec S20000 32 := V (Proc.devRef .tc main_v56_0)
def iouA : FVec Ideal S20000x100 .f32 := V (Proc.devRef .tc main_v56_1)
def scoA : FVec Ideal S20000 .f32 := V (Proc.devRef .tc main_v56_2)
def cntA : IVec S_ 32 := V (Proc.devRef .tc main_v56_4)
def dtA : IVec S20000 32 := V (Proc.devRef .tc main_v56_5)
def gA : IVec S100 32 := V (Proc.devRef .tc main_v56_6)
def biA : FVec Ideal S100 .f32 := V (Proc.devRef .tc main_v56_7)

/-- The matches the carried arrays hold; predictions past the last are matched to box zero. -/
def mt : Match where
  dt := fun z => if h : z.val < 20000 then dtA V (ix1 ⟨z.val, h⟩) else 0#32
  g := fun j => gA V (ix1 j)
  bi := fun j => biA V (ix1 j)

theorem v73_at (hk : cntA V ix0 = BitVec.ofNat 32 k.val) (hy : ordA V (ix1 k) = BitVec.ofNat 32 y.val) :
    (res_main_while0b_v73 V : IVec S_ 32) ix0 = BitVec.ofNat 32 y.val := by
  have hk' := k.isLt
  refine Eq.trans (slice_one (ordA V) _ sliceFits_S20000_S1 shapeCasts_S1_S_ k ?_) hy
  have e := wrap_word (cntA V) (addi (cntA V) (constantI S_ 32 20000#32)) k.val (by omega) hk (Shape.Idx.first h_S_)
  exact (congrArg BitVec.toInt e).trans (toInt_small _ (by omega))

theorem v81_at (h73 : (res_main_while0b_v73 V : IVec S_ 32) ix0 = BitVec.ofNat 32 y.val) (j : Fin 100) :
    (res_main_while0b_v81 V : FVec Ideal S100 .f32) (ix1 j) = iouA V (ix2 y j) := by
  have hy' := y.isLt
  refine slice_row (iouA V) _ sliceFits_S20000x100_S1x100 shapeCasts_S1x100_S100 y ?_ ?_ j
  · have e := wrap_word (res_main_while0b_v73 V) (addi (res_main_while0b_v73 V) (constantI S_ 32 20000#32)) y.val (by omega) h73 (Shape.Idx.first h_S_)
    exact (congrArg BitVec.toInt e).trans (toInt_small _ (by omega))
  · rfl

theorem cmpi_sle_zero (a : BitVec 32) : BitVec.ofBool (BitVec.sle a 0#32) = BitVec.ofBool (decide (a.toInt ≤ 0)) := rfl

open Classical in
theorem v87_at (j : Fin 100) :
    (res_main_while0b_v87 V : FVec Ideal S100 .f32) (ix1 j)
      = if (gA V (ix1 j)).toInt ≤ 0 ∧ half ≤ ((res_main_while0b_v81 V : FVec Ideal S100 .f32) (ix1 j) : EReal)
        then (res_main_while0b_v81 V : FVec Ideal S100 .f32) (ix1 j) else (-1 : EReal) := by
  unfold res_main_while0b_v87
  generalize res_main_while0b_v81 V = w
  show Scalar.select (BitVec.ofBool (decide ((gA V (ix1 j)).toInt ≤ 0)) &&& BitVec.ofBool (decide (half ≤ ((w : FVec Ideal S100 .f32) (ix1 j) : EReal))))
    ((w : FVec Ideal S100 .f32) (ix1 j)) (FloatOps.ofBits .f32 0xBF800000#32 : Ideal .f32) = _
  rw [ofBits_negOne]
  by_cases h1 : (gA V (ix1 j)).toInt ≤ 0 <;> by_cases h2 : half ≤ ((w : FVec Ideal S100 .f32) (ix1 j) : EReal) <;>
    simp only [h1, h2, decide_true, decide_false, and_self, and_true, and_false, if_true, if_false] <;> rfl

/-- The overlaps a trip takes the largest of. -/
def candV (j : Fin 100) : EReal := (res_main_while0b_v87 V : FVec Ideal S100 .f32) (ix1 j)

/-- The largest candidate is reached, first at the box the trip looks at. -/
theorem v93_at : ∃ m : Fin 100, (res_main_while0b_v93 V : IVec S_ 32) ix0 = BitVec.ofNat 32 m.val
    ∧ (∀ j, candV V j ≤ candV V m) ∧ ∀ j, candV V j = candV V m → m ≤ j :=
  first_largest (res_main_while0b_v87 V)

/-- The trip matches its prediction exactly when the score and the overlap reach the thresholds. -/
theorem v106_at (h73 : (res_main_while0b_v73 V : IVec S_ 32) ix0 = BitVec.ofNat 32 y.val) (m : Fin 100)
    (h93 : (res_main_while0b_v93 V : IVec S_ 32) ix0 = BitVec.ofNat 32 m.val) :
    (res_main_while0b_v106 V : IVec S_ 1) ix0
      = BitVec.ofBool (decide (half ≤ candV V m)) &&& BitVec.ofBool (decide (thr ≤ (scoA V (ix1 y) : EReal))) :=
  both_at (res_main_while0b_v87 V) (scoA V) (res_main_while0b_v93 V) (addi (res_main_while0b_v93 V) (constantI S_ 32 100#32))
    (res_main_while0b_v73 V) (addi (res_main_while0b_v73 V) (constantI S_ 32 20000#32)) m y h93 h73

/-- A select between an updated vector and the vector, on a scalar condition. -/
theorem put_at {α : Type} {N : ℕ} (d : ScatterDims ⟨1, ![N]⟩ S1 S_) (hiw : d.insertedWindowDims = [0])
    (hsd : d.scatterDimsToOperandDims = [0]) (hb : S_.BroadcastsInDim ⟨1, ![N]⟩ ![]) (hb1 : S_.BroadcastsInDim S1 ![])
    (b : IVec S_ 1) (x : (⟨1, ![N]⟩ : Shape).Idx → α) (i w : IVec S_ 32) (upd : S_.Idx → α) (n : Fin N) (hn : n.val < 2 ^ 31)
    (hi : i ix0 = BitVec.ofNat 32 n.val) (e : Fin N) :
    select (broadcastInDim ⟨1, ![N]⟩ ![] hb b)
        (Host.scatter d (fun _ b => b) x (broadcastInDim S1 ![] hb1 (select (cmpi .slt i (constantI S_ 32 0#32)) w i)) upd) x (ix1 e)
      = if b ix0 = 1#1 ∧ e = n then upd ix0 else x (ix1 e) := by
  have e1 := scatter_at d hiw hsd x (broadcastInDim S1 ![] hb1 (select (cmpi .slt i (constantI S_ 32 0#32)) w i)) upd n hn
    ((congrArg _ (ValueIdx.eq_ix0 _)).trans (wrap_word i w n.val hn hi ix0)) e
  show (if b _ = 1#1 then Host.scatter d _ x _ upd (ix1 e) else x (ix1 e)) = _
  rw [e1, show b _ = b ix0 from congrArg b (ValueIdx.eq_ix0 _)]
  by_cases h1 : b ix0 = 1#1 <;> by_cases h2 : e = n <;> simp [h1, h2]

section Put

variable (h73 : (res_main_while0b_v73 V : IVec S_ 32) ix0 = BitVec.ofNat 32 y.val) (m : Fin 100)
  (h93 : (res_main_while0b_v93 V : IVec S_ 32) ix0 = BitVec.ofNat 32 m.val)

include h73 in
theorem step_dt (e : Fin 20000) : dtA (STEP V) (ix1 e)
    = if (res_main_while0b_v106 V : IVec S_ 1) ix0 = 1#1 ∧ e = y then (res_main_while0b_v93 V : IVec S_ 32) ix0 else dtA V (ix1 e) := by
  have hy := y.isLt
  refine (congrFun (STEP_main_v56_5 V) (ix1 e)).trans ?_
  exact put_at scatter_S20000_S1_S__n_0_0_0 rfl rfl bcast_S_S20000 bcast_S_S1 (res_main_while0b_v106 V) (dtA V) (res_main_while0b_v73 V) _
    (res_main_while0b_v93 V) y (by omega) h73 e

include h93 in
theorem step_g (e : Fin 100) : gA (STEP V) (ix1 e)
    = if (res_main_while0b_v106 V : IVec S_ 1) ix0 = 1#1 ∧ e = m then (res_main_while0b_v73 V : IVec S_ 32) ix0 else gA V (ix1 e) := by
  have hm := m.isLt
  refine (congrFun (STEP_main_v56_6 V) (ix1 e)).trans ?_
  exact put_at scatter_S100_S1_S__n_0_0_0 rfl rfl bcast_S_S100 bcast_S_S1 (res_main_while0b_v106 V) (gA V) (res_main_while0b_v93 V) _
    (res_main_while0b_v73 V) m (by omega) h93 e

include h93 in
theorem step_bi (e : Fin 100) : biA (STEP V) (ix1 e)
    = if (res_main_while0b_v106 V : IVec S_ 1) ix0 = 1#1 ∧ e = m then (res_main_while0b_v81 V : FVec Ideal S100 .f32) (ix1 m) else biA V (ix1 e) := by
  have hm := m.isLt
  refine (congrFun (STEP_main_v56_7 V) (ix1 e)).trans ?_
  exact Eq.trans (put_at scatter_S100_S1_S__n_0_0_0 rfl rfl bcast_S_S100 bcast_S_S1 (res_main_while0b_v106 V) (biA V) (res_main_while0b_v93 V) _
    _ m (by omega) h93 e) (congrArg (fun u : EReal => if (res_main_while0b_v106 V : IVec S_ 1) ix0 = 1#1 ∧ e = m then u else biA V (ix1 e))
      (slice_wrap (res_main_while0b_v81 V) (res_main_while0b_v93 V) _ m sliceFits_S100_S1 (by omega) h93))

end Put

/-- One trip of the reference's loop is the trip of the selection, at the prediction its turn brings. -/
theorem step_trip (iou : Fin 100 → Fin 20480 → EReal) (hiou : ∀ j, iou j (up y) = iouA V (ix2 y j))
    (hk : cntA V ix0 = BitVec.ofNat 32 k.val) (hy : ordA V (ix1 k) = BitVec.ofNat 32 y.val) :
    Trip half thr iou (up y) (scoA V (ix1 y)) (mt V) (mt (STEP V)) := by
  have h73 := v73_at V k y hk hy
  obtain ⟨m, h93, hmax, hfirst⟩ := v93_at V
  have h106 := v106_at V y h73 m h93
  have hb := best_of iou (mt V).g (up y) (candV V)
    (fun j h1 h2 => by
      refine (v87_at V j).trans ?_
      rw [v81_at V y h73 j, ← hiou j]
      exact if_pos ⟨h1, h2⟩)
    (fun j h => by
      refine (v87_at V j).trans ?_
      rw [v81_at V y h73 j, ← hiou j]
      exact if_neg h) m hmax hfirst
  have same : (res_main_while0b_v106 V : IVec S_ 1) ix0 ≠ 1#1 → mt (STEP V) = mt V := fun h => by
    unfold mt
    congr 1
    · funext z
      by_cases hz : z.val < 20000
      · rw [dif_pos hz, dif_pos hz, step_dt V y h73, if_neg (fun h' => h h'.1)]
      · rw [dif_neg hz, dif_neg hz]
    · funext j; rw [step_g V m h93, if_neg (fun h' => h h'.1)]
    · funext j; rw [step_bi V m h93, if_neg (fun h' => h h'.1)]
  by_cases h1 : half ≤ candV V m
  · by_cases h2 : thr ≤ (scoA V (ix1 y) : EReal)
    · have hc : (res_main_while0b_v106 V : IVec S_ 1) ix0 = 1#1 := by
        rw [h106, decide_eq_true h1, decide_eq_true h2]; rfl
      refine Or.inr ⟨h2, m, hb.1 h1, ?_⟩
      unfold Match.put
      show Match.mk _ _ _ = _
      congr 1
      · funext z
        by_cases hz : z.val < 20000
        · rw [dif_pos hz, step_dt V y h73, h93]
          by_cases he : (⟨z.val, hz⟩ : Fin 20000) = y
          · rw [if_pos ⟨hc, he⟩]
            have hz' : z = up y := Fin.ext (show z.val = y.val from congrArg Fin.val he)
            rw [hz']; rw [Function.update_self]
          · rw [if_neg (fun h => he h.2), Function.update_of_ne (show z ≠ up y from fun h => he (Fin.ext (show z.val = y.val from congrArg Fin.val h)))]
            exact (show (mt V).dt z = dtA V (ix1 ⟨z.val, hz⟩) from dif_pos hz).symm
        · rw [dif_neg hz, Function.update_of_ne (fun h => hz (by rw [h]; exact y.isLt))]
          exact (show (mt V).dt z = 0#32 from dif_neg hz).symm
      · funext j
        rw [step_g V m h93, h73]
        by_cases he : j = m
        · subst he; rw [if_pos ⟨hc, rfl⟩, Function.update_self]; rfl
        · rw [if_neg (fun h => he h.2), Function.update_of_ne he]; rfl
      · funext j
        rw [step_bi V m h93, v81_at V y h73, ← hiou m]
        by_cases he : j = m
        · subst he; rw [if_pos ⟨hc, rfl⟩, Function.update_self]
        · rw [if_neg (fun h => he h.2), Function.update_of_ne he]; rfl
    · exact Or.inl ⟨fun h => h2 h.1, same (by rw [h106, decide_eq_false h2, decide_eq_true h1]; exact and_tf)⟩
  · exact Or.inl ⟨fun h => hb.2 h1 h.2, same (by
      rw [h106, decide_eq_false h1]; exact and_f _)⟩

end Trip

/-! ## All trips -/

section Loop

variable (E : Valuation τ sig (Elt Ideal))

theorem iter_ord (t : ℕ) : ordA (STEP^[t] E) = ordA E := by
  induction t with
  | zero => rfl
  | succ t ih => rw [Function.iterate_succ_apply', ← ih]; exact STEP_main_v56_0 _

theorem iter_iou (t : ℕ) : iouA (STEP^[t] E) = iouA E := by
  induction t with
  | zero => rfl
  | succ t ih => rw [Function.iterate_succ_apply', ← ih]; exact STEP_main_v56_1 _

theorem iter_sco (t : ℕ) : scoA (STEP^[t] E) = scoA E := by
  induction t with
  | zero => rfl
  | succ t ih => rw [Function.iterate_succ_apply', ← ih]; exact STEP_main_v56_2 _

theorem iter_cnt (h0 : cntA E ix0 = 0#32) (t : ℕ) : cntA (STEP^[t] E) ix0 = BitVec.ofNat 32 t := by
  induction t with
  | zero => exact h0
  | succ t ih =>
    rw [Function.iterate_succ_apply', BitVec.ofNat_add, ← ih]
    exact congrFun (STEP_main_v56_4 _) ix0

theorem loop_trip (h0 : cntA E ix0 = 0#32) (ord : Fin 20000 → Fin 20000) (ho : ∀ k, ordA E (ix1 k) = BitVec.ofNat 32 (ord k).val)
    (iou : Fin 100 → Fin 20480 → EReal) (hiou : ∀ j y, iou j (up y) = iouA E (ix2 y j)) (t : Fin 20000) :
    Trip half thr iou (up (ord t)) (scoA E (ix1 (ord t))) (mt (STEP^[t.val] E)) (mt (STEP^[t.val + 1] E)) := by
  have h := step_trip (STEP^[t.val] E) t (ord t) iou (fun j => by rw [iter_iou]; exact hiou j _) (iter_cnt E h0 t.val)
    (by rw [iter_ord]; exact ho t)
  rw [iter_sco] at h
  rw [Function.iterate_succ_apply']
  exact h

end Loop

end Cert.ReferenceIdeal.Hand

end
-- ==== Proof.RefSort.lean ====
/-
  The order in which the reference visits the predictions: a stable sort of the negated scores. Every prediction comes
  once, a larger score first, and of two equal ones the earlier prediction.
-/
module

public import proofs.«01_k».proof.Proof.Gen.ReferenceIdeal
public import proofs.«01_k».proof.Proof.Reduce
public import Idealize.ShloMosaic.Lib.SortFacts

@[expose] public section

noncomputable section

namespace Cert.ReferenceIdeal.Hand

open Cert.ReferenceIdeal Cert.ReferenceIdeal.Gen
open Idealize.ShloMosaic Idealize.ShloMosaic.TcCoe

section Stable

variable {n : ℕ} (f : Fin n → EReal)

/-- Strictly smaller key first. -/
def bef (a b : Fin n) : Bool := decide (f a < f b)

/-- Smaller key first, and of equal keys the smaller number. -/
def Lex (a b : Fin n) : Prop := f a < f b ∨ (f a = f b ∧ a < b)

theorem lex_insert (a : Fin n) (l : List (Fin n)) (ha : ∀ b ∈ l, a < b) (hl : l.Pairwise (Lex f)) :
    (insertBefore (bef f) a l).Pairwise (Lex f) := by
  induction l with
  | nil => exact List.pairwise_singleton _ _
  | cons b l ih =>
    rw [List.pairwise_cons] at hl
    unfold insertBefore
    split
    · rename_i h
      have h' : f b < f a := of_decide_eq_true h
      refine List.pairwise_cons.mpr ⟨fun c hc => ?_, ih (fun c hc => ha c (List.mem_cons_of_mem _ hc)) hl.2⟩
      rcases List.mem_cons.mp ((perm_insertBefore (bef f) a l).mem_iff.mp hc) with rfl | hc'
      · exact Or.inl h'
      · exact hl.1 c hc'
    · rename_i h
      have h' : f a ≤ f b := not_lt.1 fun hb => h (decide_eq_true hb)
      have hlex : ∀ c, f a ≤ f c → a < c → Lex f a c := fun c h1 h2 => h1.lt_or_eq.imp id fun e => ⟨e, h2⟩
      refine List.pairwise_cons.mpr ⟨fun c hc => ?_, List.pairwise_cons.mpr hl⟩
      refine hlex c ?_ (ha c hc)
      rcases List.mem_cons.mp hc with rfl | hc'
      · exact h'
      · exact h'.trans ((hl.1 c hc').elim le_of_lt fun e => e.1.le)

theorem lex_sort (l : List (Fin n)) (hl : l.Pairwise (· < ·)) : (stableSort (bef f) l).Pairwise (Lex f) := by
  induction l with
  | nil => exact List.Pairwise.nil
  | cons a l ih =>
    rw [List.pairwise_cons] at hl
    unfold stableSort
    exact lex_insert f a _ (fun b hb => hl.1 b ((perm_stableSort (bef f) l).mem_iff.mp hb)) (ih hl.2)

/-- The sorting permutation puts the keys in order, equal ones as they came. -/
theorem lex_sorted (i j : Fin n) (hij : i < j) : Lex f (sortedFrom (bef f) i) (sortedFrom (bef f) j) := by
  have hp : ∀ a b : Fin (sortPositions n (bef f)).length, a < b →
      Lex f ((sortPositions n (bef f)).get a) ((sortPositions n (bef f)).get b) :=
    List.pairwise_iff_get.mp (lex_sort f (List.finRange n) (List.pairwise_lt_finRange n))
  unfold sortedFrom
  exact hp _ _ (by simp only [Fin.lt_def, Fin.val_cast]; exact hij)

end Stable

/-- The comparator's first step: a zero of either sign counts as zero, a value is itself. -/
theorem comparator_eq (a b : EReal) (i j : BitVec 32) :
    comparator_f32_i32_d0 (F := Ideal) (a, i) (b, j) = BitVec.ofBool (decide (a < b)) := by
  have hz : ∀ x : Ideal .f32, Scalar.select (FloatOps.cmpf (F := Ideal) (φ := .f32) .une x x) (FloatOps.ofBits .f32 0x7FC00000#32)
      (Scalar.select (FloatOps.cmpf (F := Ideal) (φ := .f32) .oeq x (FloatOps.ofBits .f32 0x00000000#32)) (FloatOps.ofBits .f32 0x00000000#32) x) = x := fun x => by
    have e0 : (FloatOps.ofBits .f32 0x00000000#32 : Ideal .f32) = (0 : EReal) := Ideal.ofBits_zero_f32
    have e1 : FloatOps.cmpf (F := Ideal) (φ := .f32) .une x x = BitVec.ofBool (decide ((x : EReal) ≠ x)) := rfl
    have e2 : FloatOps.cmpf (F := Ideal) (φ := .f32) .oeq x (FloatOps.ofBits .f32 0x00000000#32)
        = BitVec.ofBool (decide ((x : EReal) = (FloatOps.ofBits .f32 0x00000000#32 : Ideal .f32))) := rfl
    rw [e1, e2, e0, decide_eq_false (by simp)]
    by_cases h : (x : EReal) = 0
    · rw [decide_eq_true h, h]; rfl
    · rw [decide_eq_false h]; rfl
  unfold comparator_f32_i32_d0
  simp only [hz]
  rfl

/-- Place by place, the prediction the reference visits. -/
def visit (sc : FVec Ideal S20000 .f32) : Fin 20000 → Fin 20000 := sortedFrom (bef fun k => -(sc (ix1 k) : EReal))

theorem visit_inj (sc : FVec Ideal S20000 .f32) : Function.Injective (visit sc) := sortedFrom_injective _
theorem visit_surj (sc : FVec Ideal S20000 .f32) : Function.Surjective (visit sc) := sortedFrom_surjective _

theorem visit_lex (sc : FVec Ideal S20000 .f32) (a b : Fin 20000) (h : a < b) :
    (sc (ix1 (visit sc b)) : EReal) < sc (ix1 (visit sc a)) ∨ ((sc (ix1 (visit sc b)) : EReal) = sc (ix1 (visit sc a)) ∧ visit sc a < visit sc b) := by
  rcases lex_sorted (fun k => -(sc (ix1 k) : EReal)) a b h with h | ⟨h, h'⟩
  · exact Or.inl (EReal.neg_lt_neg_iff.1 h)
  · exact Or.inr ⟨(neg_inj.1 h).symm, h'⟩

/-- The visiting order as it prints. -/
theorem order_at (sc : FVec Ideal S20000 .f32) (k : Fin 20000) :
    (Host.sort2 S20000 0 (comparator_f32_i32_d0 (F := Ideal)) (Host.negf sc) (iotaInDim S20000 32 0)).2 (ix1 k) = BitVec.ofNat 32 (visit sc k).val := by
  have hal : ∀ q : Fin 20000, (ix1 k : S20000.Idx).along 0 q = ix1 q := fun q => by
    refine (Shape.Idx.along_rank1 (n := 20000) _ _).trans (funext fun a => ?_)
    match a with
    | ⟨0, _⟩ => rfl
  unfold Host.sort2
  rw [dif_pos (show 0 < S20000.rank from by decide)]
  refine Eq.trans (b := BitVec.ofNat 32 ((ix1 (sortedFrom _ k) : S20000.Idx) 0).val) (congrArg (fun i : S20000.Idx => BitVec.ofNat 32 (i 0).val) (hal _)) ?_
  refine congrArg (fun R : Fin 20000 → Fin 20000 → Bool => BitVec.ofNat 32 (sortedFrom R k).val) (funext fun p => funext fun q => ?_)
  refine Eq.trans (b := (comparator_f32_i32_d0 (F := Ideal) (Host.negf sc (ix1 p), iotaInDim S20000 32 0 (ix1 p)) (Host.negf sc (ix1 q), iotaInDim S20000 32 0 (ix1 q)) == 1#1))
    (congrArg₂ (fun i i' : S20000.Idx => (comparator_f32_i32_d0 (F := Ideal) (Host.negf sc i, iotaInDim S20000 32 0 i) (Host.negf sc i', iotaInDim S20000 32 0 i') == 1#1)) (hal p) (hal q)) ?_
  rw [comparator_eq]
  unfold bef
  show _ = decide ((-(sc (ix1 p) : EReal)) < -(sc (ix1 q) : EReal))
  rw [show (Host.negf sc (ix1 p) : EReal) = -(sc (ix1 p) : EReal) from rfl, show (Host.negf sc (ix1 q) : EReal) = -(sc (ix1 q) : EReal) from rfl]
  cases decide ((-(sc (ix1 p) : EReal)) < -(sc (ix1 q) : EReal)) <;> rfl

end Cert.ReferenceIdeal.Hand

end
-- ==== Proof.Overlap.lean ====
/-
  The overlap of a prediction and a target box as a formula over the extended reals, and the kernel's overlap table
  read at one entry.
-/
module

public import proofs.«01_k».proof.Proof.Prologue
public import proofs.«01_k».proof.Proof.Event
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe

/-- The side a prediction from `p` to `q` and a target from `g` to `h` share. -/
def side (p q g h : EReal) : EReal := max (min q h - max p g) 0
/-- The area of a box with the corners `0, 1` and `2, 3`. -/
def area (b : Fin 4 → EReal) : EReal := (b 2 - b 0) * (b 3 - b 1)
/-- The area that two boxes share. -/
def inter (p g : Fin 4 → EReal) : EReal := side (p 0) (p 2) (g 0) (g 2) * side (p 1) (p 3) (g 1) (g 3)
/-- The shared area over the joint area, the latter held above a small constant. -/
def ratio (p g : Fin 4 → EReal) : EReal :=
  Ideal.div (inter p g) (max (area p + area g - inter p g) (Ideal.ofBits .f32 0x358637BD#32))

theorem row_bc {α : Type} (x : S1x1024.Idx → α) (j : Fin 100) (y : Fin 1024) :
    broadcastTo S100x1024 x broadcasts_S1x1024_S100x1024 (ix2 j y) = x (ix2 0 y) :=
  broadcastTo_apply _ _ _ _ fun a => by fin_cases a <;> rfl

theorem col_bc {α : Type} (x : S100x1.Idx → α) (j : Fin 100) (y : Fin 1024) :
    broadcastTo S100x1024 x broadcasts_S100x1_S100x1024 (ix2 j y) = x (ix2 j 0) :=
  broadcastTo_apply _ _ _ _ fun a => by fin_cases a <;> rfl

theorem cast_row {α : Type} (x : S1x1024.Idx → α) (z : S1x1024.Idx) : shapeCast S1x1024 x shapeCasts_S1x1024_S1x1024 z = x z :=
  shapeCast_apply _ _ _ _ rfl

theorem cast_tab {α : Type} (x : S100x1024.Idx → α) (z : S100x1024.Idx) : shapeCast S100x1024 x shapeCasts_S100x1024_S100x1024 z = x z :=
  shapeCast_apply _ _ _ _ rfl

theorem pay42_at (g0 g1 g2 g3 : Vec Ideal S100x1 .f32) (p0 p1 p2 p3 : Vec Ideal S1x1024 .f32) (j : Fin 100) (y : Fin 1024) :
    (k0_pay42 g0 g1 g2 g3 (k0_pay24 g0 g1 g2 g3) p0 p1 p2 p3 (ix2 j y) : EReal)
      = ratio ![p0 (ix2 0 y), p1 (ix2 0 y), p2 (ix2 0 y), p3 (ix2 0 y)] ![g0 (ix2 j 0), g1 (ix2 j 0), g2 (ix2 j 0), g3 (ix2 j 0)] := by
  unfold k0_pay42 k0_pay24
  dsimp only
  rw [cast_tab]
  have e0 : Ideal.ofBits .f32 0x00000000#32 = 0 := Ideal.ofBits_zero_f32
  simp only [divf_apply, maximumf_apply, minimumf_apply, addf_apply, subf_apply, mulf_apply, row_bc, col_bc, cast_row]
  unfold ratio inter side area
  rw [← e0]
  rfl

theorem rowP_at (pb : Vec Ideal S4x20480 .f32) (k : Fin 4) (t : Fin 20) (y : Fin 1024) (z : Fin 20480) (h : z.val = 1024 * t.val + y.val) :
    rowP pb k t (ix2 0 y) = pb (ix2 k z) := by
  unfold rowP
  refine ldv_at _ _ _ _ _ _ fun a => ?_
  fin_cases a
  · rfl
  · exact h

theorem colG_at (gb : Vec Ideal S100x4 .f32) (k : Fin 4) (j : Fin 100) : colG gb k (ix2 j 0) = gb (ix2 j k) := by
  unfold colG
  refine ldv_at _ _ _ _ _ _ fun a => ?_
  fin_cases a
  · show j.val = 0 + j.val; omega
  · rfl

theorem iouV_at (pb : Vec Ideal S4x20480 .f32) (gb : Vec Ideal S100x4 .f32) (j : Fin 100) (y : Fin 20480) :
    (iouV pb gb (ix2 j y) : EReal) = ratio (fun k => pb (ix2 k y)) (fun k => gb (ix2 j k)) := by
  have hy := y.isLt
  have hq : y.val / 1024 < 20 := by omega
  have e := pay42_at (colG gb 0) (colG gb 1) (colG gb 2) (colG gb 3) (rowP pb 0 ⟨_, hq⟩) (rowP pb 1 ⟨_, hq⟩) (rowP pb 2 ⟨_, hq⟩)
    (rowP pb 3 ⟨_, hq⟩) j ⟨y.val % 1024, by omega⟩
  have r := fun k => rowP_at pb k ⟨_, hq⟩ ⟨y.val % 1024, by omega⟩ y (by show y.val = 1024 * (y.val / 1024) + y.val % 1024; omega)
  rw [r, r, r, r, colG_at, colG_at, colG_at, colG_at] at e
  exact e

end Cert.KernelIdeal.Hand

end
-- ==== Proof.RefEntry.lean ====
/-
  What the reference's loop starts from: the overlaps, the visiting order, the scores, and the empty matches.
-/
module

public import proofs.«01_k».proof.Proof.RefTrip
public import proofs.«01_k».proof.Proof.RefSort
public import proofs.«01_k».proof.Proof.Overlap
public import Idealize.ShloMosaic.Lib.StableHlo.RunRead

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Greedy
open Cert.KernelIdeal.Hand (ratio side area inter)

/-! ## The overlaps the reference computes -/

/-- Column `k` of the predictions. -/
def colP (bx : FVec Ideal S20000x4 .f32) (o : Fin 2 → ℕ) (h : S20000x4.Slices o S20000x1) : FVec Ideal S20000 .f32 :=
  shapeCast S20000 (extractStridedSlice S20000x1 o bx h) shapeCasts_S20000x1_S20000
/-- Column `k` of the targets. -/
def colT (gt : FVec Ideal S100x4 .f32) (o : Fin 2 → ℕ) (h : S100x4.Slices o S100x1) : FVec Ideal S100 .f32 :=
  shapeCast S100 (extractStridedSlice S100x1 o gt h) shapeCasts_S100x1_S100
/-- A pair of corners of every prediction, against every target. -/
def prP (bx : FVec Ideal S20000x4 .f32) (o : Fin 2 → ℕ) (h : S20000x4.Slices o S20000x2) : FVec Ideal S20000x100x2 .f32 :=
  broadcastInDim S20000x100x2 ![0, 1, 2] bcast_S20000x1x2_S20000x100x2_0_1_2
    (broadcastInDim S20000x1x2 ![0, 2] bcast_S20000x2_S20000x1x2_0_2 (extractStridedSlice S20000x2 o bx h))
/-- A pair of corners of every target, against every prediction. -/
def prT (gt : FVec Ideal S100x4 .f32) (o : Fin 2 → ℕ) (h : S100x4.Slices o S100x2) : FVec Ideal S20000x100x2 .f32 :=
  broadcastInDim S20000x100x2 ![0, 1, 2] bcast_S1x100x2_S20000x100x2_0_1_2
    (broadcastInDim S1x100x2 ![1, 2] bcast_S100x2_S1x100x2_1_2 (extractStridedSlice S100x2 o gt h))
/-- The areas of the predictions. -/
def areaP (bx : FVec Ideal S20000x4 .f32) : FVec Ideal S20000 .f32 :=
  mulf (subf (colP bx ![0, 2] slices_S20000x4_S20000x1_0_2) (colP bx ![0, 0] slices_S20000x4_S20000x1_0_0))
    (subf (colP bx ![0, 3] slices_S20000x4_S20000x1_0_3) (colP bx ![0, 1] slices_S20000x4_S20000x1_0_1))
/-- The areas of the targets. -/
def areaT (gt : FVec Ideal S100x4 .f32) : FVec Ideal S100 .f32 :=
  mulf (subf (colT gt ![0, 2] slices_S100x4_S100x1_0_2) (colT gt ![0, 0] slices_S100x4_S100x1_0_0))
    (subf (colT gt ![0, 3] slices_S100x4_S100x1_0_3) (colT gt ![0, 1] slices_S100x4_S100x1_0_1))
/-- The shared sides. -/
def sides (bx : FVec Ideal S20000x4 .f32) (gt : FVec Ideal S100x4 .f32) : FVec Ideal S20000x100x2 .f32 :=
  maximumf (broadcastInDim S20000x100x2 ![] bcast_S_S20000x100x2 (constant S_ .f32 0x00000000#32))
    (subf (minimumf (prP bx ![0, 2] slices_S20000x4_S20000x2_0_2) (prT gt ![0, 2] slices_S100x4_S100x2_0_2))
      (maximumf (prP bx ![0, 0] slices_S20000x4_S20000x2_0_0) (prT gt ![0, 0] slices_S100x4_S100x2_0_0)))
/-- The shared areas. -/
def inters (bx : FVec Ideal S20000x4 .f32) (gt : FVec Ideal S100x4 .f32) : FVec Ideal S20000x100 .f32 :=
  mulf (shapeCast S20000x100 (extractStridedSlice S20000x100x1 ![0, 0, 0] (sides bx gt) slices_S20000x100x2_S20000x100x1_0_0_0) shapeCasts_S20000x100x1_S20000x100)
    (shapeCast S20000x100 (extractStridedSlice S20000x100x1 ![0, 0, 1] (sides bx gt) slices_S20000x100x2_S20000x100x1_0_0_1) shapeCasts_S20000x100x1_S20000x100)
/-- The overlaps. -/
def overs (bx : FVec Ideal S20000x4 .f32) (gt : FVec Ideal S100x4 .f32) : FVec Ideal S20000x100 .f32 :=
  Host.divf (inters bx gt)
    (maximumf (broadcastInDim S20000x100 ![] bcast_S_S20000x100 (constant S_ .f32 0x358637BD#32))
      (subf (addf (broadcastInDim S20000x100 ![0, 1] bcast_S20000x1_S20000x100_0_1 (broadcastInDim S20000x1 ![0] bcast_S20000_S20000x1_0 (areaP bx)))
        (broadcastInDim S20000x100 ![0, 1] bcast_S1x100_S20000x100_0_1 (broadcastInDim S1x100 ![1] bcast_S100_S1x100_1 (areaT gt))))
        (inters bx gt)))

theorem colP_at (bx : FVec Ideal S20000x4 .f32) (k : Fin 4) (h : S20000x4.Slices ![0, k.val] S20000x1) (y : Fin 20000) :
    colP bx ![0, k.val] h (ix1 y) = bx (ix2 y k) := by
  refine (shapeCast_apply _ _ (ix1 y) (ix2 y 0) (by
    rw [Shape.rowMajor_val_one, Shape.rowMajor_val_two]; show y.val * 1 + 0 = y.val; omega)).trans ?_
  refine extractStridedSlice_apply _ _ _ _ _ fun a => ?_
  fin_cases a
  · show y.val = 0 + y.val; omega
  · show k.val = k.val + 0; rfl

theorem colT_at (gt : FVec Ideal S100x4 .f32) (k : Fin 4) (h : S100x4.Slices ![0, k.val] S100x1) (j : Fin 100) :
    colT gt ![0, k.val] h (ix1 j) = gt (ix2 j k) := by
  refine (shapeCast_apply _ _ (ix1 j) (ix2 j 0) (by
    rw [Shape.rowMajor_val_one, Shape.rowMajor_val_two]; show j.val * 1 + 0 = j.val; omega)).trans ?_
  refine extractStridedSlice_apply _ _ _ _ _ fun a => ?_
  fin_cases a
  · show j.val = 0 + j.val; omega
  · show k.val = k.val + 0; rfl

theorem prP_at (bx : FVec Ideal S20000x4 .f32) (o : ℕ) (h : S20000x4.Slices ![0, o] S20000x2) (y : Fin 20000) (j : Fin 100) (q : Fin 2)
    (k : Fin 4) (hk : k.val = o + q.val) : prP bx ![0, o] h (ix3 y j q) = bx (ix2 y k) := by
  refine (broadcastInDim_apply _ _ _ (ix3 y j q) (ix3 y (0 : Fin 1) q) fun a => by fin_cases a <;> rfl).trans ?_
  refine (broadcastInDim_apply _ _ _ (ix3 y (0 : Fin 1) q) (ix2 y q) fun a => by fin_cases a <;> rfl).trans ?_
  refine extractStridedSlice_apply _ _ _ _ _ fun a => ?_
  fin_cases a
  · show y.val = 0 + y.val; omega
  · exact hk

theorem prT_at (gt : FVec Ideal S100x4 .f32) (o : ℕ) (h : S100x4.Slices ![0, o] S100x2) (y : Fin 20000) (j : Fin 100) (q : Fin 2)
    (k : Fin 4) (hk : k.val = o + q.val) : prT gt ![0, o] h (ix3 y j q) = gt (ix2 j k) := by
  refine (broadcastInDim_apply _ _ _ (ix3 y j q) (ix3 (0 : Fin 1) j q) fun a => by fin_cases a <;> rfl).trans ?_
  refine (broadcastInDim_apply _ _ _ (ix3 (0 : Fin 1) j q) (ix2 j q) fun a => by fin_cases a <;> rfl).trans ?_
  refine extractStridedSlice_apply _ _ _ _ _ fun a => ?_
  fin_cases a
  · show j.val = 0 + j.val; omega
  · exact hk

theorem areaP_at (bx : FVec Ideal S20000x4 .f32) (y : Fin 20000) : (areaP bx (ix1 y) : EReal) = area (fun k => bx (ix2 y k)) := by
  have e := fun (k : Fin 4) h => colP_at bx k h y
  show (colP bx ![0, 2] _ (ix1 y) - colP bx ![0, 0] _ (ix1 y) : EReal) * (colP bx ![0, 3] _ (ix1 y) - colP bx ![0, 1] _ (ix1 y)) = _
  exact congrArg₂ (fun a b : EReal => a * b) (congrArg₂ (fun a b : EReal => a - b) (e 2 _) (e 0 _)) (congrArg₂ (fun a b : EReal => a - b) (e 3 _) (e 1 _))

theorem areaT_at (gt : FVec Ideal S100x4 .f32) (j : Fin 100) : (areaT gt (ix1 j) : EReal) = area (fun k => gt (ix2 j k)) := by
  have e := fun (k : Fin 4) h => colT_at gt k h j
  show (colT gt ![0, 2] _ (ix1 j) - colT gt ![0, 0] _ (ix1 j) : EReal) * (colT gt ![0, 3] _ (ix1 j) - colT gt ![0, 1] _ (ix1 j)) = _
  exact congrArg₂ (fun a b : EReal => a * b) (congrArg₂ (fun a b : EReal => a - b) (e 2 _) (e 0 _)) (congrArg₂ (fun a b : EReal => a - b) (e 3 _) (e 1 _))

theorem sides_at (bx : FVec Ideal S20000x4 .f32) (gt : FVec Ideal S100x4 .f32) (y : Fin 20000) (j : Fin 100) (q : Fin 2) (k l : Fin 4)
    (hk : k.val = q.val) (hl : l.val = 2 + q.val) :
    (sides bx gt (ix3 y j q) : EReal) = side (bx (ix2 y k)) (bx (ix2 y l)) (gt (ix2 j k)) (gt (ix2 j l)) := by
  have e0 : Ideal.ofBits .f32 0x00000000#32 = 0 := Ideal.ofBits_zero_f32
  show max (Ideal.ofBits .f32 0x00000000#32) (min (prP bx ![0, 2] _ (ix3 y j q)) (prT gt ![0, 2] _ (ix3 y j q))
    - max (prP bx ![0, 0] _ (ix3 y j q)) (prT gt ![0, 0] _ (ix3 y j q)) : EReal) = _
  rw [prP_at bx 2 _ y j q l hl, prT_at gt 2 _ y j q l hl, prP_at bx 0 _ y j q k (by omega), prT_at gt 0 _ y j q k (by omega), e0, max_comm]
  rfl

theorem plane_at (x : FVec Ideal S20000x100x2 .f32) (q : Fin 2) (h : S20000x100x2.Slices ![0, 0, q.val] S20000x100x1) (y : Fin 20000) (j : Fin 100) :
    shapeCast S20000x100 (extractStridedSlice S20000x100x1 ![0, 0, q.val] x h) shapeCasts_S20000x100x1_S20000x100 (ix2 y j) = x (ix3 y j q) := by
  refine (shapeCast_apply _ _ (ix2 y j) (ix3 y j 0) (by
    rw [Shape.rowMajor_val_three, Shape.rowMajor_val_two]; show (y.val * 100 + j.val) * 1 + 0 = y.val * 100 + j.val; omega)).trans ?_
  refine extractStridedSlice_apply _ _ _ _ _ fun a => ?_
  fin_cases a
  · show y.val = 0 + y.val; omega
  · show j.val = 0 + j.val; omega
  · show q.val = q.val + 0; rfl

theorem inters_at (bx : FVec Ideal S20000x4 .f32) (gt : FVec Ideal S100x4 .f32) (y : Fin 20000) (j : Fin 100) :
    (inters bx gt (ix2 y j) : EReal) = inter (fun k => bx (ix2 y k)) (fun k => gt (ix2 j k)) :=
  congrArg₂ (fun a b : EReal => a * b)
    ((plane_at (sides bx gt) 0 slices_S20000x100x2_S20000x100x1_0_0_0 y j).trans (sides_at bx gt y j 0 0 2 rfl rfl))
    ((plane_at (sides bx gt) 1 slices_S20000x100x2_S20000x100x1_0_0_1 y j).trans (sides_at bx gt y j 1 1 3 rfl rfl))

theorem overs_at (bx : FVec Ideal S20000x4 .f32) (gt : FVec Ideal S100x4 .f32) (y : Fin 20000) (j : Fin 100) :
    (overs bx gt (ix2 y j) : EReal) = ratio (fun k => bx (ix2 y k)) (fun k => gt (ix2 j k)) := by
  have ha : (broadcastInDim S20000x100 ![0, 1] bcast_S20000x1_S20000x100_0_1 (broadcastInDim S20000x1 ![0] bcast_S20000_S20000x1_0 (areaP bx)) (ix2 y j) : EReal)
      = area (fun k => bx (ix2 y k)) := by
    refine (broadcastInDim_apply _ _ _ (ix2 y j) (ix2 y (0 : Fin 1)) fun a => by fin_cases a <;> rfl).trans ?_
    refine (broadcastInDim_apply _ _ _ (ix2 y (0 : Fin 1)) (ix1 y) fun a => by fin_cases a; rfl).trans ?_
    exact areaP_at bx y
  have hb : (broadcastInDim S20000x100 ![0, 1] bcast_S1x100_S20000x100_0_1 (broadcastInDim S1x100 ![1] bcast_S100_S1x100_1 (areaT gt)) (ix2 y j) : EReal)
      = area (fun k => gt (ix2 j k)) := by
    refine (broadcastInDim_apply _ _ _ (ix2 y j) (ix2 (0 : Fin 1) j) fun a => by fin_cases a <;> rfl).trans ?_
    refine (broadcastInDim_apply _ _ _ (ix2 (0 : Fin 1) j) (ix1 j) fun a => by fin_cases a; rfl).trans ?_
    exact areaT_at gt j
  have e : (overs bx gt (ix2 y j) : EReal) = Ideal.div (inters bx gt (ix2 y j)) (max (Ideal.ofBits .f32 0x358637BD#32)
      ((broadcastInDim S20000x100 ![0, 1] bcast_S20000x1_S20000x100_0_1 (broadcastInDim S20000x1 ![0] bcast_S20000_S20000x1_0 (areaP bx)) (ix2 y j)
        + broadcastInDim S20000x100 ![0, 1] bcast_S1x100_S20000x100_0_1 (broadcastInDim S1x100 ![1] bcast_S100_S1x100_1 (areaT gt)) (ix2 y j) : EReal)
        - inters bx gt (ix2 y j))) := rfl
  rw [e, ha, hb, inters_at, max_comm]
  rfl

/-! ## The entry of the loop -/

variable (m : (ℓ : Loc nD τ sig) → Buf (Elt Ideal) ℓ) (c : Dev nD)

/-- What the buffers hold where the loop starts. -/
def EE : Valuation τ sig (Elt Ideal) := entryContents preI m c

theorem entry_iou : iouA (EE m c) = overs (m ((c : Thread nD τ).loc main_arg0)) (m ((c : Thread nD τ).loc main_arg4)) := by
  unfold iouA EE
  simp only [entryContents, afterL_cons, afterL_nil]
  after_reads_simp
  rfl

theorem entry_cnt : cntA (EE m c) ix0 = 0#32 := by
  unfold cntA EE
  simp only [entryContents, afterL_cons, afterL_nil]
  after_reads_simp
  rfl

theorem entry_sco : scoA (EE m c) = m ((c : Thread nD τ).loc main_arg1) := by
  unfold scoA EE
  simp only [entryContents, afterL_cons, afterL_nil]
  after_reads_simp
  rfl

theorem entry_ord : ordA (EE m c) = (Host.sort2 S20000 0 (comparator_f32_i32_d0 (F := Ideal))
    (Host.negf (m ((c : Thread nD τ).loc main_arg1) : FVec Ideal S20000 .f32)) (iotaInDim S20000 32 0)).2 := by
  unfold ordA EE
  simp only [entryContents, afterL_cons, afterL_nil]
  after_reads_simp
  rfl

theorem entry_dt (y : Fin 20000) : dtA (EE m c) (ix1 y) = 0#32 := by
  unfold dtA EE
  simp only [entryContents, afterL_cons, afterL_nil]
  after_reads_simp
  rfl

theorem entry_g (j : Fin 100) : gA (EE m c) (ix1 j) = 4294967295#32 := by
  unfold gA EE
  simp only [entryContents, afterL_cons, afterL_nil]
  after_reads_simp
  rfl

theorem entry_bi (j : Fin 100) : (biA (EE m c) (ix1 j) : EReal) = 0 := by
  have e : (biA (EE m c) (ix1 j) : EReal) = Ideal.ofBits .f32 0x00000000#32 := by
    unfold biA EE
    simp only [entryContents, afterL_cons, afterL_nil]
    after_reads_simp
    rfl
  exact e.trans Ideal.ofBits_zero_f32

end Cert.ReferenceIdeal.Hand

end
-- ==== Proof.Agree.lean ====
/-
  From equal arguments the kernel's selection and the reference's loop end at the same matches.
-/
module

public import proofs.«01_k».proof.Proof.Ends
public import proofs.«01_k».proof.Proof.RefEntry

@[expose] public section

set_option maxRecDepth 8192

noncomputable section

namespace Cert.Meet

open Idealize.ShloMosaic Idealize.ShloMosaic.TcCoe
open Cert.Greedy
open Cert.KernelIdeal.Hand (thr half thr_gt ratio KK KK_W KK_event SC Cm iouOf msOf scores_in scores_out boxes_in iblk_boxes iblk_targets iouV_at)
open Cert.ReferenceIdeal.Hand (EE mt visit visit_inj visit_surj visit_lex order_at loop_trip entry_iou entry_cnt entry_sco entry_ord
  entry_dt entry_g entry_bi overs_at iouA scoA ordA)
open Cert.ReferenceIdeal.Value (STEP)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (t : Fin Cert.KernelIdeal.cfg0.N)

/-- The predictions, the scores, the mask scores, the masks and the targets, as the kernel holds them. -/
def bx : FVec Ideal Cert.ReferenceIdeal.S20000x4 .f32 := m ((c : Thread Cert.KernelIdeal.nD Cert.KernelIdeal.τ).loc Cert.KernelIdeal.main_arg0)
def sc : FVec Ideal Cert.ReferenceIdeal.S20000 .f32 := m ((c : Thread Cert.KernelIdeal.nD Cert.KernelIdeal.τ).loc Cert.KernelIdeal.main_arg1)
def sm : FVec Ideal Cert.ReferenceIdeal.S20000 .f32 := m ((c : Thread Cert.KernelIdeal.nD Cert.KernelIdeal.τ).loc Cert.KernelIdeal.main_arg2)
def mk : FVec Ideal Cert.ReferenceIdeal.S20000x28x28 .f32 := m ((c : Thread Cert.KernelIdeal.nD Cert.KernelIdeal.τ).loc Cert.KernelIdeal.main_arg3)
def gt : FVec Ideal Cert.ReferenceIdeal.S100x4 .f32 := m ((c : Thread Cert.KernelIdeal.nD Cert.KernelIdeal.τ).loc Cert.KernelIdeal.main_arg4)

/-- The reference's arguments are the kernel's. -/
structure Args : Prop where
  a0 : m' ((c : Thread Cert.ReferenceIdeal.nD Cert.ReferenceIdeal.τ).loc Cert.ReferenceIdeal.main_arg0) = bx m c
  a1 : m' ((c : Thread Cert.ReferenceIdeal.nD Cert.ReferenceIdeal.τ).loc Cert.ReferenceIdeal.main_arg1) = sc m c
  a2 : m' ((c : Thread Cert.ReferenceIdeal.nD Cert.ReferenceIdeal.τ).loc Cert.ReferenceIdeal.main_arg2) = sm m c
  a3 : m' ((c : Thread Cert.ReferenceIdeal.nD Cert.ReferenceIdeal.τ).loc Cert.ReferenceIdeal.main_arg3) = mk m c
  a4 : m' ((c : Thread Cert.ReferenceIdeal.nD Cert.ReferenceIdeal.τ).loc Cert.ReferenceIdeal.main_arg4) = gt m c

theorem over_same (h : Args m m' c) (j : Fin 100) (y : Fin 20000) : iouOf (Cm m c t) j (up y) = (iouA (EE m' c) (ix2 y j) : EReal) := by
  rw [entry_iou, h.a0, h.a4, overs_at]
  refine (iouV_at _ _ j (up y)).trans (congrArg₂ ratio (funext fun k => ?_) (funext fun k => ?_))
  · exact (congrFun (iblk_boxes m c t) (ix2 k (up y))).trans (boxes_in m c k (up y) y.isLt)
  · exact (congrFun (iblk_targets m c t) (ix2 j k)).trans rfl

/-- After all events and all trips the matches are the same. -/
theorem met (h : Args m m' c) : (KK m c t 101).m = Cert.ReferenceIdeal.Hand.mt (STEP^[20000] (EE m' c)) := by
  have hs : (scoA (EE m' c)) = sc m c := (entry_sco m' c).trans h.a1
  refine same_matches (half := half) (thr := thr) (iou := iouOf (Cm m c t)) (ms := msOf (Cm m c t)) (ord := visit (sc m c))
    (sc := fun i => (sc m c (ix1 i) : EReal)) (K := KK m c t) (R := fun n => Cert.ReferenceIdeal.Hand.mt (STEP^[n] (EE m' c)))
    thr_gt (visit_inj _) (visit_lex _) (KK_event m c t) (fun k => ?_) ?_ (fun i => ?_) (visit_surj _) (fun y hy => ?_)
  · have l := loop_trip (EE m' c) (entry_cnt m' c) (visit (sc m c))
      (fun k => by rw [entry_ord, h.a1]; exact order_at (sc m c) k) (iouOf (Cm m c t)) (over_same m m' c t h) k
    rw [hs] at l
    exact l
  · show (KK m c t 0).m = Cert.ReferenceIdeal.Hand.mt (EE m' c)
    have e : (KK m c t 0).m = ⟨fun _ => 0#32, fun _ => 4294967295#32, fun _ => Ideal.ofBits .f32 0x00000000#32⟩ := rfl
    rw [e]
    unfold Cert.ReferenceIdeal.Hand.mt
    congr 1
    · funext z
      split_ifs with hz
      · exact (entry_dt m' c _).symm
      · rfl
  · rw [KK_W]
    have e : SC m c (up i) = (sc m c (ix1 i) : EReal) := scores_in m c (up i) i.isLt
    rw [e]
  · rw [KK_W] at hy
    by_cases hz : y.val < 20000
    · exact ⟨⟨y.val, hz⟩, rfl⟩
    · have e : SC m c y = -1 := scores_out m c y hz
      rw [e] at hy
      split_ifs at hy with h'
      · exact absurd thr_gt (not_lt.2 h')
      · exact absurd thr_gt (not_lt.2 hy)

end Cert.Meet

end
-- ==== Proof.KerEnd.lean ====
/-
  What the kernel's program leaves in its result arrays, by the state the selection ends with.
-/
module

public import proofs.«01_k».proof.Proof.Ends
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe
open Idealize.ShloMosaic.Pipeline (Dat)
open Cert.Greedy

/-! ## The operations after the kernel -/

section Tail

variable {F : FTy → Type} [FloatOps F] (X : Valuation τ sig (Elt F))

theorem tail_masks : StableHlo.after hostOps1 X (Proc.devRef .tc main_v0_0)
    = shapeCast S100x28x28 (X (Proc.devRef .tc main_call0_v7_0)) shapeCasts_S100x784_S100x28x28 := by
  after_results
  rfl

theorem tail_flags : StableHlo.after hostOps1 X (Proc.devRef .tc main_v0_1)
    = shapeCast S100 (X (Proc.devRef .tc main_call0_v7_1)) shapeCasts_S100x1_S100 := by
  after_results
  rfl

theorem tail_scores : StableHlo.after hostOps1 X (Proc.devRef .tc main_v0_2)
    = shapeCast S100 (X (Proc.devRef .tc main_call0_v7_2)) shapeCasts_S100x1_S100 := by
  after_results
  rfl

theorem tail_dt : StableHlo.after hostOps1 X (Proc.devRef .tc main_v0_3)
    = shapeCast S20000 (extractStridedSlice S1x20000 ![0, 0] (X (Proc.devRef .tc main_call0_v7_3)) slices_S1x20480_S1x20000_0_0) shapeCasts_S1x20000_S20000 := by
  after_results
  rfl

theorem tail_bi : StableHlo.after hostOps1 X (Proc.devRef .tc main_v0_4)
    = shapeCast S100 (X (Proc.devRef .tc main_call0_v7_4)) shapeCasts_S100x1_S100 := by
  after_results
  rfl

end Tail

/-! ## The kernel's arrays when it ends -/

section Arrays

variable {F : FTy → Type} [FloatOps F] (m : (ℓ : Loc nD τ sig) → Buf (Elt F) ℓ) (hR : Runs m) (c : Dev nD)

theorem arr_masks : (dats m hR 0 c).arrAt 4 cfg0.N = gmV (Sk m c t0_0 101).gs (hR.row c t0_0) c (V m c main_call0_v0) := by
  funext i
  refine (Dat.arrAt_emb_eq_after_last (dats m hR 0 c) 4 t0_0 (by decide +kernel) i).trans ?_
  rw [after0_4]
  rfl

theorem arr_flags : (dats m hR 0 c).arrAt 5 cfg0.N = (Sk m c t0_0 101).fl := by
  funext i
  refine (Dat.arrAt_emb_eq_after_last (dats m hR 0 c) 5 t0_0 (by decide +kernel) i).trans ?_
  rw [after0_5]
  rfl

theorem arr_scores : (dats m hR 0 c).arrAt 6 cfg0.N = (Sk m c t0_0 101).os := by
  funext i
  refine (Dat.arrAt_emb_eq_after_last (dats m hR 0 c) 6 t0_0 (by decide +kernel) i).trans ?_
  rw [after0_6]
  rfl

theorem arr_dt : (dats m hR 0 c).arrAt 7 cfg0.N = (Sk m c t0_0 101).dt := by
  funext i
  refine (Dat.arrAt_emb_eq_after_last (dats m hR 0 c) 7 t0_0 (by decide +kernel) i).trans ?_
  rw [after0_7]
  rfl

theorem arr_bi : (dats m hR 0 c).arrAt 8 cfg0.N = (Sk m c t0_0 101).bi := by
  funext i
  refine (Dat.arrAt_emb_eq_after_last (dats m hR 0 c) 8 t0_0 (by decide +kernel) i).trans ?_
  rw [after0_8]
  rfl

/-- What the operations after the kernel start from, at window `w`'s array. -/
theorem after_arr (w : Fin 9) : Pipeline.withArrays spec0 c (V0 m c) (fun w => (dats m hR 0 c).arrAt w cfg0.N) (Proc.devRef .tc (Pipeline.arrRef spec0 w)) = (dats m hR 0 c).arrAt w cfg0.N :=
  Pipeline.withArrays_arr spec0 winFacts0.arr_inj c _ _ w

end Arrays

/-! ## One mask row -/

theorem gsW_at {F : FTy → Type} [FloatOps F] (gs : Vec F S1x100 .i32) (j : Fin 100) : gsW gs j.val = gs (ix2 0 j) := by
  unfold gsW wd
  refine ldv_at _ _ _ _ _ _ fun a => ?_
  have hz : ∀ a : Fin 2, ((Shape.Idx.first (s := S1x1) (numel1_S1x1.symm ▸ Nat.one_pos)) a).val = 0 := by
    intro a; have := ((Shape.Idx.first (s := S1x1) (numel1_S1x1.symm ▸ Nat.one_pos)) a).isLt; fin_cases a <;> simp at this ⊢
  fin_cases a
  · exact (congrArg (0 + ·) (hz 0)).symm
  · have hj := j.isLt
    exact (show j.val = j.val % 100 + 0 by omega).trans (congrArg (j.val % 100 + ·) (hz 1)).symm

/-- The row copied is the one the word names. -/
theorem rowSrc_at {F : FTy → Type} [FloatOps F] (w : BitVec 32) (h : k0_chk3 w) (c : Dev nD) (f4 : Buf (Elt F) (hbM.view.loc (c : Thread nD τ))) (y : Fin 20000)
    (hy : (Scalar.maxsi w 0#32).toNat = y.val) (x : Fin 784) : rowSrc w h c f4 (ix2 0 x) = (f4 : S20000x784.Idx → F .f32) (ix2 y x) := by
  unfold rowSrc
  rw [show ∀ v : Vec F S1x784 .f32, ReadAs.same.apply v = v from fun _ => rfl, View.read_apply]
  refine congrArg f4 (funext fun a => Fin.ext ?_)
  fin_cases a
  · show (Scalar.maxsi w 0#32).toNat + 1 * 0 = y.val; omega
  · show 0 + 1 * x.val = x.val; omega

/-- Whether a box is matched, as a number. -/
theorem pay_none (v : Vec Ideal S1x784 .f32) (x : Fin 784) : (k0_pay241 (F := Ideal) 4294967295#32 v (ix2 0 x) : EReal) = 0 := by
  have e : (Scalar.sitofp .f32 (Scalar.extui (Scalar.cmpi .sgt (4294967295#32) 4294967295#32)) : Ideal .f32) = (0 : EReal) := by
    rw [show Scalar.extui (Scalar.cmpi .sgt (4294967295#32) 4294967295#32) = 0#32 from by decide]
    show (((0#32).toInt : ℝ) : EReal) = 0
    simp
  show (_ : EReal) * (Scalar.sitofp .f32 (Scalar.extui (Scalar.cmpi .sgt (4294967295#32) 4294967295#32)) : Ideal .f32) = 0
  rw [e, mul_zero]

theorem pay_some (y : ℕ) (hy : y < 20000) (v : Vec Ideal S1x784 .f32) (x : Fin 784) :
    (k0_pay241 (F := Ideal) (BitVec.ofNat 32 y) v (ix2 0 x) : EReal) = v (ix2 0 x) := by
  have b : Scalar.cmpi .sgt (BitVec.ofNat 32 y) 4294967295#32 = 1#1 := by
    show BitVec.ofBool (BitVec.slt 4294967295#32 (BitVec.ofNat 32 y)) = 1#1
    rw [BitVec.slt, toInt_small y (by omega), decide_eq_true (by
      have : (4294967295#32 : BitVec 32).toInt = -1 := by decide
      omega)]
    rfl
  have e : (Scalar.sitofp .f32 (Scalar.extui (Scalar.cmpi .sgt (BitVec.ofNat 32 y) 4294967295#32)) : Ideal .f32) = (1 : EReal) := by
    rw [b, show Scalar.extui 1#1 = 1#32 from by decide]
    show (((1#32).toInt : ℝ) : EReal) = 1
    rw [show (1#32).toInt = 1 from by decide]
    simp
  show (shapeCast S1x784 v shapeCasts_S1x784_S1x784 (ix2 0 x) : EReal) * (Scalar.sitofp .f32 (Scalar.extui (Scalar.cmpi .sgt (BitVec.ofNat 32 y) 4294967295#32)) : Ideal .f32) = _
  rw [e, mul_one]
  exact shapeCast_apply _ _ (ix2 0 x) (ix2 0 x) rfl

theorem pay_named {w : BitVec 32} {y : ℕ} (e : w = BitVec.ofNat 32 y) (hy : y < 20000) (v : Vec Ideal S1x784 .f32) (x : Fin 784) :
    (k0_pay241 (F := Ideal) w v (ix2 0 x) : EReal) = v (ix2 0 x) := by
  subst e
  exact pay_some y hy v x

/-! ## The results -/

section Results

variable (m : (ℓ : Loc nD τ sig) → Buf (Elt Ideal) ℓ) (c : Dev nD)

/-- What the program leaves in a buffer. -/
def fin (b : Ref sig .tc) : Buf (Elt Ideal) ((c : Thread nD τ).loc b) := Pipeline.afterTail₀ cfgs (dats m (runs m)) 0 (V0 m) [hostOps1] c b

/-- What the operations after the kernel start from. -/
def X0 : Valuation τ sig (Elt Ideal) := Pipeline.withArrays spec0 c (V0 m c) fun w => (dats m (runs m) 0 c).arrAt w cfg0.N

theorem fin_eq (b : Ref sig .tc) : fin m c b = StableHlo.after hostOps1 (X0 m c) (Proc.devRef .tc b) := by
  unfold fin Pipeline.afterTail₀
  rw [List.flatten_cons, List.flatten_nil, List.append_nil]
  rfl

theorem X0_masks : X0 m c (Proc.devRef .tc main_call0_v7_0) = gmV (Sk m c t0_0 101).gs ((runs m).row c t0_0) c (V m c main_call0_v0) :=
  (after_arr m (runs m) c 4).trans (arr_masks m (runs m) c)
theorem X0_flags : X0 m c (Proc.devRef .tc main_call0_v7_1) = (Sk m c t0_0 101).fl := (after_arr m (runs m) c 5).trans (arr_flags m (runs m) c)
theorem X0_scores : X0 m c (Proc.devRef .tc main_call0_v7_2) = (Sk m c t0_0 101).os := (after_arr m (runs m) c 6).trans (arr_scores m (runs m) c)
theorem X0_dt : X0 m c (Proc.devRef .tc main_call0_v7_3) = (Sk m c t0_0 101).dt := (after_arr m (runs m) c 7).trans (arr_dt m (runs m) c)
theorem X0_bi : X0 m c (Proc.devRef .tc main_call0_v7_4) = (Sk m c t0_0 101).bi := (after_arr m (runs m) c 8).trans (arr_bi m (runs m) c)

/-! The results as arrays. -/

def outM : FVec Ideal S100x28x28 .f32 := fin m c main_v0_0
def outF : FVec Ideal S100 .f32 := fin m c main_v0_1
def outS : FVec Ideal S100 .f32 := fin m c main_v0_2
def outD : IVec S20000 32 := fin m c main_v0_3
def outB : FVec Ideal S100 .f32 := fin m c main_v0_4

theorem outM_eq : outM m c = shapeCast S100x28x28 (gmV (Sk m c t0_0 101).gs ((runs m).row c t0_0) c (V m c main_call0_v0)) shapeCasts_S100x784_S100x28x28 := by
  rw [← X0_masks]
  exact (fin_eq m c main_v0_0).trans (tail_masks (X0 m c))

theorem outF_eq : outF m c = shapeCast S100 (Sk m c t0_0 101).fl shapeCasts_S100x1_S100 := by
  rw [← X0_flags]
  exact (fin_eq m c main_v0_1).trans (tail_flags (X0 m c))

theorem outS_eq : outS m c = shapeCast S100 (Sk m c t0_0 101).os shapeCasts_S100x1_S100 := by
  rw [← X0_scores]
  exact (fin_eq m c main_v0_2).trans (tail_scores (X0 m c))

theorem outD_eq : outD m c = shapeCast S20000 (extractStridedSlice S1x20000 ![0, 0] (Sk m c t0_0 101).dt slices_S1x20480_S1x20000_0_0) shapeCasts_S1x20000_S20000 := by
  rw [← X0_dt]
  exact (fin_eq m c main_v0_3).trans (tail_dt (X0 m c))

theorem outB_eq : outB m c = shapeCast S100 (Sk m c t0_0 101).bi shapeCasts_S100x1_S100 := by
  rw [← X0_bi]
  exact (fin_eq m c main_v0_4).trans (tail_bi (X0 m c))

theorem rd_fl (s : St Ideal) (j : Fin 100) : (rd s).fl j = s.fl (ix2 j 0) := rfl
theorem rd_os (s : St Ideal) (j : Fin 100) : (rd s).os j = s.os (ix2 j 0) := rfl
theorem rd_bi (s : St Ideal) (j : Fin 100) : (rd s).m.bi j = s.bi (ix2 j 0) := rfl
theorem rd_dt (s : St Ideal) (y : Fin 20480) : (rd s).m.dt y = s.dt (ix2 0 y) := rfl

theorem col_entry (v : Vec Ideal S100x1 .f32) (j : Fin 100) : shapeCast S100 v shapeCasts_S100x1_S100 (ix1 j) = v (ix2 j 0) :=
  shapeCast_apply _ _ (ix1 j) (ix2 j 0) (by rw [Shape.rowMajor_val_one, Shape.rowMajor_val_two]; show j.val * 1 + 0 = j.val; omega)

theorem outF_at (j : Fin 100) : (outF m c (ix1 j) : EReal) = (KK m c t0_0 101).fl j := by rw [outF_eq, col_entry]; exact (rd_fl _ j).symm
theorem outS_at (j : Fin 100) : (outS m c (ix1 j) : EReal) = (KK m c t0_0 101).os j := by rw [outS_eq, col_entry]; exact (rd_os _ j).symm
theorem outB_at (j : Fin 100) : (outB m c (ix1 j) : EReal) = (KK m c t0_0 101).m.bi j := by rw [outB_eq, col_entry]; exact (rd_bi _ j).symm

theorem outD_at (y : Fin 20000) : outD m c (ix1 y) = (KK m c t0_0 101).m.dt (up y) := by
  rw [outD_eq]
  refine (shapeCast_apply _ _ (ix1 y) (ix2 0 y) (by rw [Shape.rowMajor_val_one, Shape.rowMajor_val_two]; show 0 * 20000 + y.val = y.val; omega)).trans ?_
  refine (extractStridedSlice_apply _ _ _ (ix2 0 y) (ix2 0 (up y)) fun a => ?_).trans (rd_dt _ (up y)).symm
  fin_cases a
  · rfl
  · show y.val = 0 + y.val; omega

/-- The place of a mask's entry in its row. -/
def flat (p q : Fin 28) : Fin 784 := ⟨28 * p.val + q.val, by omega⟩

theorem outM_at (j : Fin 100) (p q : Fin 28) : outM m c (ix3 j p q)
    = gmV (Sk m c t0_0 101).gs ((runs m).row c t0_0) c (V m c main_call0_v0) (ix2 j (flat p q)) := by
  rw [outM_eq]
  exact shapeCast_apply _ _ (ix3 j p q) (ix2 j (flat p q)) (by
    rw [Shape.rowMajor_val_three, Shape.rowMajor_val_two]
    show j.val * 784 + (28 * p.val + q.val) = (j.val * 28 + p.val) * 28 + q.val; omega)

/-- The word the masks are taken by is the box's match. -/
theorem gs_end (j : Fin 100) : gsW (Sk m c t0_0 101).gs j.val = (KK m c t0_0 101).m.g j :=
  (gsW_at _ j).trans ((Sk_inv m c t0_0 101).same j)

theorem masks_none (j : Fin 100) (p q : Fin 28) (h : (KK m c t0_0 101).m.g j = 4294967295#32) : (outM m c (ix3 j p q) : EReal) = 0 := by
  refine (outM_at m c j p q).trans ?_
  show (k0_pay241 (F := Ideal) (gsW (Sk m c t0_0 101).gs j.val) _ (ix2 0 (flat p q)) : EReal) = 0
  have e := (gs_end m c j).trans h
  generalize rowSrc _ _ c _ = v
  rw [e]
  exact pay_none v _

theorem masks_some (j : Fin 100) (p q : Fin 28) (y : Fin 20000) (h : (KK m c t0_0 101).m.g j = BitVec.ofNat 32 y.val) :
    (outM m c (ix3 j p q) : EReal) = (m ((c : Thread nD τ).loc main_arg3) : S20000x28x28.Idx → EReal) (ix3 y p q) := by
  refine (outM_at m c j p q).trans ?_
  show (k0_pay241 (F := Ideal) (gsW (Sk m c t0_0 101).gs j.val) (rowSrc (gsW (Sk m c t0_0 101).gs j.val) _ c (V m c main_call0_v0)) (ix2 0 (flat p q)) : EReal) = _
  have e := (gs_end m c j).trans h
  have r := rowSrc_at (gsW (Sk m c t0_0 101).gs j.val) (gsW_ok ((runs m).row c t0_0) j.val) c (V m c main_call0_v0) y (by rw [e]; exact maxsi_eq y.isLt) (flat p q)
  refine (pay_named e y.isLt _ _).trans (r.trans ?_)
  · rw [V_masks]
    exact shapeCast_apply _ _ (ix2 y (flat p q)) (ix3 y p q) (by
      rw [Shape.rowMajor_val_three, Shape.rowMajor_val_two]
      show (y.val * 28 + p.val) * 28 + q.val = y.val * 784 + (28 * p.val + q.val); omega)

/-- What the program leaves: the results by the state above. -/
theorem results_end {r : PUnit × MemSt nD τ sig (Elt Ideal)}
    (h : Pipeline.FramePost cfgs (dats m (runs m)) 0 (Pipeline.afterTail₀ cfgs (dats m (runs m)) 0 (V0 m) [hostOps1]) r) (c : Dev nD) :
    r.2.mem ((c : Thread nD τ).loc main_v0_0) = outM m c
      ∧ r.2.mem ((c : Thread nD τ).loc main_v0_1) = outF m c
      ∧ r.2.mem ((c : Thread nD τ).loc main_v0_2) = outS m c
      ∧ r.2.mem ((c : Thread nD τ).loc main_v0_3) = outD m c
      ∧ r.2.mem ((c : Thread nD τ).loc main_v0_4) = outB m c :=
  ⟨(h c).2 main_v0_0 (Pipeline.mem_restRefs_of main_v0_0 (by decide) (by decide)),
    (h c).2 main_v0_1 (Pipeline.mem_restRefs_of main_v0_1 (by decide) (by decide)),
    (h c).2 main_v0_2 (Pipeline.mem_restRefs_of main_v0_2 (by decide) (by decide)),
    (h c).2 main_v0_3 (Pipeline.mem_restRefs_of main_v0_3 (by decide) (by decide)),
    (h c).2 main_v0_4 (Pipeline.mem_restRefs_of main_v0_4 (by decide) (by decide))⟩

end Results

end Cert.KernelIdeal.Hand

end
-- ==== Proof.RefEnd.lean ====
/-
  The reference's results read from the matches its loop ends with: the rows of the matched predictions, zero where a
  target has none.
-/
module

public import proofs.«01_k».proof.Proof.RefEntry
public import proofs.«01_k».proof.Proof.RefFrame
public import Idealize.ShloMosaic.Lib.Routing.OpsSet
public import Idealize.ShloMosaic.Lib.ReduceAll
public import Idealize.ShloMosaic.Lib.StableHlo.RunRead

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Greedy
open Cert.KernelIdeal.Hand (toInt_small)

/-! ## The rows the matches name -/

/-- The match of each target, zero where it has none. -/
def clipW (g : IVec S100 32) : IVec S100 32 := maxsi (broadcastInDim S100 ![] bcast_S_S100 (constantI S_ 32 0#32)) g
/-- The same as a printed index: a negative word would count from the end. -/
def rowW (g : IVec S100 32) : IVec S100x1 32 := broadcastInDim S100x1 ![0] bcast_S100_S100x1_0
  (select (cmpi .slt (clipW g) (broadcastInDim S100 ![] bcast_S_S100 (constantI S_ 32 0#32)))
    (addi (clipW g) (broadcastInDim S100 ![] bcast_S_S100 (constantI S_ 32 20000#32))) (clipW g))
/-- Which indices are inside. -/
def insideW (g : IVec S100 32) : IVec S100x1 1 :=
  andi (cmpi .sge (rowW g) (broadcastInDim S100x1 ![] bcast_S_S100x1 (constantI S_ 32 0#32)))
    (cmpi .sle (rowW g) (broadcastInDim S100x1 ![0, 1] bcast_S1x1_S100x1_0_1 (broadcastInDim S1x1 ![1] bcast_S1_S1x1_1 (constantI S1 32 19999#32))))
/-- Which targets' indices are inside. -/
def okW (g : IVec S100 32) : IVec S100 1 := Host.reduce IntOp.andi (insideW g) (constantI S_ 1 1#1) reducesTo_S100x1_S100_d1 h_S_
/-- Which targets have a match. -/
def hasW (g : IVec S100 32) : IVec S100 1 := cmpi .sgt g (broadcastInDim S100 ![] bcast_S_S100 (constantI S_ 32 4294967295#32))
/-- The matched entries of a vector. -/
def pickV (x : FVec Ideal S20000 .f32) (g : IVec S100 32) : FVec Ideal S100 .f32 :=
  select (hasW g) (select (okW g) (Host.gather gather_S20000_S100x1_S100_n_0_n_n_0_1_1 x (rowW g))
    (broadcastInDim S100 ![] bcast_S_S100 (constant S_ .f32 0x7FC00000#32)))
    (broadcastInDim S100 ![] bcast_S_S100 (constant S_ .f32 0x00000000#32))
/-- The matched masks. -/
def pickM (x : FVec Ideal S20000x28x28 .f32) (g : IVec S100 32) : FVec Ideal S100x28x28 .f32 :=
  select (broadcastInDim S100x28x28 ![0, 1, 2] bcast_S100x1x1_S100x28x28_0_1_2 (broadcastInDim S100x1x1 ![0] bcast_S100_S100x1x1_0 (hasW g)))
    (select (broadcastInDim S100x28x28 ![0] bcast_S100_S100x28x28_0 (okW g))
      (Host.gather gather_S20000x28x28_S100x1_S100x28x28_12_0_n_n_0_1_12828 x (rowW g))
      (broadcastInDim S100x28x28 ![] bcast_S_S100x28x28 (constant S_ .f32 0x7FC00000#32)))
    (broadcastInDim S100x28x28 ![] bcast_S_S100x28x28 (constant S_ .f32 0x00000000#32))

/-- Every target has a prediction's number or minus one. -/
def Named (g : IVec S100 32) : Prop := ∀ j, g (ix1 j) = 4294967295#32 ∨ ∃ y : Fin 20000, g (ix1 j) = BitVec.ofNat 32 y.val

section Rows

variable {g : IVec S100 32}

theorem clip_none (j : Fin 100) (h : g (ix1 j) = 4294967295#32) : clipW g (ix1 j) = 0#32 := by
  show (if (g (ix1 j)).slt 0#32 then 0#32 else g (ix1 j)) = 0#32
  rw [h]
  decide

theorem clip_some (j : Fin 100) (y : Fin 20000) (h : g (ix1 j) = BitVec.ofNat 32 y.val) : clipW g (ix1 j) = BitVec.ofNat 32 y.val := by
  show (if (g (ix1 j)).slt 0#32 then 0#32 else g (ix1 j)) = _
  have hy := y.isLt
  have e : (g (ix1 j)).slt 0#32 = false := by
    rw [h, BitVec.slt, toInt_small _ (by omega)]
    exact decide_eq_false (by rw [BitVec.toInt_zero]; omega)
  rw [e, h]
  rfl

theorem row_of (j : Fin 100) (y : Fin 20000) (h : clipW g (ix1 j) = BitVec.ofNat 32 y.val) : rowW g (ix2 j 0) = BitVec.ofNat 32 y.val := by
  have hy := y.isLt
  refine (broadcastInDim_apply _ _ _ (ix2 j (0 : Fin 1)) (ix1 j) fun a => by fin_cases a; rfl).trans ?_
  exact (select_slt_zero_of_nonneg (clipW g) _ _ (ix1 j) (by rw [h, toInt_small _ (by omega)]; omega)).trans h

theorem row_named (hg : Named g) (j : Fin 100) : ∃ y : Fin 20000, rowW g (ix2 j 0) = BitVec.ofNat 32 y.val := by
  rcases hg j with h | ⟨y, h⟩
  · exact ⟨0, row_of j 0 (clip_none j h)⟩
  · exact ⟨y, row_of j y (clip_some j y h)⟩

theorem inside_one (hg : Named g) (i : S100x1.Idx) : insideW g i = 1#1 := by
  obtain ⟨j, rfl⟩ : ∃ j : Fin 100, i = ix2 j 0 := ⟨i 0, (ValueIdx.eq_ix2 i).trans (congrArg (ix2 (i 0)) (Subsingleton.elim (α := Fin 1) _ _))⟩
  obtain ⟨y, e⟩ := row_named hg j
  have hy := y.isLt
  show IntOp.andi (BitVec.ofBool ((0#32).sle (rowW g (ix2 j 0)))) (BitVec.ofBool ((rowW g (ix2 j 0)).sle 19999#32)) = 1#1
  have t := toInt_small y.val (by omega)
  have e1 : (0#32).sle (BitVec.ofNat 32 y.val) = true := by
    rw [BitVec.sle, t]; exact decide_eq_true (by rw [BitVec.toInt_zero]; omega)
  have e2 : (BitVec.ofNat 32 y.val).sle 19999#32 = true := by
    rw [BitVec.sle, t]; exact decide_eq_true (by rw [show (19999#32).toInt = 19999 from by decide]; omega)
  rw [e, e1, e2]
  rfl

theorem ok_one (hg : Named g) (j : S100.Idx) : okW g j = 1#1 := Host.reduce_andi_one _ _ _ _ j rfl (inside_one hg)

theorem has_none (j : Fin 100) (h : g (ix1 j) = 4294967295#32) : hasW g (ix1 j) = 0#1 := by
  show BitVec.ofBool ((4294967295#32).slt (g (ix1 j))) = 0#1
  rw [h]; decide

theorem has_some (j : Fin 100) (y : Fin 20000) (h : g (ix1 j) = BitVec.ofNat 32 y.val) : hasW g (ix1 j) = 1#1 := by
  show BitVec.ofBool ((4294967295#32).slt (g (ix1 j))) = 1#1
  have hy := y.isLt
  have e : (4294967295#32).slt (BitVec.ofNat 32 y.val) = true := by
    rw [BitVec.slt, toInt_small y.val (by omega)]
    exact decide_eq_true (by rw [show (4294967295#32).toInt = -1 from by decide]; omega)
  rw [h, e]; rfl

theorem pickV_none (x : FVec Ideal S20000 .f32) (j : Fin 100) (h : g (ix1 j) = 4294967295#32) : (pickV x g (ix1 j) : EReal) = 0 := by
  show (if hasW g (ix1 j) = 1 then _ else (Ideal.ofBits .f32 0x00000000#32 : EReal)) = 0
  rw [has_none j h, if_neg (by decide)]
  exact Ideal.ofBits_zero_f32

theorem pickV_some (hg : Named g) (x : FVec Ideal S20000 .f32) (j : Fin 100) (y : Fin 20000) (h : g (ix1 j) = BitVec.ofNat 32 y.val) :
    pickV x g (ix1 j) = x (ix1 y) := by
  show (if hasW g (ix1 j) = 1 then (if okW g (ix1 j) = 1 then Host.gather _ x (rowW g) (ix1 j) else _) else _) = _
  refine (if_pos (has_some j y h)).trans ((if_pos (ok_one hg _)).trans ?_)
  exact Routing.gather_take1 _ rfl rfl rfl rfl x (rowW g) j y (row_of j y (clip_some j y h)) (by decide)

/-- A gather of whole masks reads the mask the index names. -/
theorem gather_mask (x : S20000x28x28.Idx → EReal) (idx : IVec S100x1 32) (j : Fin 100) (p q : Fin 28) (y : Fin 20000)
    (h : idx (ix2 j 0) = BitVec.ofNat 32 y.val) :
    Host.gather gather_S20000x28x28_S100x1_S100x28x28_12_0_n_n_0_1_12828 x idx (ix3 j p q) = x (ix3 y p q) := by
  have hy := y.isLt
  refine congrArg x (funext fun a => Fin.ext ?_)
  show GatherDims.start gather_S20000x28x28_S100x1_S100x28x28_12_0_n_n_0_1_12828 (ix3 j p q) idx a
    + GatherDims.batchCoord gather_S20000x28x28_S100x1_S100x28x28_12_0_n_n_0_1_12828 (ix3 j p q) a
    + GatherDims.offCoord gather_S20000x28x28_S100x1_S100x28x28_12_0_n_n_0_1_12828 (ix3 j p q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ gather_S20000x28x28_S100x1_S100x28x28_12_0_n_n_0_1_12828.startIndexMap from List.mem_singleton.mpr rfl)]
    have hsi : GatherDims.siIdx gather_S20000x28x28_S100x1_S100x28x28_12_0_n_n_0_1_12828 (ix3 j p q)
        ⟨List.idxOf (⟨0, by decide⟩ : Fin 3) gather_S20000x28x28_S100x1_S100x28x28_12_0_n_n_0_1_12828.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi, h, toInt_small _ (by omega)]
    show min ((y.val : Int).toNat) (20000 - 1) + 0 + 0 = y.val
    omega
  | ⟨1, _⟩ => show 0 + 0 + p.val = p.val; omega
  | ⟨2, _⟩ => show 0 + 0 + q.val = q.val; omega

theorem pickM_none (x : FVec Ideal S20000x28x28 .f32) (j : Fin 100) (p q : Fin 28) (h : g (ix1 j) = 4294967295#32) :
    (pickM x g (ix3 j p q) : EReal) = 0 := by
  have e : broadcastInDim S100x28x28 ![0, 1, 2] bcast_S100x1x1_S100x28x28_0_1_2 (broadcastInDim S100x1x1 ![0] bcast_S100_S100x1x1_0 (hasW g)) (ix3 j p q) = 0#1 := by
    refine (broadcastInDim_apply _ _ _ (ix3 j p q) (ix3 j (0 : Fin 1) (0 : Fin 1)) fun a => by fin_cases a <;> rfl).trans ?_
    exact (broadcastInDim_apply _ _ _ (ix3 j (0 : Fin 1) (0 : Fin 1)) (ix1 j) fun a => by fin_cases a; rfl).trans (has_none j h)
  show (if broadcastInDim S100x28x28 ![0, 1, 2] bcast_S100x1x1_S100x28x28_0_1_2 (broadcastInDim S100x1x1 ![0] bcast_S100_S100x1x1_0 (hasW g)) (ix3 j p q) = 1
    then _ else (Ideal.ofBits .f32 0x00000000#32 : EReal)) = 0
  rw [e, if_neg (by decide)]
  exact Ideal.ofBits_zero_f32

theorem pickM_some (hg : Named g) (x : FVec Ideal S20000x28x28 .f32) (j : Fin 100) (p q : Fin 28) (y : Fin 20000) (h : g (ix1 j) = BitVec.ofNat 32 y.val) :
    pickM x g (ix3 j p q) = x (ix3 y p q) := by
  have e : broadcastInDim S100x28x28 ![0, 1, 2] bcast_S100x1x1_S100x28x28_0_1_2 (broadcastInDim S100x1x1 ![0] bcast_S100_S100x1x1_0 (hasW g)) (ix3 j p q) = 1#1 := by
    refine (broadcastInDim_apply _ _ _ (ix3 j p q) (ix3 j (0 : Fin 1) (0 : Fin 1)) fun a => by fin_cases a <;> rfl).trans ?_
    exact (broadcastInDim_apply _ _ _ (ix3 j (0 : Fin 1) (0 : Fin 1)) (ix1 j) fun a => by fin_cases a; rfl).trans (has_some j y h)
  have e' : broadcastInDim S100x28x28 ![0] bcast_S100_S100x28x28_0 (okW g) (ix3 j p q) = 1#1 :=
    (broadcastInDim_apply _ _ _ (ix3 j p q) (ix1 j) fun a => by fin_cases a; rfl).trans (ok_one hg _)
  show (if broadcastInDim S100x28x28 ![0, 1, 2] bcast_S100x1x1_S100x28x28_0_1_2 (broadcastInDim S100x1x1 ![0] bcast_S100_S100x1x1_0 (hasW g)) (ix3 j p q) = 1
    then (if broadcastInDim S100x28x28 ![0] bcast_S100_S100x28x28_0 (okW g) (ix3 j p q) = 1 then Host.gather _ x (rowW g) (ix3 j p q) else _) else _) = _
  refine (if_pos e).trans ((if_pos e').trans ?_)
  exact gather_mask x (rowW g) j p q y (row_of j y (clip_some j y h))

end Rows

/-! ## The results after the loop -/

section Post

variable (X : Valuation τ sig (Elt Ideal))

theorem post_v62 : (afterL postI X (Proc.devRef .tc main_v62) : FVec Ideal S100x28x28 .f32) = pickM (X (Proc.devRef .tc main_arg3)) (gA X) := by
  unfold gA
  simp only [afterL_cons, afterL_nil]
  after_reads_simp
  simp -implicitDefEqProofs only [StableHlo.TRef.toBuf, StableHlo.TRef.ofBuf, cast_cast, cast_eq, id_eq]
  unfold pickM okW insideW rowW hasW clipW
  rfl

theorem post_v64 : (afterL postI X (Proc.devRef .tc main_v64) : FVec Ideal S100 .f32) = pickV (X (Proc.devRef .tc main_arg2)) (gA X) := by
  unfold gA
  simp only [afterL_cons, afterL_nil]
  after_reads_simp
  simp -implicitDefEqProofs only [StableHlo.TRef.toBuf, StableHlo.TRef.ofBuf, cast_cast, cast_eq, id_eq]
  unfold pickV okW insideW rowW hasW clipW
  rfl

theorem post_v66 : (afterL postI X (Proc.devRef .tc main_v66) : FVec Ideal S100 .f32) = pickV (X (Proc.devRef .tc main_arg1)) (gA X) := by
  unfold gA
  simp only [afterL_cons, afterL_nil]
  after_reads_simp
  simp -implicitDefEqProofs only [StableHlo.TRef.toBuf, StableHlo.TRef.ofBuf, cast_cast, cast_eq, id_eq]
  unfold pickV okW insideW rowW hasW clipW
  rfl

theorem post_dt : (afterL postI X (Proc.devRef .tc main_v56_5) : IVec S20000 32) = dtA X := by
  unfold dtA
  simp only [afterL_cons, afterL_nil]
  after_reads_simp

theorem post_bi : (afterL postI X (Proc.devRef .tc main_v56_7) : FVec Ideal S100 .f32) = biA X := by
  unfold biA
  simp only [afterL_cons, afterL_nil]
  after_reads_simp

end Post

/-! ## The run -/

section Run

variable (m : (ℓ : Loc nD τ sig) → Buf (Elt Ideal) ℓ) (c : Dev nD)

/-- What the buffers hold after the loop's last test. -/
def LL : Valuation τ sig (Elt Ideal) := after condOps (atTrip condOps bodyI (entryContents preI m) 20000 c)

theorem last_arg (r : Ref sig .tc) (hr : r ∈ argRefs) : LL m c (Proc.devRef .tc r) = m ((c.tc : Thread nD τ).loc r) :=
  (post_keeps (LL m c) r hr).symm.trans (final_keeps m c r hr)

theorem last_carried (r : Ref sig .tc) (hr : r ∈ carriedRefs) : LL m c (Proc.devRef .tc r) = (STEP^[20000] (EE m c)) (Proc.devRef .tc r) :=
  (cond_keeps _ r hr).trans (atK_agree m c 20000 r hr)

theorem final_v62 : (finalContents condOps preI bodyI postI 20000 m c (Proc.devRef .tc main_v62) : FVec Ideal S100x28x28 .f32)
    = pickM (m ((c.tc : Thread nD τ).loc main_arg3)) (gA (STEP^[20000] (EE m c))) :=
  (post_v62 (LL m c)).trans (congrArg₂ pickM (last_arg m c main_arg3 (by decide)) (last_carried m c main_v56_6 (by decide)))

theorem final_v64 : (finalContents condOps preI bodyI postI 20000 m c (Proc.devRef .tc main_v64) : FVec Ideal S100 .f32)
    = pickV (m ((c.tc : Thread nD τ).loc main_arg2)) (gA (STEP^[20000] (EE m c))) :=
  (post_v64 (LL m c)).trans (congrArg₂ pickV (last_arg m c main_arg2 (by decide)) (last_carried m c main_v56_6 (by decide)))

theorem final_v66 : (finalContents condOps preI bodyI postI 20000 m c (Proc.devRef .tc main_v66) : FVec Ideal S100 .f32)
    = pickV (m ((c.tc : Thread nD τ).loc main_arg1)) (gA (STEP^[20000] (EE m c))) :=
  (post_v66 (LL m c)).trans (congrArg₂ pickV (last_arg m c main_arg1 (by decide)) (last_carried m c main_v56_6 (by decide)))

theorem final_dt : (finalContents condOps preI bodyI postI 20000 m c (Proc.devRef .tc main_v56_5) : IVec S20000 32) = dtA (STEP^[20000] (EE m c)) :=
  (post_dt (LL m c)).trans (last_carried m c main_v56_5 (by decide))

theorem final_bi : (finalContents condOps preI bodyI postI 20000 m c (Proc.devRef .tc main_v56_7) : FVec Ideal S100 .f32) = biA (STEP^[20000] (EE m c)) :=
  (post_bi (LL m c)).trans (last_carried m c main_v56_7 (by decide))

/-- The reference ends with the picks of its last matches, and leaves its arguments. -/
theorem ref_run (ρ : Dev nD → PrngReg) : θ_run (defs (F := Ideal)) (onTc (τ := τ) (main (F := Ideal))) ⟨m, fun _ => 0, ρ⟩ (fun r => ∀ c : Dev nD,
    r.2.mem ((c.tc : Thread nD τ).loc main_v62) = pickM (m ((c.tc : Thread nD τ).loc main_arg3)) (gA (STEP^[20000] (EE m c)))
    ∧ r.2.mem ((c.tc : Thread nD τ).loc main_v64) = pickV (m ((c.tc : Thread nD τ).loc main_arg2)) (gA (STEP^[20000] (EE m c)))
    ∧ r.2.mem ((c.tc : Thread nD τ).loc main_v66) = pickV (m ((c.tc : Thread nD τ).loc main_arg1)) (gA (STEP^[20000] (EE m c)))
    ∧ r.2.mem ((c.tc : Thread nD τ).loc main_v56_5) = dtA (STEP^[20000] (EE m c))
    ∧ r.2.mem ((c.tc : Thread nD τ).loc main_v56_7) = biA (STEP^[20000] (EE m c))
    ∧ ∀ a ∈ argRefs, r.2.mem ((c.tc : Thread nD τ).loc a) = m ((c.tc : Thread nD τ).loc a)) := by
  refine (θ_run (defs (F := Ideal)) _ _).mono (fun r h c => ?_) (run_fold m ρ)
  refine ⟨(h c main_v62 rfl).trans (final_v62 m c), (h c main_v64 rfl).trans (final_v64 m c), (h c main_v66 rfl).trans (final_v66 m c),
    (h c main_v56_5 rfl).trans (final_dt m c), (h c main_v56_7 rfl).trans (final_bi m c), fun a ha => (h c a ?_).trans (final_keeps m c a ha)⟩
  fin_cases ha <;> rfl

end Run

end Cert.ReferenceIdeal.Hand

end
-- ==== Proof.Same.lean ====
/-
  From equal arguments the kernel's five results are the reference's.
-/
module

public import proofs.«01_k».proof.Proof.Agree
public import proofs.«01_k».proof.Proof.KerEnd
public import proofs.«01_k».proof.Proof.RefEnd

@[expose] public section

set_option maxRecDepth 8192

noncomputable section

namespace Cert.Meet

open Idealize.ShloMosaic Idealize.ShloMosaic.TcCoe
open Cert.Greedy
open Cert.KernelIdeal.Gen (t0_0)
open Cert.KernelIdeal.Hand (KK SC Cm msOf KK_chosen mscores_in scores_in iblk_mscores outM outF outS outD outB outF_at outS_at outD_at outB_at masks_none masks_some)
open Cert.ReferenceIdeal.Hand (EE gA dtA biA pickM pickV Named pickM_none pickM_some pickV_none pickV_some)
open Cert.ReferenceIdeal.Value (STEP)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

section Fields

variable {K : Match} {V : Valuation Cert.ReferenceIdeal.τ Cert.ReferenceIdeal.sig (Elt Ideal)} (e : K = Cert.ReferenceIdeal.Hand.mt V)
include e

theorem mt_g (j : Fin 100) : K.g j = gA V (ix1 j) := by subst e; rfl
theorem mt_bi (j : Fin 100) : K.bi j = (biA V (ix1 j) : EReal) := by subst e; rfl
theorem mt_dt (y : Fin 20000) : K.dt (up y) = dtA V (ix1 y) := by subst e; exact dif_pos y.isLt

end Fields

/-- The matches of the targets when both have ended. -/
theorem g_same (h : Args m m' c) (j : Fin 100) : (KK m c t0_0 101).m.g j = gA (STEP^[20000] (EE m' c)) (ix1 j) :=
  mt_g (met m m' c t0_0 h) j

/-- What a target ends with: no match, or a prediction with its mask score and score. -/
theorem box_end (m) (c : Dev Cert.KernelIdeal.nD) (j : Fin 100) :
    ((KK m c t0_0 101).m.g j = 4294967295#32 ∧ (KK m c t0_0 101).fl j = 0 ∧ (KK m c t0_0 101).os j = 0)
      ∨ ∃ y : Fin 20000, (KK m c t0_0 101).m.g j = BitVec.ofNat 32 y.val ∧ (KK m c t0_0 101).fl j = (sm m c (ix1 y) : EReal) ∧ (KK m c t0_0 101).os j = (sc m c (ix1 y) : EReal) := by
  refine ((KK_chosen m c t0_0 101).box j).imp id ?_
  rintro ⟨y, hy, h1, h2, h3⟩
  refine ⟨⟨y.val, hy⟩, h1, h2.trans ?_, h3.trans (scores_in m c y hy)⟩
  exact (congrFun (iblk_mscores m c t0_0) (ix2 0 y)).trans (mscores_in m c y hy)

theorem named (h : Args m m' c) : Named (gA (STEP^[20000] (EE m' c))) := fun j => by
  rw [← g_same h j]
  exact (box_end m c j).imp And.left fun ⟨y, e, _⟩ => ⟨y, e⟩

theorem same_flags (h : Args m m' c) : outF m c = pickV (sm m c) (gA (STEP^[20000] (EE m' c))) := by
  funext i
  obtain ⟨j, rfl⟩ : ∃ j : Fin 100, i = ix1 j := ⟨i 0, ValueIdx.eq_ix1 i⟩
  refine (outF_at m c j).trans ?_
  rcases box_end m c j with ⟨e, f, -⟩ | ⟨y, e, f, -⟩
  · exact f.trans (pickV_none _ j ((g_same h j).symm.trans e)).symm
  · exact f.trans (pickV_some (named h) _ j y ((g_same h j).symm.trans e)).symm

theorem same_scores (h : Args m m' c) : outS m c = pickV (sc m c) (gA (STEP^[20000] (EE m' c))) := by
  funext i
  obtain ⟨j, rfl⟩ : ∃ j : Fin 100, i = ix1 j := ⟨i 0, ValueIdx.eq_ix1 i⟩
  refine (outS_at m c j).trans ?_
  rcases box_end m c j with ⟨e, -, f⟩ | ⟨y, e, -, f⟩
  · exact f.trans (pickV_none _ j ((g_same h j).symm.trans e)).symm
  · exact f.trans (pickV_some (named h) _ j y ((g_same h j).symm.trans e)).symm

theorem same_masks (h : Args m m' c) : outM m c = pickM (mk m c) (gA (STEP^[20000] (EE m' c))) := by
  funext i
  obtain ⟨j, p, q, rfl⟩ : ∃ (j : Fin 100) (p q : Fin 28), i = ix3 j p q := ⟨i 0, i 1, i 2, ValueIdx.eq_ix3 i⟩
  rcases box_end m c j with ⟨e, -⟩ | ⟨y, e, -⟩
  · exact (masks_none m c j p q e).trans (pickM_none _ j p q ((g_same h j).symm.trans e)).symm
  · exact (masks_some m c j p q y e).trans (pickM_some (named h) _ j p q y ((g_same h j).symm.trans e)).symm

theorem same_dt (h : Args m m' c) : outD m c = dtA (STEP^[20000] (EE m' c)) := by
  funext i
  obtain ⟨y, rfl⟩ : ∃ y : Fin 20000, i = ix1 y := ⟨i 0, ValueIdx.eq_ix1 i⟩
  exact (outD_at m c y).trans (mt_dt (met m m' c t0_0 h) y)

theorem same_bi (h : Args m m' c) : outB m c = biA (STEP^[20000] (EE m' c)) := by
  funext i
  obtain ⟨j, rfl⟩ : ∃ j : Fin 100, i = ix1 j := ⟨i 0, ValueIdx.eq_ix1 i⟩
  exact (outB_at m c j).trans (mt_bi (met m m' c t0_0 h) j)

end Cert.Meet

end
-- ==== Proof.lean ====
/-
  The proof of `Cert.Claim`: the idealized kernel and the reference both run to the end, leave their arguments alone and
  end every counter at zero, and from equal arguments their five results are equal.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Same

@[expose] public section

noncomputable section

namespace Cert.Proof

open Idealize.ShloMosaic Idealize.ShloMosaic.TcCoe

/-- The kernel runs, leaves its arguments, and ends every counter at zero. -/
theorem kernel_frame : Cert.quiescent_KernelIdeal (hKernelIdeal := Cert.KernelIdeal.Gen.facts) := fun m g _ =>
  (θ_run _ _ _).mono (fun _ h => ⟨fun c => Cert.KernelIdeal.Hand.args_end m (Cert.KernelIdeal.Hand.runs m) h.1 c, h.2⟩)
    (Cert.KernelIdeal.Hand.run_main m g (Cert.KernelIdeal.Hand.runs m))

/-- From equal arguments the results are equal. -/
theorem same_results : Cert.algebraic_KernelIdeal_ReferenceIdeal (hKernelIdeal := Cert.KernelIdeal.Gen.facts) (hReferenceIdeal := Cert.ReferenceIdeal.Gen.facts) := by
  intro m g m' g' _ ha
  have args : ∀ c, Cert.Meet.Args m m' c := fun c => ⟨(ha c).1, (ha c).2.1, (ha c).2.2.1, (ha c).2.2.2.1, (ha c).2.2.2.2⟩
  refine ⟨fun c => Cert.KernelIdeal.Hand.outM m c, fun c => Cert.KernelIdeal.Hand.outF m c, fun c => Cert.KernelIdeal.Hand.outS m c,
    fun c => Cert.KernelIdeal.Hand.outD m c, fun c => Cert.KernelIdeal.Hand.outB m c, ?_, ?_⟩
  · refine (θ_run _ _ _).mono (fun r h c => ?_) (Cert.KernelIdeal.Hand.run_main m g (Cert.KernelIdeal.Hand.runs m))
    obtain ⟨h0, h1, h2, h3, h4⟩ := Cert.KernelIdeal.Hand.results_end m h.1 c
    exact ⟨h0, h1, h2, h3, h4, Cert.KernelIdeal.Hand.args_end m (Cert.KernelIdeal.Hand.runs m) h.1 c⟩
  · refine (θ_run _ _ _).mono (fun r h c => ?_) (Cert.ReferenceIdeal.Hand.ref_run m' g')
    obtain ⟨h0, h1, h2, h3, h4, h5⟩ := h c
    have a := args c
    rw [a.a3] at h0
    rw [a.a2] at h1
    rw [a.a1] at h2
    exact ⟨h0.trans (Cert.Meet.same_masks a).symm, h1.trans (Cert.Meet.same_flags a).symm, h2.trans (Cert.Meet.same_scores a).symm,
      h3.trans (Cert.Meet.same_dt a).symm, h4.trans (Cert.Meet.same_bi a).symm,
      h5 _ (by simp), h5 _ (by simp), h5 _ (by simp), h5 _ (by simp), h5 _ (by simp)⟩

theorem claim : Cert.Claim :=
  ⟨Cert.KernelIdeal.Gen.facts, Cert.ReferenceIdeal.Gen.facts, kernel_frame, Cert.ReferenceIdeal.Hand.frame, same_results⟩

end Cert.Proof

end
